-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v5_0)) (v1 : (c : Dev Cert.Kernel2Ideal.nD) → Buf (Elt Ideal) ((c.tc : Thread Cert.Kernel2Ideal.nD Cert.Kernel2Ideal.τ).loc Cert.Kernel2Ideal.main_v5_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5_0) = v0 c
          ∧ r.2.mem ((c.tc : Thread Cert.Kernel2Ideal.nD Cert.Kernel2Ideal.τ).loc Cert.Kernel2Ideal.main_v5_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v21) = v0 c
          ∧ r.2.mem ((c.tc : Thread Cert.Reference2Ideal.nD Cert.Reference2Ideal.τ).loc Cert.Reference2Ideal.main_v22) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v45) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v19) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Kernel.lean ====
abbrev S16384x19456 : Shape := ⟨2, ![16384, 19456]⟩
abbrev S4x1024 : Shape := ⟨2, ![4, 1024]⟩
abbrev S1024 : Shape := ⟨1, ![1024]⟩
abbrev S8x128x128 : Shape := ⟨3, ![8, 128, 128]⟩
abbrev S4x2x128x128 : Shape := ⟨4, ![4, 2, 128, 128]⟩
abbrev S2x2 : Shape := ⟨2, ![2, 2]⟩
abbrev S_ : Shape := ⟨0, ![]⟩
abbrev S2x1x2x1 : Shape := ⟨4, ![2, 1, 2, 1]⟩
abbrev S4x2x128x1x128 : Shape := ⟨5, ![4, 2, 128, 1, 128]⟩
abbrev S1x2x1x2x1 : Shape := ⟨5, ![1, 2, 1, 2, 1]⟩
abbrev S4x2x128x2x128 : Shape := ⟨5, ![4, 2, 128, 2, 128]⟩
abbrev S4x256x256 : Shape := ⟨3, ![4, 256, 256]⟩
abbrev S4x256x512 : Shape := ⟨3, ![4, 256, 512]⟩
abbrev S2048 : Shape := ⟨1, ![2048]⟩
abbrev S1x2048 : Shape := ⟨2, ![1, 2048]⟩
abbrev S1x1024 : Shape := ⟨2, ![1, 1024]⟩
abbrev S16384x1024 : Shape := ⟨2, ![16384, 1024]⟩
abbrev S256x1024 : Shape := ⟨2, ![256, 1024]⟩
abbrev S264x1024 : Shape := ⟨2, ![264, 1024]⟩
abbrev S256x2048 : Shape := ⟨2, ![256, 2048]⟩
abbrev S8x1024 : Shape := ⟨2, ![8, 1024]⟩
abbrev S24x1024 : Shape := ⟨2, ![24, 1024]⟩
abbrev S16x1024 : Shape := ⟨2, ![16, 1024]⟩
abbrev S256x256 : Shape := ⟨2, ![256, 256]⟩
abbrev S1x256x512 : Shape := ⟨3, ![1, 256, 512]⟩
abbrev S256x512 : Shape := ⟨2, ![256, 512]⟩
abbrev S1x256 : Shape := ⟨2, ![1, 256]⟩
abbrev S16x2048 : Shape := ⟨2, ![16, 2048]⟩

abbrev nBuf : Space → Nat
  | .hbm => 45
  | .vmem => 15
  | .smem => 0
  | _ => 0

abbrev bufTy : (tb : Table) → Fin (tcTables nBuf tb) → BufTy
  | .hbm, ⟨0, _⟩ => ⟨S16384x19456, .f32⟩
  | .hbm, ⟨1, _⟩ => ⟨S4x1024, .f32⟩
  | .hbm, ⟨2, _⟩ => ⟨S1024, .f32⟩
  | .hbm, ⟨3, _⟩ => ⟨S8x128x128, .f32⟩
  | .hbm, ⟨4, _⟩ => ⟨S1024, .f32⟩
  | .hbm, ⟨5, _⟩ => ⟨S8x128x128, .f32⟩
  | .hbm, ⟨6, _⟩ => ⟨S1024, .f32⟩
  | .hbm, ⟨7, _⟩ => ⟨S1024, .f32⟩
  | .hbm, ⟨8, _⟩ => ⟨S4x2x128x128, .f32⟩
  | .hbm, ⟨9, _⟩ => ⟨S2x2, .i32⟩
  | .hbm, ⟨10, _⟩ => ⟨S2x2, .i32⟩
  | .hbm, ⟨11, _⟩ => ⟨S_, .i32⟩
  | .hbm, ⟨12, _⟩ => ⟨S2x2, .i32⟩
  | .hbm, ⟨13, _⟩ => ⟨S2x2, .i32⟩
  | .hbm, ⟨14, _⟩ => ⟨S2x2, .i1⟩
  | .hbm, ⟨15, _⟩ => ⟨S2x2, .f32⟩
  | .hbm, ⟨16, _⟩ => ⟨S2x1x2x1, .f32⟩
  | .hbm, ⟨17, _⟩ => ⟨S4x2x128x1x128, .f32⟩
  | .hbm, ⟨18, _⟩ => ⟨S1x2x1x2x1, .f32⟩
  | .hbm, ⟨19, _⟩ => ⟨S4x2x128x2x128, .f32⟩
  | .hbm, ⟨20, _⟩ => ⟨S4x2x128x2x128, .f32⟩
  | .hbm, ⟨21, _⟩ => ⟨S4x2x128x2x128, .f32⟩
  | .hbm, ⟨22, _⟩ => ⟨S4x256x256, .f32⟩
  | .hbm, ⟨23, _⟩ => ⟨S4x2x128x128, .f32⟩
  | .hbm, ⟨24, _⟩ => ⟨S2x2, .i32⟩
  | .hbm, ⟨25, _⟩ => ⟨S2x2, .i32⟩
  | .hbm, ⟨26, _⟩ => ⟨S_, .i32⟩
  | .hbm, ⟨27, _⟩ => ⟨S2x2, .i32⟩
  | .hbm, ⟨28, _⟩ => ⟨S2x2, .i32⟩
  | .hbm, ⟨29, _⟩ => ⟨S2x2, .i1⟩
  | .hbm, ⟨30, _⟩ => ⟨S2x2, .f32⟩
  | .hbm, ⟨31, _⟩ => ⟨S2x1x2x1, .f32⟩
  | .hbm, ⟨32, _⟩ => ⟨S4x2x128x1x128, .f32⟩
  | .hbm, ⟨33, _⟩ => ⟨S1x2x1x2x1, .f32⟩
  | .hbm, ⟨34, _⟩ => ⟨S4x2x128x2x128, .f32⟩
  | .hbm, ⟨35, _⟩ => ⟨S4x2x128x2x128, .f32⟩
  | .hbm, ⟨36, _⟩ => ⟨S4x2x128x2x128, .f32⟩
  | .hbm, ⟨37, _⟩ => ⟨S4x256x256, .f32⟩
  | .hbm, ⟨38, _⟩ => ⟨S4x256x512, .f32⟩
  | .hbm, ⟨39, _⟩ => ⟨S4x256x512, .bf16⟩
  | .hbm, ⟨40, _⟩ => ⟨S2048, .f32⟩
  | .hbm, ⟨41, _⟩ => ⟨S1x2048, .f32⟩
  | .hbm, ⟨42, _⟩ => ⟨S1x1024, .f32⟩
  | .hbm, ⟨43, _⟩ => ⟨S1x1024, .f32⟩
  | .hbm, ⟨44, _⟩ => ⟨S16384x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S4x1024, .f32⟩
  | .local _ .vmem, ⟨5, _⟩ => ⟨S1x1024, .f32⟩
  | .local _ .vmem, ⟨6, _⟩ => ⟨S4x256x512, .bf16⟩
  | .local _ .vmem, ⟨7, _⟩ => ⟨S1x2048, .f32⟩
  | .local _ .vmem, ⟨8, _⟩ => ⟨S1x1024, .f32⟩
  | .local _ .vmem, ⟨9, _⟩ => ⟨S256x1024, .bf16⟩
  | .local _ .vmem, ⟨10, _⟩ => ⟨S256x1024, .bf16⟩
  | .local _ .vmem, ⟨11, _⟩ => ⟨S264x1024, .f32⟩
  | .local _ .vmem, ⟨12, _⟩ => ⟨S256x1024, .f32⟩
  | .local _ .vmem, ⟨13, _⟩ => ⟨S256x2048, .f32⟩
  | .local _ .vmem, ⟨14, _⟩ => ⟨S8x1024, .f32⟩
  | _, _ => ⟨S16384x19456, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c_0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨2, ![2, 32], ![false, false]⟩

@[reducible] def k0_t1_loop : Scf.Loop 32 :=
  let c0_i32_11 : BitVec 32 := 0#32
  let c16_i32 : BitVec 32 := 16#32
  let v16 : BitVec 32 := Scalar.addi c0_i32_11 c16_i32
  let c1_i32 : BitVec 32 := 1#32
  ⟨c0_i32_11, v16, c1_i32⟩
def k0_mult1 (k0_t1 : Fin k0_t1_loop.trips) : BitVec 32 :=
  let c0_i32_11 : BitVec 32 := 0#32
  let c1_i32 : BitVec 32 := 1#32
  let arg14 : BitVec 32 := Scf.iv c0_i32_11 c1_i32 k0_t1
  let c16_i32_72 : BitVec 32 := 16#32
  let v124 : BitVec 32 := Scalar.muli arg14 c16_i32_72
  v124
def k0_off1 (k0_t1 : Fin k0_t1_loop.trips) : Fin 2 → Nat :=
  let c0_i32_11 : BitVec 32 := 0#32
  let c1_i32 : BitVec 32 := 1#32
  let arg14 : BitVec 32 := Scf.iv c0_i32_11 c1_i32 k0_t1
  let c16_i32_72 : BitVec 32 := 16#32
  let v124 : BitVec 32 := Scalar.muli arg14 c16_i32_72
  let v125 : BitVec 32 := v124
  let v126 : Index := Scalar.indexCast v125
  let c0_73 : Index := 0#32
  ![v126.toNat, 0]
def k0_off2 (k0_t1 : Fin k0_t1_loop.trips) : Fin 2 → Nat :=
  let c0_i32_11 : BitVec 32 := 0#32
  let c1_i32 : BitVec 32 := 1#32
  let arg14 : BitVec 32 := Scf.iv c0_i32_11 c1_i32 k0_t1
  let c16_i32_72 : BitVec 32 := 16#32
  let v124 : BitVec 32 := Scalar.muli arg14 c16_i32_72
  let v125 : BitVec 32 := v124
  let v149 : Index := Scalar.indexCast v125
  let c0_74 : Index := 0#32
  ![v149.toNat, 0]
@[reducible] def k0_t2_loop : Scf.Loop 32 :=
  let c0_i32_66 : BitVec 32 := 0#32
  let c16_i32_67 : BitVec 32 := 16#32
  let v119 : BitVec 32 := Scalar.addi c0_i32_66 c16_i32_67
  let c1_i32_68 : BitVec 32 := 1#32
  ⟨c0_i32_66, v119, c1_i32_68⟩
def k0_mult2 (k0_t2 : Fin k0_t2_loop.trips) : BitVec 32 :=
  let c0_i32_66 : BitVec 32 := 0#32
  let c1_i32_68 : BitVec 32 := 1#32
  let arg14 : BitVec 32 := Scf.iv c0_i32_66 c1_i32_68 k0_t2
  let c16_i32_72 : BitVec 32 := 16#32
  let v124 : BitVec 32 := Scalar.muli arg14 c16_i32_72
  v124
def k0_off3 (k0_t2 : Fin k0_t2_loop.trips) : Fin 2 → Nat :=
  let c0_i32_66 : BitVec 32 := 0#32
  let c1_i32_68 : BitVec 32 := 1#32
  let arg14 : BitVec 32 := Scf.iv c0_i32_66 c1_i32_68 k0_t2
  let c16_i32_72 : BitVec 32 := 16#32
  let v124 : BitVec 32 := Scalar.muli arg14 c16_i32_72
  let v125 : BitVec 32 := v124
  let v126 : Index := Scalar.indexCast v125
  let c0_73 : Index := 0#32
  ![v126.toNat, 0]
def k0_off4 (k0_t2 : Fin k0_t2_loop.trips) : Fin 2 → Nat :=
  let c0_i32_66 : BitVec 32 := 0#32
  let c1_i32_68 : BitVec 32 := 1#32
  let arg14 : BitVec 32 := Scf.iv c0_i32_66 c1_i32_68 k0_t2
  let c16_i32_72 : BitVec 32 := 16#32
  let v124 : BitVec 32 := Scalar.muli arg14 c16_i32_72
  let v125 : BitVec 32 := v124
  let v128 : Index := Scalar.indexCast v125
  let c0_74 : Index := 0#32
  ![v128.toNat, 0]
def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c1_i32 : BitVec 32 := 1#32
  let c0_i32 : BitVec 32 := 0#32
  ![v1.toNat, c1_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4x256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceIdeal.lean ====
abbrev S16384x19456 : Shape := ⟨2, ![16384, 19456]⟩
abbrev S4x1024 : Shape := ⟨2, ![4, 1024]⟩
abbrev S1024 : Shape := ⟨1, ![1024]⟩
abbrev S8x128x128 : Shape := ⟨3, ![8, 128, 128]⟩
abbrev S2x8192x19456 : Shape := ⟨3, ![2, 8192, 19456]⟩
abbrev S2x8192x1024 : Shape := ⟨3, ![2, 8192, 1024]⟩
abbrev S_ : Shape := ⟨0, ![]⟩
abbrev S2x8195x1024 : Shape := ⟨3, ![2, 8195, 1024]⟩
abbrev S1x1024 : Shape := ⟨2, ![1, 1024]⟩
abbrev S1x1x1024 : Shape := ⟨3, ![1, 1, 1024]⟩
abbrev S2x8192x8x128 : Shape := ⟨4, ![2, 8192, 8, 128]⟩
abbrev S8x128x2x8192 : Shape := ⟨4, ![8, 128, 2, 8192]⟩
abbrev S2x1024 : Shape := ⟨2, ![2, 1024]⟩
abbrev S8192x2x1024 : Shape := ⟨3, ![8192, 2, 1024]⟩
abbrev S1x2x1024 : Shape := ⟨3, ![1, 2, 1024]⟩
abbrev S16384x1024 : Shape := ⟨2, ![16384, 1024]⟩

abbrev nBuf : Space → Nat
  | .hbm => 147
  | .vmem => 0
  | .smem => 0
  | _ => 0

abbrev hbmTy0_0 (i : Nat) : BufTy := match i % 128 with
  | 0 => ⟨S16384x19456, .f32⟩
  | 1 => ⟨S4x1024, .f32⟩
  | 2 => ⟨S1024, .f32⟩
  | 3 => ⟨S8x128x128, .f32⟩
  | 4 => ⟨S1024, .f32⟩
  | 5 => ⟨S8x128x128, .f32⟩
  | 6 => ⟨S1024, .f32⟩
  | 7 => ⟨S1024, .f32⟩
  | 8 => ⟨S2x8192x19456, .f32⟩
  | 9 => ⟨S2x8192x1024, .f32⟩
  | 10 => ⟨S_, .i32⟩
  | 11 => ⟨S_, .f32⟩
  | 12 => ⟨S2x8195x1024, .f32⟩
  | 13 => ⟨S1x1024, .f32⟩
  | 14 => ⟨S1024, .f32⟩
  | 15 => ⟨S2x8192x1024, .f32⟩
  | 16 => ⟨S1x1x1024, .f32⟩
  | 17 => ⟨S2x8192x1024, .f32⟩
  | 18 => ⟨S2x8192x1024, .f32⟩
  | 19 => ⟨S1x1024, .f32⟩
  | 20 => ⟨S1024, .f32⟩
  | 21 => ⟨S2x8192x1024, .f32⟩
  | 22 => ⟨S1x1x1024, .f32⟩
  | 23 => ⟨S2x8192x1024, .f32⟩
  | 24 => ⟨S2x8192x1024, .f32⟩
  | 25 => ⟨S2x8192x1024, .f32⟩
  | 26 => ⟨S1x1024, .f32⟩
  | 27 => ⟨S1024, .f32⟩
  | 28 => ⟨S2x8192x1024, .f32⟩
  | 29 => ⟨S1x1x1024, .f32⟩
  | 30 => ⟨S2x8192x1024, .f32⟩
  | 31 => ⟨S2x8192x1024, .f32⟩
  | 32 => ⟨S2x8192x1024, .f32⟩
  | 33 => ⟨S1x1024, .f32⟩
  | 34 => ⟨S1024, .f32⟩
  | 35 => ⟨S2x8192x1024, .f32⟩
  | 36 => ⟨S1x1x1024, .f32⟩
  | 37 => ⟨S2x8192x1024, .f32⟩
  | 38 => ⟨S2x8192x1024, .f32⟩
  | 39 => ⟨S2x8192x1024, .f32⟩
  | 40 => ⟨S1x1x1024, .f32⟩
  | 41 => ⟨S2x8192x1024, .f32⟩
  | 42 => ⟨S2x8192x1024, .f32⟩
  | 43 => ⟨S2x8192x8x128, .f32⟩
  | 44 => ⟨S8x128x2x8192, .f32⟩
  | 45 => ⟨S2x8192x8x128, .f32⟩
  | 46 => ⟨S2x8192x1024, .f32⟩
  | 47 => ⟨S1x1x1024, .f32⟩
  | 48 => ⟨S2x8192x1024, .f32⟩
  | 49 => ⟨S2x8192x1024, .f32⟩
  | 50 => ⟨S2x8192x1024, .f32⟩
  | 51 => ⟨S2x8192x1024, .f32⟩
  | 52 => ⟨S_, .f32⟩
  | 53 => ⟨S2x8192x1024, .f32⟩
  | 54 => ⟨S2x8192x1024, .f32⟩
  | 55 => ⟨S_, .f32⟩
  | 56 => ⟨S2x8192x1024, .f32⟩
  | 57 => ⟨S2x8192x1024, .f32⟩
  | 58 => ⟨S8x128x2x8192, .f32⟩
  | 59 => ⟨S2x8192x8x128, .f32⟩
  | 60 => ⟨S2x8192x1024, .f32⟩
  | 61 => ⟨S1x1x1024, .f32⟩
  | 62 => ⟨S2x8192x1024, .f32⟩
  | 63 => ⟨S2x8192x1024, .f32⟩
  | 64 => ⟨S2x8192x1024, .f32⟩
  | 65 => ⟨S2x8192x1024, .f32⟩
  | 66 => ⟨S_, .f32⟩
  | 67 => ⟨S2x8192x1024, .f32⟩
  | 68 => ⟨S2x8192x1024, .f32⟩
  | 69 => ⟨S_, .f32⟩
  | 70 => ⟨S2x8192x1024, .f32⟩
  | 71 => ⟨S2x8192x1024, .f32⟩
  | 72 => ⟨S_, .f32⟩
  | 73 => ⟨S2x8192x1024, .f32⟩
  | 74 => ⟨S2x8192x1024, .f32⟩
  | 75 => ⟨S1024, .f32⟩
  | 76 => ⟨S_, .f32⟩
  | 77 => ⟨S1024, .f32⟩
  | 78 => ⟨S1024, .f32⟩
  | 79 => ⟨S1024, .f32⟩
  | 80 => ⟨S1024, .f32⟩
  | 81 => ⟨S1024, .i1⟩
  | 82 => ⟨S1024, .f32⟩
  | 83 => ⟨S1024, .f32⟩
  | 84 => ⟨S1024, .f32⟩
  | 85 => ⟨S1024, .f32⟩
  | 86 => ⟨S1024, .f32⟩
  | 87 => ⟨S1024, .f32⟩
  | 88 => ⟨S1024, .f32⟩
  | 89 => ⟨S1024, .f32⟩
  | 90 => ⟨S1x1x1024, .f32⟩
  | 91 => ⟨S2x8192x1024, .f32⟩
  | 92 => ⟨S2x8192x1024, .f32⟩
  | 93 => ⟨S2x8192x1024, .f32⟩
  | 94 => ⟨S_, .f32⟩
  | 95 => ⟨S2x8192x1024, .f32⟩
  | 96 => ⟨S2x8192x1024, .f32⟩
  | 97 => ⟨S2x8192x1024, .f32⟩
  | 98 => ⟨S2x8192x1024, .f32⟩
  | 99 => ⟨S2x8192x1024, .f32⟩
  | 100 => ⟨S2x8192x1024, .f32⟩
  | 101 => ⟨S2x8192x1024, .f32⟩
  | 102 => ⟨S_, .f32⟩
  | 103 => ⟨S2x1024, .f32⟩
  | 104 => ⟨S8192x2x1024, .f32⟩
  | 105 => ⟨S8192x2x1024, .f32⟩
  | 106 => ⟨S_, .f32⟩
  | 107 => ⟨S8192x2x1024, .f32⟩
  | 108 => ⟨S_, .i32⟩
  | 109 => ⟨S8192x2x1024, .f32⟩
  | 110 => ⟨S8192x2x1024, .f32⟩
  | 111 => ⟨S_, .i32⟩
  | 112 => ⟨S2x1024, .f32⟩
  | 113 => ⟨S8192x2x1024, .f32⟩
  | 114 => ⟨S_, .i32⟩
  | 115 => ⟨S_, .i1⟩
  | 116 => ⟨S_, .i32⟩
  | 117 => ⟨S_, .i32⟩
  | 118 => ⟨S1x2x1024, .f32⟩
  | 119 => ⟨S2x1024, .f32⟩
  | 120 => ⟨S_, .i32⟩
  | 121 => ⟨S_, .i32⟩
  | 122 => ⟨S1x2x1024, .f32⟩
  | 123 => ⟨S2x1024, .f32⟩
  | 124 => ⟨S2x1024, .f32⟩
  | 125 => ⟨S2x1024, .f32⟩
  | 126 => ⟨S1x2x1024, .f32⟩
  | 127 => ⟨S_, .i32⟩
  | _ => ⟨S16384x19456, .f32⟩

abbrev hbmTy0_1 (i : Nat) : BufTy := match i % 128 with
  | 0 => ⟨S_, .i32⟩
  | 1 => ⟨S8192x2x1024, .f32⟩
  | 2 => ⟨S_, .i32⟩
  | 3 => ⟨S_, .i32⟩
  | 4 => ⟨S2x8192x1024, .f32⟩
  | 5 => ⟨S2x8192x19456, .f32⟩
  | 6 => ⟨S2x8192x1024, .f32⟩
  | 7 => ⟨S2x8192x1024, .f32⟩
  | 8 => ⟨S2x8192x1024, .f32⟩
  | 9 => ⟨S_, .f32⟩
  | 10 => ⟨S2x8192x1024, .f32⟩
  | 11 => ⟨S2x8192x1024, .f32⟩
  | 12 => ⟨S_, .f32⟩
  | 13 => ⟨S2x8192x1024, .f32⟩
  | 14 => ⟨S2x8192x1024, .f32⟩
  | 15 => ⟨S2x8192x1024, .f32⟩
  | 16 => ⟨S2x8192x1024, .f32⟩
  | 17 => ⟨S16384x1024, .f32⟩
  | 18 => ⟨S16384x1024, .bf16⟩
  | _ => ⟨S16384x19456, .f32⟩

abbrev hbmTy (i : Nat) : BufTy := match i / 128 with
  | 0 => hbmTy0_0 i
  | 1 => hbmTy0_1 i
  | _ => ⟨S16384x19456, .f32⟩

abbrev bufTy : (tb : Table) → Fin (tcTables nBuf tb) → BufTy
  | .hbm, ⟨i, _⟩ => hbmTy i
  | _, _ => ⟨S16384x19456, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_call0_v0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_cst : Ref sig .tc := ⟨.hbm, 52, rfl⟩
abbrev main_v42 : Ref sig .tc := ⟨.hbm, 53, rfl⟩
abbrev main_v43 : Ref sig .tc := ⟨.hbm, 54, rfl⟩
abbrev main_cst_0 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_cst_1 : Ref sig .tc := ⟨.hbm, 66, rfl⟩
abbrev main_v54 : Ref sig .tc := ⟨.hbm, 67, rfl⟩
abbrev main_v55 : Ref sig .tc := ⟨.hbm, 68, rfl⟩
abbrev main_cst_2 : Ref sig .tc := ⟨.hbm, 69, rfl⟩
abbrev main_v56 : Ref sig .tc := ⟨.hbm, 70, rfl⟩
abbrev main_v57 : Ref sig .tc := ⟨.hbm, 71, rfl⟩
abbrev main_cst_3 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_call1_cst : Ref sig .tc := ⟨.hbm, 76, rfl⟩
abbrev main_call1_v0 : Ref sig .tc := ⟨.hbm, 77, rfl⟩
abbrev main_call1_v1 : Ref sig .tc := ⟨.hbm, 78, rfl⟩
abbrev main_call1_v2 : Ref sig .tc := ⟨.hbm, 79, rfl⟩
abbrev main_call1_v3 : Ref sig .tc := ⟨.hbm, 80, rfl⟩
abbrev main_call1_v4 : Ref sig .tc := ⟨.hbm, 81, rfl⟩
abbrev main_call1_v5 : Ref sig .tc := ⟨.hbm, 82, rfl⟩
abbrev main_call1_v6 : Ref sig .tc := ⟨.hbm, 83, rfl⟩
abbrev main_call1_v7 : Ref sig .tc := ⟨.hbm, 84, rfl⟩
abbrev main_call1_v8 : Ref sig .tc := ⟨.hbm, 85, rfl⟩
abbrev main_call1_v9 : Ref sig .tc := ⟨.hbm, 86, rfl⟩
abbrev main_call1_v10 : Ref sig .tc := ⟨.hbm, 87, rfl⟩
abbrev main_call1_v11 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_cst_4 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_cst_5 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_cst_6 : Ref sig .tc := ⟨.hbm, 106, rfl⟩
abbrev main_v76 : Ref sig .tc := ⟨.hbm, 107, rfl⟩
abbrev main_c_7 : Ref sig .tc := ⟨.hbm, 108, rfl⟩
abbrev main_v77_0 : Ref sig .tc := ⟨.hbm, 109, rfl⟩
abbrev main_v77_1 : Ref sig .tc := ⟨.hbm, 110, rfl⟩
abbrev main_v77_2 : Ref sig .tc := ⟨.hbm, 111, rfl⟩
abbrev main_v77_3 : Ref sig .tc := ⟨.hbm, 112, rfl⟩
abbrev main_v77_4 : Ref sig .tc := ⟨.hbm, 113, rfl⟩
abbrev main_while0c_c_12 : Ref sig .tc := ⟨.hbm, 114, rfl⟩
abbrev main_while0c_v85 : Ref sig .tc := ⟨.hbm, 115, rfl⟩
abbrev main_while0b_call2_c : Ref sig .tc := ⟨.hbm, 116, rfl⟩
abbrev main_while0b_call2_c_0 : Ref sig .tc := ⟨.hbm, 117, rfl⟩
abbrev main_while0b_call2_v0 : Ref sig .tc := ⟨.hbm, 118, rfl⟩
abbrev main_while0b_v85 : Ref sig .tc := ⟨.hbm, 119, rfl⟩
abbrev main_while0b_call3_c : Ref sig .tc := ⟨.hbm, 120, rfl⟩
abbrev main_while0b_call3_c_0 : Ref sig .tc := ⟨.hbm, 121, rfl⟩
abbrev main_while0b_call3_v0 : Ref sig .tc := ⟨.hbm, 122, rfl⟩
abbrev main_while0b_v86 : Ref sig .tc := ⟨.hbm, 123, rfl⟩
abbrev main_while0b_v87 : Ref sig .tc := ⟨.hbm, 124, rfl⟩
abbrev main_while0b_v88 : Ref sig .tc := ⟨.hbm, 125, rfl⟩
abbrev main_while0b_call4_v0 : Ref sig .tc := ⟨.hbm, 126, rfl⟩
abbrev main_while0b_call4_c : Ref sig .tc := ⟨.hbm, 127, rfl⟩
abbrev main_while0b_call4_c_0 : Ref sig .tc := ⟨.hbm, 128, rfl⟩
abbrev main_while0b_v89 : Ref sig .tc := ⟨.hbm, 129, rfl⟩
abbrev main_while0b_c_12 : Ref sig .tc := ⟨.hbm, 130, rfl⟩
abbrev main_while0b_v90 : Ref sig .tc := ⟨.hbm, 131, rfl⟩
abbrev main_v78 : Ref sig .tc := ⟨.hbm, 132, rfl⟩
abbrev main_v79 : Ref sig .tc := ⟨.hbm, 133, rfl⟩
abbrev main_v80 : Ref sig .tc := ⟨.hbm, 134, rfl⟩
abbrev main_call5_v0 : Ref sig .tc := ⟨.hbm, 135, rfl⟩
abbrev main_call5_v1 : Ref sig .tc := ⟨.hbm, 136, rfl⟩
abbrev main_call5_cst : Ref sig .tc := ⟨.hbm, 137, rfl⟩
abbrev main_call5_v2 : Ref sig .tc := ⟨.hbm, 138, rfl⟩
abbrev main_call5_v3 : Ref sig .tc := ⟨.hbm, 139, rfl⟩
abbrev main_call5_cst_0 : Ref sig .tc := ⟨.hbm, 140, rfl⟩
abbrev main_call5_v4 : Ref sig .tc := ⟨.hbm, 141, rfl⟩
abbrev main_call5_v5 : Ref sig .tc := ⟨.hbm, 142, rfl⟩
abbrev main_v81 : Ref sig .tc := ⟨.hbm, 143, rfl⟩
abbrev main_v82 : Ref sig .tc := ⟨.hbm, 144, rfl⟩
abbrev main_v83 : Ref sig .tc := ⟨.hbm, 145, rfl⟩
abbrev main_v84 : Ref sig .tc := ⟨.hbm, 146, rfl⟩

abbrev nD : Nat := 1
abbrev τ : Topo := Topo.v7x

variable {F : FTy → Type} [FloatOps F]

abbrev main_while0_count : Scf.Loop 32 := ⟨0#32, 8192#32, 1#32⟩
-- ==== Kernel2.lean ====
abbrev S2x8192x2048 : Shape := ⟨3, ![2, 8192, 2048]⟩
abbrev S2x2048 : Shape := ⟨2, ![2, 2048]⟩
abbrev S2x2048x19584 : Shape := ⟨3, ![2, 2048, 19584]⟩
abbrev S16384x2048 : Shape := ⟨2, ![16384, 2048]⟩
abbrev S1x2048 : Shape := ⟨2, ![1, 2048]⟩
abbrev S2048 : Shape := ⟨1, ![2048]⟩
abbrev S16384x19456 : Shape := ⟨2, ![16384, 19456]⟩
abbrev S16384x128 : Shape := ⟨2, ![16384, 128]⟩
abbrev S1024x2048 : Shape := ⟨2, ![1024, 2048]⟩
abbrev S1x2048x1024 : Shape := ⟨3, ![1, 2048, 1024]⟩
abbrev S1x2048x128 : Shape := ⟨3, ![1, 2048, 128]⟩
abbrev S1024x1024 : Shape := ⟨2, ![1024, 1024]⟩
abbrev S1024x128 : Shape := ⟨2, ![1024, 128]⟩
abbrev S32x2048 : Shape := ⟨2, ![32, 2048]⟩
abbrev S32 : Shape := ⟨1, ![32]⟩
abbrev S32x1 : Shape := ⟨2, ![32, 1]⟩
abbrev S2048x128 : Shape := ⟨2, ![2048, 128]⟩
abbrev S2048x1024 : Shape := ⟨2, ![2048, 1024]⟩

abbrev nBuf : Space → Nat
  | .hbm => 10
  | .vmem => 11
  | .smem => 0
  | _ => 0

abbrev bufTy : (tb : Table) → Fin (tcTables nBuf tb) → BufTy
  | .hbm, ⟨0, _⟩ => ⟨S2x8192x2048, .f32⟩
  | .hbm, ⟨1, _⟩ => ⟨S2x2048, .f32⟩
  | .hbm, ⟨2, _⟩ => ⟨S2x2048x19584, .f32⟩
  | .hbm, ⟨3, _⟩ => ⟨S16384x2048, .f32⟩
  | .hbm, ⟨4, _⟩ => ⟨S2x2048x19584, .bf16⟩
  | .hbm, ⟨5, _⟩ => ⟨S1x2048, .f32⟩
  | .hbm, ⟨6, _⟩ => ⟨S2048, .f32⟩
  | .hbm, ⟨7, _⟩ => ⟨S1x2048, .f32⟩
  | .hbm, ⟨8, _⟩ => ⟨S16384x19456, .f32⟩
  | .hbm, ⟨9, _⟩ => ⟨S16384x128, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x1024, .bf16⟩
  | .local _ .vmem, ⟨4, _⟩ => ⟨S1x2048x1024, .bf16⟩
  | .local _ .vmem, ⟨5, _⟩ => ⟨S1x2048x128, .bf16⟩
  | .local _ .vmem, ⟨6, _⟩ => ⟨S1024x1024, .f32⟩
  | .local _ .vmem, ⟨7, _⟩ => ⟨S1024x1024, .f32⟩
  | .local _ .vmem, ⟨8, _⟩ => ⟨S1024x128, .f32⟩
  | .local _ .vmem, ⟨9, _⟩ => ⟨S1024x128, .f32⟩
  | .local _ .vmem, ⟨10, _⟩ => ⟨S1024x2048, .bf16⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 19], ![false, false]⟩

def k0_mult1 (i : grid0.Coords) : BitVec 32 :=
  let arg1 : BitVec 32 := BitVec.ofNat 32 (i 1).val
  let c1024_i32 : BitVec 32 := 1024#32
  let v0 : BitVec 32 := Scalar.muli arg1 c1024_i32
  let c11_i32 : BitVec 32 := 11#32
  let v1 : BitVec 1 := Scalar.cmpi .sge arg1 c11_i32
  let c128_i32 : BitVec 32 := 128#32
  let c0_i32 : BitVec 32 := 0#32
  let v2 : BitVec 32 := Scalar.select v1 c128_i32 c0_i32
  let v3 : BitVec 32 := Scalar.addi v0 v2
  v3
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_9 : BitVec 32 := 0#32
  let c32_i32 : BitVec 32 := 32#32
  let v10 : BitVec 32 := Scalar.addi c0_i32_9 c32_i32
  let c1_i32 : BitVec 32 := 1#32
  ⟨c0_i32_9, v10, c1_i32⟩
def k0_mult2 (k0_t1 : Fin k0_t1_loop.trips) : BitVec 32 :=
  let c0_i32_9 : BitVec 32 := 0#32
  let c1_i32 : BitVec 32 := 1#32
  let arg9 : BitVec 32 := Scf.iv c0_i32_9 c1_i32 k0_t1
  let c32_i32_19 : BitVec 32 := 32#32
  let v16 : BitVec 32 := Scalar.muli arg9 c32_i32_19
  v16
def k0_off1 (k0_t1 : Fin k0_t1_loop.trips) : Fin 2 → Nat :=
  let c0_i32_9 : BitVec 32 := 0#32
  let c1_i32 : BitVec 32 := 1#32
  let arg9 : BitVec 32 := Scf.iv c0_i32_9 c1_i32 k0_t1
  let c32_i32_19 : BitVec 32 := 32#32
  let v16 : BitVec 32 := Scalar.muli arg9 c32_i32_19
  let v17 : BitVec 32 := v16
  let v18 : Index := Scalar.indexCast v17
  let c0_20 : Index := 0#32
  ![v18.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg1 c1024_i32
  let c11_i32 : BitVec 32 := 11#32
  let v1 : BitVec 1 := Scalar.cmpi .sge arg1 c11_i32
  let c128_i32 : BitVec 32 := 128#32
  let c0_i32 : BitVec 32 := 0#32
  let v2 : BitVec 32 := Scalar.select v1 c128_i32 c0_i32
  let v3 : BitVec 32 := Scalar.addi v0 v2
  let v4 : BitVec 32 := v3
  let c0_i32_0 : BitVec 32 := 0#32
  let c0_i32_1 : BitVec 32 := 0#32
  let c0_i32_2 : BitVec 32 := 0#32
  ![c0_i32_0.toNat, c0_i32_1.toNat, v4.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c11264_i32 : BitVec 32 := 11264#32
  let c0_i32_1 : BitVec 32 := 0#32
  ![c0_i32.toNat, c0_i32_0.toNat, c11264_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x2048x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference2Ideal.lean ====
abbrev S2x8192x2048 : Shape := ⟨3, ![2, 8192, 2048]⟩
abbrev S2x2048 : Shape := ⟨2, ![2, 2048]⟩
abbrev S2x2048x19584 : Shape := ⟨3, ![2, 2048, 19584]⟩
abbrev S_ : Shape := ⟨0, ![]⟩
abbrev S2x8192 : Shape := ⟨2, ![2, 8192]⟩
abbrev S2x8192x1 : Shape := ⟨3, ![2, 8192, 1]⟩
abbrev S1x2048 : Shape := ⟨2, ![1, 2048]⟩
abbrev S2048 : Shape := ⟨1, ![2048]⟩
abbrev S1x1x2048 : Shape := ⟨3, ![1, 1, 2048]⟩
abbrev S1x2048x19584 : Shape := ⟨3, ![1, 2048, 19584]⟩
abbrev S2048x19584 : Shape := ⟨2, ![2048, 19584]⟩
abbrev S2x8192x19584 : Shape := ⟨3, ![2, 8192, 19584]⟩
abbrev S16384x19584 : Shape := ⟨2, ![16384, 19584]⟩
abbrev S16384x11264 : Shape := ⟨2, ![16384, 11264]⟩
abbrev S16384x8192 : Shape := ⟨2, ![16384, 8192]⟩
abbrev S16384x19456 : Shape := ⟨2, ![16384, 19456]⟩
abbrev S16384x128 : Shape := ⟨2, ![16384, 128]⟩

abbrev nBuf : Space → Nat
  | .hbm => 29
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S2x2048, .f32⟩
  | .hbm, ⟨2, _⟩ => ⟨S2x2048x19584, .f32⟩
  | .hbm, ⟨3, _⟩ => ⟨S2x8192x2048, .f32⟩
  | .hbm, ⟨4, _⟩ => ⟨S_, .f32⟩
  | .hbm, ⟨5, _⟩ => ⟨S2x8192, .f32⟩
  | .hbm, ⟨6, _⟩ => ⟨S2x8192x1, .f32⟩
  | .hbm, ⟨7, _⟩ => ⟨S_, .f32⟩
  | .hbm, ⟨8, _⟩ => ⟨S2x8192x1, .f32⟩
  | .hbm, ⟨9, _⟩ => ⟨S2x8192x1, .f32⟩
  | .hbm, ⟨10, _⟩ => ⟨S_, .f32⟩
  | .hbm, ⟨11, _⟩ => ⟨S2x8192x1, .f32⟩
  | .hbm, ⟨12, _⟩ => ⟨S2x8192x1, .f32⟩
  | .hbm, ⟨13, _⟩ => ⟨S2x8192x1, .f32⟩
  | .hbm, ⟨14, _⟩ => ⟨S2x8192x2048, .f32⟩
  | .hbm, ⟨15, _⟩ => ⟨S2x8192x2048, .f32⟩
  | .hbm, ⟨16, _⟩ => ⟨S1x2048, .f32⟩
  | .hbm, ⟨17, _⟩ => ⟨S2048, .f32⟩
  | .hbm, ⟨18, _⟩ => ⟨S1x1x2048, .f32⟩
  | .hbm, ⟨19, _⟩ => ⟨S2x8192x2048, .f32⟩
  | .hbm, ⟨20, _⟩ => ⟨S2x8192x2048, .f32⟩
  | .hbm, ⟨21, _⟩ => ⟨S1x2048x19584, .f32⟩
  | .hbm, ⟨22, _⟩ => ⟨S2048x19584, .f32⟩
  | .hbm, ⟨23, _⟩ => ⟨S2x8192x19584, .f32⟩
  | .hbm, ⟨24, _⟩ => ⟨S16384x19584, .f32⟩
  | .hbm, ⟨25, _⟩ => ⟨S16384x11264, .f32⟩
  | .hbm, ⟨26, _⟩ => ⟨S16384x8192, .f32⟩
  | .hbm, ⟨27, _⟩ => ⟨S16384x19456, .f32⟩
  | .hbm, ⟨28, _⟩ => ⟨S16384x128, .f32⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩

abbrev nD : Nat := 1
abbrev τ : Topo := Topo.v7x

variable {F : FTy → Type} [FloatOps F]
-- ==== Kernel3.lean ====
abbrev S16384x1024 : Shape := ⟨2, ![16384, 1024]⟩
abbrev S16384x19456 : Shape := ⟨2, ![16384, 19456]⟩
abbrev S2x1024x2048 : Shape := ⟨3, ![2, 1024, 2048]⟩
abbrev S16384x2048 : Shape := ⟨2, ![16384, 2048]⟩
abbrev S512x1024 : Shape := ⟨2, ![512, 1024]⟩
abbrev S1x1024x1024 : Shape := ⟨3, ![1, 1024, 1024]⟩
abbrev S1024x1024 : Shape := ⟨2, ![1024, 1024]⟩

abbrev nBuf : Space → Nat
  | .hbm => 14
  | .vmem => 26
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .bf16⟩
  | .hbm, ⟨3, _⟩ => ⟨S16384x1024, .bf16⟩
  | .hbm, ⟨4, _⟩ => ⟨S16384x19456, .f32⟩
  | .hbm, ⟨5, _⟩ => ⟨S2x1024x2048, .f32⟩
  | .hbm, ⟨6, _⟩ => ⟨S2x1024x2048, .f32⟩
  | .hbm, ⟨7, _⟩ => ⟨S2x1024x2048, .f32⟩
  | .hbm, ⟨8, _⟩ => ⟨S2x1024x2048, .f32⟩
  | .hbm, ⟨9, _⟩ => ⟨S2x1024x2048, .bf16⟩
  | .hbm, ⟨10, _⟩ => ⟨S2x1024x2048, .bf16⟩
  | .hbm, ⟨11, _⟩ => ⟨S2x1024x2048, .bf16⟩
  | .hbm, ⟨12, _⟩ => ⟨S2x1024x2048, .bf16⟩
  | .hbm, ⟨13, _⟩ => ⟨S16384x2048, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S1x1024x1024, .bf16⟩
  | .local _ .vmem, ⟨17, _⟩ => ⟨S1x1024x1024, .bf16⟩
  | .local _ .vmem, ⟨18, _⟩ => ⟨S1x1024x1024, .bf16⟩
  | .local _ .vmem, ⟨19, _⟩ => ⟨S1x1024x1024, .bf16⟩
  | .local _ .vmem, ⟨20, _⟩ => ⟨S1x1024x1024, .bf16⟩
  | .local _ .vmem, ⟨21, _⟩ => ⟨S1x1024x1024, .bf16⟩
  | .local _ .vmem, ⟨22, _⟩ => ⟨S1x1024x1024, .bf16⟩
  | .local _ .vmem, ⟨23, _⟩ => ⟨S1x1024x1024, .bf16⟩
  | .local _ .vmem, ⟨24, _⟩ => ⟨S512x1024, .bf16⟩
  | .local _ .vmem, ⟨25, _⟩ => ⟨S512x1024, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg0
  let c0_i32 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c13_i32 : BitVec 32 := 13#32
  let v0 : BitVec 32 := Scalar.addi c13_i32 arg0
  let c0_i32 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.addi c15_i32 arg0
  let c0_i32 : BitVec 32 := 0#32
  ![arg1.toNat, v0.toNat]

def cc0_transform_7 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.addi c17_i32 arg0
  let c0_i32 : BitVec 32 := 0#32
  ![arg1.toNat, v0.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg0.toNat]

def cc0_transform_9 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg0.toNat]

def cc0_transform_10 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg0.toNat]

def cc0_transform_11 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1024x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x1024x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference3Ideal.lean ====
abbrev S16384x1024 : Shape := ⟨2, ![16384, 1024]⟩
abbrev S16384x19456 : Shape := ⟨2, ![16384, 19456]⟩
abbrev S2x1024x2048 : Shape := ⟨3, ![2, 1024, 2048]⟩
abbrev S2x8192x19456 : Shape := ⟨3, ![2, 8192, 19456]⟩
abbrev S2x8192x8192 : Shape := ⟨3, ![2, 8192, 8192]⟩
abbrev S_ : Shape := ⟨0, ![]⟩
abbrev S2x8192x4x2048 : Shape := ⟨4, ![2, 8192, 4, 2048]⟩
abbrev S2x8192x1024 : Shape := ⟨3, ![2, 8192, 1024]⟩
abbrev S2x8192x1x2048 : Shape := ⟨4, ![2, 8192, 1, 2048]⟩
abbrev S2x8192x2048 : Shape := ⟨3, ![2, 8192, 2048]⟩
abbrev S1x1024x2048 : Shape := ⟨3, ![1, 1024, 2048]⟩
abbrev S1024x2048 : Shape := ⟨2, ![1024, 2048]⟩
abbrev S16384x2048 : Shape := ⟨2, ![16384, 2048]⟩

abbrev nBuf : Space → Nat
  | .hbm => 57
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .bf16⟩
  | .hbm, ⟨3, _⟩ => ⟨S16384x1024, .bf16⟩
  | .hbm, ⟨4, _⟩ => ⟨S16384x19456, .f32⟩
  | .hbm, ⟨5, _⟩ => ⟨S2x1024x2048, .f32⟩
  | .hbm, ⟨6, _⟩ => ⟨S2x1024x2048, .f32⟩
  | .hbm, ⟨7, _⟩ => ⟨S2x1024x2048, .f32⟩
  | .hbm, ⟨8, _⟩ => ⟨S2x1024x2048, .f32⟩
  | .hbm, ⟨9, _⟩ => ⟨S2x8192x19456, .f32⟩
  | .hbm, ⟨10, _⟩ => ⟨S2x8192x8192, .f32⟩
  | .hbm, ⟨11, _⟩ => ⟨S2x8192x8192, .f32⟩
  | .hbm, ⟨12, _⟩ => ⟨S2x8192x8192, .f32⟩
  | .hbm, ⟨13, _⟩ => ⟨S_, .f32⟩
  | .hbm, ⟨14, _⟩ => ⟨S2x8192x8192, .f32⟩
  | .hbm, ⟨15, _⟩ => ⟨S2x8192x8192, .f32⟩
  | .hbm, ⟨16, _⟩ => ⟨S_, .f32⟩
  | .hbm, ⟨17, _⟩ => ⟨S2x8192x8192, .f32⟩
  | .hbm, ⟨18, _⟩ => ⟨S2x8192x8192, .f32⟩
  | .hbm, ⟨19, _⟩ => ⟨S2x8192x4x2048, .f32⟩
  | .hbm, ⟨20, _⟩ => ⟨S16384x1024, .f32⟩
  | .hbm, ⟨21, _⟩ => ⟨S2x8192x1024, .f32⟩
  | .hbm, ⟨22, _⟩ => ⟨S16384x1024, .f32⟩
  | .hbm, ⟨23, _⟩ => ⟨S2x8192x1024, .f32⟩
  | .hbm, ⟨24, _⟩ => ⟨S16384x1024, .f32⟩
  | .hbm, ⟨25, _⟩ => ⟨S2x8192x1024, .f32⟩
  | .hbm, ⟨26, _⟩ => ⟨S16384x1024, .f32⟩
  | .hbm, ⟨27, _⟩ => ⟨S2x8192x1024, .f32⟩
  | .hbm, ⟨28, _⟩ => ⟨S2x8192x1x2048, .f32⟩
  | .hbm, ⟨29, _⟩ => ⟨S2x8192x2048, .f32⟩
  | .hbm, ⟨30, _⟩ => ⟨S1x1024x2048, .f32⟩
  | .hbm, ⟨31, _⟩ => ⟨S1024x2048, .f32⟩
  | .hbm, ⟨32, _⟩ => ⟨S2x8192x2048, .f32⟩
  | .hbm, ⟨33, _⟩ => ⟨S2x8192x2048, .f32⟩
  | .hbm, ⟨34, _⟩ => ⟨S2x8192x1x2048, .f32⟩
  | .hbm, ⟨35, _⟩ => ⟨S2x8192x2048, .f32⟩
  | .hbm, ⟨36, _⟩ => ⟨S1x1024x2048, .f32⟩
  | .hbm, ⟨37, _⟩ => ⟨S1024x2048, .f32⟩
  | .hbm, ⟨38, _⟩ => ⟨S2x8192x2048, .f32⟩
  | .hbm, ⟨39, _⟩ => ⟨S2x8192x2048, .f32⟩
  | .hbm, ⟨40, _⟩ => ⟨S2x8192x2048, .f32⟩
  | .hbm, ⟨41, _⟩ => ⟨S2x8192x1x2048, .f32⟩
  | .hbm, ⟨42, _⟩ => ⟨S2x8192x2048, .f32⟩
  | .hbm, ⟨43, _⟩ => ⟨S1x1024x2048, .f32⟩
  | .hbm, ⟨44, _⟩ => ⟨S1024x2048, .f32⟩
  | .hbm, ⟨45, _⟩ => ⟨S2x8192x2048, .f32⟩
  | .hbm, ⟨46, _⟩ => ⟨S2x8192x2048, .f32⟩
  | .hbm, ⟨47, _⟩ => ⟨S2x8192x2048, .f32⟩
  | .hbm, ⟨48, _⟩ => ⟨S2x8192x1x2048, .f32⟩
  | .hbm, ⟨49, _⟩ => ⟨S2x8192x2048, .f32⟩
  | .hbm, ⟨50, _⟩ => ⟨S1x1024x2048, .f32⟩
  | .hbm, ⟨51, _⟩ => ⟨S1024x2048, .f32⟩
  | .hbm, ⟨52, _⟩ => ⟨S2x8192x2048, .f32⟩
  | .hbm, ⟨53, _⟩ => ⟨S2x8192x2048, .f32⟩
  | .hbm, ⟨54, _⟩ => ⟨S2x8192x2048, .f32⟩
  | .hbm, ⟨55, _⟩ => ⟨S16384x2048, .f32⟩
  | .hbm, ⟨56, _⟩ => ⟨S16384x2048, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩

abbrev nD : Nat := 1
abbrev τ : Topo := Topo.v7x

variable {F : FTy → Type} [FloatOps F]
-- ==== Kernel4.lean ====
abbrev S2x8192x2048 : Shape := ⟨3, ![2, 8192, 2048]⟩
abbrev S16384x2048 : Shape := ⟨2, ![16384, 2048]⟩
abbrev S2x2048x2048 : Shape := ⟨3, ![2, 2048, 2048]⟩
abbrev S2048 : Shape := ⟨1, ![2048]⟩
abbrev S1x2048 : Shape := ⟨2, ![1, 2048]⟩
abbrev S512x2048 : Shape := ⟨2, ![512, 2048]⟩
abbrev S1x2048x2048 : Shape := ⟨3, ![1, 2048, 2048]⟩
abbrev S2048x2048 : Shape := ⟨2, ![2048, 2048]⟩
abbrev S32x2048 : Shape := ⟨2, ![32, 2048]⟩
abbrev S32 : Shape := ⟨1, ![32]⟩
abbrev S32x1 : Shape := ⟨2, ![32, 1]⟩

abbrev nBuf : Space → Nat
  | .hbm => 8
  | .vmem => 8
  | .smem => 0
  | _ => 0

abbrev bufTy : (tb : Table) → Fin (tcTables nBuf tb) → BufTy
  | .hbm, ⟨0, _⟩ => ⟨S2x8192x2048, .f32⟩
  | .hbm, ⟨1, _⟩ => ⟨S16384x2048, .bf16⟩
  | .hbm, ⟨2, _⟩ => ⟨S2x2048x2048, .f32⟩
  | .hbm, ⟨3, _⟩ => ⟨S2048, .f32⟩
  | .hbm, ⟨4, _⟩ => ⟨S16384x2048, .f32⟩
  | .hbm, ⟨5, _⟩ => ⟨S2x2048x2048, .bf16⟩
  | .hbm, ⟨6, _⟩ => ⟨S1x2048, .f32⟩
  | .hbm, ⟨7, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S1x2048x2048, .bf16⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c16_i32 : BitVec 32 := 16#32
  let v10 : BitVec 32 := Scalar.addi c0_i32 c16_i32
  let c1_i32 : BitVec 32 := 1#32
  ⟨c0_i32, v10, c1_i32⟩
def k0_mult1 (k0_t1 : Fin k0_t1_loop.trips) : BitVec 32 :=
  let c0_i32 : BitVec 32 := 0#32
  let c1_i32 : BitVec 32 := 1#32
  let arg6 : BitVec 32 := Scf.iv c0_i32 c1_i32 k0_t1
  let c32_i32 : BitVec 32 := 32#32
  let v11 : BitVec 32 := Scalar.muli arg6 c32_i32
  v11
def k0_off1 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v11 : BitVec 32 := Scalar.muli arg6 c32_i32
  let v12 : BitVec 32 := v11
  let v13 : Index := Scalar.indexCast v12
  let c0_11 : Index := 0#32
  ![v13.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference4Ideal.lean ====
abbrev S2x8192x2048 : Shape := ⟨3, ![2, 8192, 2048]⟩
abbrev S16384x2048 : Shape := ⟨2, ![16384, 2048]⟩
abbrev S2x2048x2048 : Shape := ⟨3, ![2, 2048, 2048]⟩
abbrev S2048 : Shape := ⟨1, ![2048]⟩
abbrev S1x2048x2048 : Shape := ⟨3, ![1, 2048, 2048]⟩
abbrev S2048x2048 : Shape := ⟨2, ![2048, 2048]⟩
abbrev S_ : Shape := ⟨0, ![]⟩
abbrev S2x8192 : Shape := ⟨2, ![2, 8192]⟩
abbrev S2x8192x1 : Shape := ⟨3, ![2, 8192, 1]⟩
abbrev S1x1x2048 : Shape := ⟨3, ![1, 1, 2048]⟩

abbrev nBuf : Space → Nat
  | .hbm => 27
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S16384x2048, .bf16⟩
  | .hbm, ⟨2, _⟩ => ⟨S2x2048x2048, .f32⟩
  | .hbm, ⟨3, _⟩ => ⟨S2048, .f32⟩
  | .hbm, ⟨4, _⟩ => ⟨S16384x2048, .f32⟩
  | .hbm, ⟨5, _⟩ => ⟨S2x8192x2048, .f32⟩
  | .hbm, ⟨6, _⟩ => ⟨S1x2048x2048, .f32⟩
  | .hbm, ⟨7, _⟩ => ⟨S2048x2048, .f32⟩
  | .hbm, ⟨8, _⟩ => ⟨S2x8192x2048, .f32⟩
  | .hbm, ⟨9, _⟩ => ⟨S2x8192x2048, .f32⟩
  | .hbm, ⟨10, _⟩ => ⟨S2x8192x2048, .f32⟩
  | .hbm, ⟨11, _⟩ => ⟨S_, .f32⟩
  | .hbm, ⟨12, _⟩ => ⟨S2x8192, .f32⟩
  | .hbm, ⟨13, _⟩ => ⟨S2x8192x1, .f32⟩
  | .hbm, ⟨14, _⟩ => ⟨S_, .f32⟩
  | .hbm, ⟨15, _⟩ => ⟨S2x8192x1, .f32⟩
  | .hbm, ⟨16, _⟩ => ⟨S2x8192x1, .f32⟩
  | .hbm, ⟨17, _⟩ => ⟨S_, .f32⟩
  | .hbm, ⟨18, _⟩ => ⟨S2x8192x1, .f32⟩
  | .hbm, ⟨19, _⟩ => ⟨S2x8192x1, .f32⟩
  | .hbm, ⟨20, _⟩ => ⟨S2x8192x1, .f32⟩
  | .hbm, ⟨21, _⟩ => ⟨S2x8192x2048, .f32⟩
  | .hbm, ⟨22, _⟩ => ⟨S2x8192x2048, .f32⟩
  | .hbm, ⟨23, _⟩ => ⟨S1x1x2048, .f32⟩
  | .hbm, ⟨24, _⟩ => ⟨S2x8192x2048, .f32⟩
  | .hbm, ⟨25, _⟩ => ⟨S2x8192x2048, .f32⟩
  | .hbm, ⟨26, _⟩ => ⟨S16384x2048, .f32⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Kernel5.lean ====
abbrev S2x8192x2048 : Shape := ⟨3, ![2, 8192, 2048]⟩
abbrev S16384x2048 : Shape := ⟨2, ![16384, 2048]⟩
abbrev S2x2048x2048 : Shape := ⟨3, ![2, 2048, 2048]⟩
abbrev S2048 : Shape := ⟨1, ![2048]⟩
abbrev S1x2048 : Shape := ⟨2, ![1, 2048]⟩
abbrev S512x2048 : Shape := ⟨2, ![512, 2048]⟩
abbrev S1x2048x2048 : Shape := ⟨3, ![1, 2048, 2048]⟩
abbrev S2048x2048 : Shape := ⟨2, ![2048, 2048]⟩

abbrev nBuf : Space → Nat
  | .hbm => 8
  | .vmem => 8
  | .smem => 0
  | _ => 0

abbrev bufTy : (tb : Table) → Fin (tcTables nBuf tb) → BufTy
  | .hbm, ⟨0, _⟩ => ⟨S2x8192x2048, .f32⟩
  | .hbm, ⟨1, _⟩ => ⟨S16384x2048, .bf16⟩
  | .hbm, ⟨2, _⟩ => ⟨S2x2048x2048, .f32⟩
  | .hbm, ⟨3, _⟩ => ⟨S2048, .f32⟩
  | .hbm, ⟨4, _⟩ => ⟨S16384x2048, .f32⟩
  | .hbm, ⟨5, _⟩ => ⟨S2x2048x2048, .bf16⟩
  | .hbm, ⟨6, _⟩ => ⟨S1x2048, .f32⟩
  | .hbm, ⟨7, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S1x2048x2048, .bf16⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference5Ideal.lean ====
abbrev S2x8192x2048 : Shape := ⟨3, ![2, 8192, 2048]⟩
abbrev S16384x2048 : Shape := ⟨2, ![16384, 2048]⟩
abbrev S2x2048x2048 : Shape := ⟨3, ![2, 2048, 2048]⟩
abbrev S2048 : Shape := ⟨1, ![2048]⟩
abbrev S1x2048x2048 : Shape := ⟨3, ![1, 2048, 2048]⟩
abbrev S2048x2048 : Shape := ⟨2, ![2048, 2048]⟩

abbrev nBuf : Space → Nat
  | .hbm => 11
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S16384x2048, .bf16⟩
  | .hbm, ⟨2, _⟩ => ⟨S2x2048x2048, .f32⟩
  | .hbm, ⟨3, _⟩ => ⟨S2048, .f32⟩
  | .hbm, ⟨4, _⟩ => ⟨S16384x2048, .f32⟩
  | .hbm, ⟨5, _⟩ => ⟨S2x8192x2048, .f32⟩
  | .hbm, ⟨6, _⟩ => ⟨S1x2048x2048, .f32⟩
  | .hbm, ⟨7, _⟩ => ⟨S2048x2048, .f32⟩
  | .hbm, ⟨8, _⟩ => ⟨S2x8192x2048, .f32⟩
  | .hbm, ⟨9, _⟩ => ⟨S2x8192x2048, .f32⟩
  | .hbm, ⟨10, _⟩ => ⟨S16384x2048, .f32⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Proof.Bits.RunA.lean ====
/- The recurrence over float words: the body at the first point of a sequence. -/
module

public import proofs.«01_k».proof.Proof.Bits.Base

@[expose] public section

set_option maxRecDepth 16384

noncomputable section

namespace Cert.Kernel.Bits

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body at the first point of a sequence: its inputs stay as they are. -/
theorem runA (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S4x1024 .f32) (harg4 : arg4.IsWhole) (arg5 : Memref sig .tc .vmem S1x1024 .f32) (harg5 : arg5.IsWhole) (arg6 : Memref sig .tc .vmem S4x256x512 .bf16) (harg6 : arg6.IsWhole) (arg7 : Memref sig .tc .vmem S1x2048 .f32) (harg7 : arg7.IsWhole) (arg8 : Memref sig .tc .vmem S1x1024 .f32) (harg8 : arg8.IsWhole) (arg9 : Memref sig .tc .vmem S256x1024 .bf16) (harg9 : arg9.IsWhole) (arg10 : Memref sig .tc .vmem S264x1024 .f32) (harg10 : arg10.IsWhole) (arg11 : Memref sig .tc .vmem S256x1024 .f32) (harg11 : arg11.IsWhole) (arg12 : Memref sig .tc .vmem S256x2048 .f32) (harg12 : arg12.IsWhole) (arg13 : Memref sig .tc .vmem S8x1024 .f32) (harg13 : arg13.IsWhole) (hc0 : cond0_0 i) (hc1 : ¬cond0_1 i) (hc2 : cond0_2 i)
    (x0 : Vec F S256x1024 .f32) (x1 : Vec F S256x1024 .f32) (x2 : Vec F S4x1024 .f32) (x3 : Vec F S1x1024 .f32) (x4 : Vec F S4x256x512 .bf16) (x5 : Vec F S1x2048 .f32) (x6 : Vec F S1x1024 .f32) (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
          ⊢ wp frame (wpE (defs₀ (F := F)) Variants.none c none) E (cc0_rglru i arg2 harg2 arg3 harg3 arg4 harg4 arg5 harg5 arg6 harg6 arg7 harg7 arg8 harg8 arg9 harg9 arg10 harg10 arg11 harg11 arg12 harg12 arg13 harg13) K := by
    simp only [cc0_rglru_eq_skeleton]; unfold cc0_rglru_skel
    simp only [k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, ⟨%ds1, %fs1, -, HS1⟩, ⟨%ds2, %fs2, -, HS2⟩, ⟨%ds3, %fs3, -, HS3⟩, Hk⟩
    sl_exec (disch := first | sl_exact hc0 | sl_exact hc1 | sl_exact hc2)
    sl_step
    iapply Hk
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; isplitr; · ipureintro; exact hf5
      iexact H5
    isplitl [H6]
    · iexists _; isplitr; · ipureintro; exact hf6
      iexact H6
    isplitl [H7]
    · iexists _, _; isplitr; swap; · iexact H7
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.Kernel.Bits

end
-- ==== Proof.Bits.RunB.lean ====
/- The recurrence over float words: the body at a later point of a sequence. -/
module

public import proofs.«01_k».proof.Proof.Bits.Base

@[expose] public section

set_option maxRecDepth 16384

noncomputable section

namespace Cert.Kernel.Bits

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body at a later point of a sequence: its inputs stay as they are. -/
theorem runB (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S4x1024 .f32) (harg4 : arg4.IsWhole) (arg5 : Memref sig .tc .vmem S1x1024 .f32) (harg5 : arg5.IsWhole) (arg6 : Memref sig .tc .vmem S4x256x512 .bf16) (harg6 : arg6.IsWhole) (arg7 : Memref sig .tc .vmem S1x2048 .f32) (harg7 : arg7.IsWhole) (arg8 : Memref sig .tc .vmem S1x1024 .f32) (harg8 : arg8.IsWhole) (arg9 : Memref sig .tc .vmem S256x1024 .bf16) (harg9 : arg9.IsWhole) (arg10 : Memref sig .tc .vmem S264x1024 .f32) (harg10 : arg10.IsWhole) (arg11 : Memref sig .tc .vmem S256x1024 .f32) (harg11 : arg11.IsWhole) (arg12 : Memref sig .tc .vmem S256x2048 .f32) (harg12 : arg12.IsWhole) (arg13 : Memref sig .tc .vmem S8x1024 .f32) (harg13 : arg13.IsWhole) (hc0 : ¬cond0_0 i) (hc1 : cond0_1 i) (hc2 : ¬cond0_2 i)
    (x0 : Vec F S256x1024 .f32) (x1 : Vec F S256x1024 .f32) (x2 : Vec F S4x1024 .f32) (x3 : Vec F S1x1024 .f32) (x4 : Vec F S4x256x512 .bf16) (x5 : Vec F S1x2048 .f32) (x6 : Vec F S1x1024 .f32) (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
          ⊢ wp frame (wpE (defs₀ (F := F)) Variants.none c none) E (cc0_rglru i arg2 harg2 arg3 harg3 arg4 harg4 arg5 harg5 arg6 harg6 arg7 harg7 arg8 harg8 arg9 harg9 arg10 harg10 arg11 harg11 arg12 harg12 arg13 harg13) K := by
    simp only [cc0_rglru_eq_skeleton]; unfold cc0_rglru_skel
    simp only [k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, ⟨%ds1, %fs1, -, HS1⟩, ⟨%ds2, %fs2, -, HS2⟩, ⟨%ds3, %fs3, -, HS3⟩, Hk⟩
    sl_exec (disch := first | sl_exact hc0 | sl_exact hc1 | sl_exact hc2)
    sl_step
    iapply Hk
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; isplitr; · ipureintro; exact hf5
      iexact H5
    isplitl [H6]
    · iexists _; isplitr; · ipureintro; exact hf6
      iexact H6
    isplitl [H7]
    · iexists _, _; isplitr; swap; · iexact H7
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.Kernel.Bits

end
-- ==== Proof.Bits.Frame.lean ====
/- The recurrence over float words: it ends without fault, its arguments unchanged and every counter at zero. -/
module

public import proofs.«01_k».proof.Proof.Bits.RunA
public import proofs.«01_k».proof.Proof.Bits.RunB
public import Idealize.ShloMosaic.Lib.Claim

@[expose] public section

set_option maxRecDepth 16384

noncomputable section

namespace Cert.Kernel.Bits

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The result's window, of whose contents nothing is said. -/
def forgets0 : Fin 8 → Bool := fun w => w.val == 7

/-- The launch's proof data: each input's buffer at its block; the scratch buffers at anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem Phi_eq (c : Dev nD) (t : Fin (cfg0.N + 1)) : (dats m 0 c).Φ t = Pipeline.ΦA spec0 c := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare d))

/-- What the body returns at point `t`. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ (∃ d, owns (c : Thread nD τ) (ms0_7 t) fullShare d))

set_option maxHeartbeats 9600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl,
    after0_0, after0_1, after0_2, after0_3, after0_4, after0_5, after0_6, Phi_eq, Phi_eq, PhiA0_eq]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  by_cases h0 : t.val % 32 = 0
  · have h1 : ¬1 ≤ t.val % 32 := by omega
    iapply (runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) ((hcond0_0 t).mpr h0) (fun h => h1 ((hcond0_1 t).mp h)) ((hcond0_2 t).mpr h0) (iblk m c 0 t) (iblk m c 1 t) (iblk m c 2 t) (iblk m c 3 t) (iblk m c 4 t) (iblk m c 5 t) (iblk m c 6 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS0]; · iexact HS0
    isplitl [HS1]; · iexact HS1
    isplitl [HS2]; · iexact HS2
    isplitl [HS3]; · iexact HS3
    iintro ⟨H0, H1, H2, H3, H4, H5, H6, H7, HS0, HS1, HS2, HS3⟩
    isplitl [HS0 HS1 HS2 HS3 Hg]
    · isplitl [HS0 HS1 HS2 HS3]
      · isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · have h1 : 1 ≤ t.val % 32 := by omega
    iapply (runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (fun h => h0 ((hcond0_2 t).mp h)) (iblk m c 0 t) (iblk m c 1 t) (iblk m c 2 t) (iblk m c 3 t) (iblk m c 4 t) (iblk m c 5 t) (iblk m c 6 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS0]; · iexact HS0
    isplitl [HS1]; · iexact HS1
    isplitl [HS2]; · iexact HS2
    isplitl [HS3]; · iexact HS3
    iintro ⟨H0, H1, H2, H3, H4, H5, H6, H7, HS0, HS1, HS2, HS3⟩
    isplitl [HS0 HS1 HS2 HS3 Hg]
    · isplitl [HS0 HS1 HS2 HS3]
      · isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The body that the launch runs. -/
theorem defs₀_row (t : Fin cfg0.N) :
    defs₀ (F := F) .tc cfg0.body (cfg0.bodyArgs t (cfg0.slots t)) = bodyAt0 t := by
  unfold defs₀; rw [Defs.onTc_tc]

/-- The body at every point, as the launch asks for it. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [Phi_eq]

theorem hout (c : Dev nD) : (dats m 0 c).Φ (Fin.last cfg0.N) ⊢ Pipeline.ΦA spec0 c := by
  rw [Phi_eq]

/-- A run that leaves the launch's input arrays as it found them leaves the arguments unchanged. -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(Pipeline.RDat.FramePost.arr_in h c 1 rfl).trans ((hA c 1).trans (V_main_arg0 m c)),
      (Pipeline.RDat.FramePost.arr_in h c 2 rfl).trans ((hA c 2).trans (V_main_arg1 m c)),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c)⟩) h

set_option backward.isDefEq.respectTransparency.types false in
/-- The launch's run: every input array unchanged and every counter at zero at the end. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hin := hin m) (hout := hout m)

/-- The launch's run: every input array unchanged at the end. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (fun c => (dats m 0 c).toRForget forgets0) (A_eq m) (run_main m ρ)

/-- The arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.Kernel.Bits

end
-- ==== Proof.Lru.Spec.lean ====
/- The gated linear recurrence of one time block, as a function of natural-number rows and columns. -/
module

public import Idealize.ShloMosaic.Lib.Pointwise

@[expose] public section

set_option maxRecDepth 16384

noncomputable section

namespace Cert.Rec

open Idealize.ShloMosaic Idealize.ShloMosaic.TcCoe Idealize.SL.Sem

/-- The matrix whose entry at row `r`, column `c` is `f r c`. -/
def vec2 {R C : ℕ} (f : ℕ → ℕ → EReal) : (⟨2, ![R, C]⟩ : Shape).Idx → EReal := fun y => f (y 0).val (y 1).val

/-- The rank-3 array whose entry at `(q, r, c)` is `f q r c`. -/
def vec3 {Q R C : ℕ} (f : ℕ → ℕ → ℕ → EReal) : (⟨3, ![Q, R, C]⟩ : Shape).Idx → EReal :=
  fun y => f (y 0).val (y 1).val (y 2).val

/-- `1 / (1 + exp (-x))`. -/
def sig (x : EReal) : EReal := Ideal.div 1 (1 + Ideal.exp (0 - x))

/-- `log (1 + exp x)`, by the larger of `x` and `0`. -/
def softplus (x : EReal) : EReal := max x 0 + Ideal.log1p (Ideal.exp (0 - max x (-x)))

/-- The rows of the time block with the eight rows before it in front. -/
def ext (hist xa : ℕ → ℕ → EReal) (r c : ℕ) : EReal := if r < 8 then hist r c else xa (r - 8) c

/-- The four-tap convolution at the row eight below the first one read. -/
def conv (cw : ℕ → ℕ → EReal) (cb : ℕ → ℕ → EReal) (w : ℕ → ℕ → EReal) (r c : ℕ) : EReal :=
  cb 0 c + cw 3 c * w (8 + r) c + cw 0 c * w (5 + r) c + cw 1 c * w (6 + r) c + cw 2 c * w (7 + r) c

/-- The two gates' products: column `c` of gate `j` reads the 256 channels of its own group. -/
def gate (xc : ℕ → ℕ → EReal) (wg : ℕ → ℕ → ℕ → EReal) (bg : ℕ → ℕ → EReal) (r c : ℕ) : EReal :=
  (∑ k : Fin 256, xc r (256 * (c % 1024 / 256) + k.val) * wg (c % 1024 / 256) k.val (256 * (c / 1024) + c % 256)) + bg 0 c

/-- The logarithm of the decay. -/
def logA (lam : ℕ → ℕ → EReal) (g : ℕ → ℕ → EReal) (r c : ℕ) : EReal :=
  Ideal.ofBits .f32 0xC1000000#32 * softplus (0 - lam 0 c) * sig (g r c)

/-- The decay. -/
def decay (lam g : ℕ → ℕ → EReal) (r c : ℕ) : EReal := Ideal.exp (logA lam g r c)

/-- What a step adds to the state. -/
def inject (lam xc g : ℕ → ℕ → EReal) (r c : ℕ) : EReal :=
  Ideal.sqrt ((0 - Ideal.tanh (logA lam g r c)) * (1 + decay lam g r c * decay lam g r c)) * (sig (g r (1024 + c)) * xc r c)

/-- The state before step `n`, from `h0`. -/
def state (a u : ℕ → ℕ → EReal) (h0 : ℕ → EReal) : ℕ → ℕ → EReal
  | 0, c => h0 c
  | n + 1, c => a n c * state a u h0 n c + u n c

/-- The result's row `r`. -/
def result (a u az : ℕ → ℕ → EReal) (h0 : ℕ → EReal) (r c : ℕ) : EReal :=
  state a u h0 (r + 1) c * (az r c * sig (az r c))

/-- The decay of a time block's rows, from its rows with the history in front. -/
def blockA (cw cb : ℕ → ℕ → EReal) (wg : ℕ → ℕ → ℕ → EReal) (bg lam xe : ℕ → ℕ → EReal) : ℕ → ℕ → EReal :=
  decay lam (gate (conv cw cb xe) wg bg)

/-- What the steps of a time block add. -/
def blockU (cw cb : ℕ → ℕ → EReal) (wg : ℕ → ℕ → ℕ → EReal) (bg lam xe : ℕ → ℕ → EReal) : ℕ → ℕ → EReal :=
  inject lam (conv cw cb xe) (gate (conv cw cb xe) wg bg)

/-- The state within a time block entered at state `h`. -/
def blockState (cw cb : ℕ → ℕ → EReal) (wg : ℕ → ℕ → ℕ → EReal) (bg lam xe : ℕ → ℕ → EReal) (h : ℕ → EReal) : ℕ → ℕ → EReal :=
  state (blockA cw cb wg bg lam xe) (blockU cw cb wg bg lam xe) h

/-- The result's rows of a time block. -/
def blockOut (cw cb : ℕ → ℕ → EReal) (wg : ℕ → ℕ → ℕ → EReal) (bg lam xe az : ℕ → ℕ → EReal) (h : ℕ → EReal) : ℕ → ℕ → EReal :=
  result (blockA cw cb wg bg lam xe) (blockU cw cb wg bg lam xe) az h

/-! ### The recurrence -/

/-- `n` steps of the recurrence, the last of them step `i`, from `h`. -/
def seg (a u : ℕ → EReal) : ℕ → ℕ → EReal → EReal
  | 0, _, h => h
  | n + 1, i, h => a i * seg a u n (i - 1) h + u i

theorem seg_add (a u : ℕ → EReal) (n s i : ℕ) (h : EReal) :
    seg a u (s + n) i h = seg a u s i (seg a u n (i - s) h) := by
  induction s generalizing i with
  | zero => simp [seg]
  | succ s ih =>
    rw [show s + 1 + n = (s + n) + 1 by omega]
    simp only [seg]
    rw [ih, show i - 1 - s = i - (s + 1) by omega]

theorem state_seg (a u : ℕ → ℕ → EReal) (h0 : ℕ → EReal) (c n i : ℕ) :
    state a u h0 (i + n) c = seg (fun r => a r c) (fun r => u r c) n (i + n - 1) (state a u h0 i c) := by
  induction n with
  | zero => simp [seg]
  | succ n ih => rw [← Nat.add_assoc]; simp only [seg, state, Nat.add_sub_cancel]; rw [ih]

theorem state_add (a u : ℕ → ℕ → EReal) (h0 : ℕ → EReal) (c n m : ℕ) :
    state (fun r => a (n + r)) (fun r => u (n + r)) (fun c => state a u h0 n c) m c = state a u h0 (n + m) c := by
  induction m with
  | zero => rfl
  | succ m ih => rw [← Nat.add_assoc]; simp only [state]; rw [ih]

/-- The state reads the steps before it only. -/
theorem state_congr {a u a' u' : ℕ → ℕ → EReal} {h0 h0' : ℕ → EReal} {c n : ℕ}
    (ha : ∀ r < n, a r c = a' r c) (hu : ∀ r < n, u r c = u' r c) (hh : h0 c = h0' c) :
    state a u h0 n c = state a' u' h0' n c := by
  induction n with
  | zero => exact hh
  | succ n ih =>
    simp only [state]
    rw [ha n (Nat.lt_succ_self n), hu n (Nat.lt_succ_self n),
      ih (fun r hr => ha r (hr.trans (Nat.lt_succ_self n))) fun r hr => hu r (hr.trans (Nat.lt_succ_self n))]

/-! ### The doubling scan of eight rows -/

/-- The row `s` above within the same group of eight rows, `d` where there is none. -/
def sh (s : ℕ) (d : EReal) (x : ℕ → ℕ → EReal) (r c : ℕ) : EReal := if s ≤ r % 8 then x ((r + 16 - s) % 16) c else d

/-- The factors after a doubling step. -/
def stepA (s : ℕ) (A : ℕ → ℕ → EReal) (r c : ℕ) : EReal := A r c * sh s 1 A r c

/-- The summands after a doubling step. -/
def stepU (s : ℕ) (A U : ℕ → ℕ → EReal) (r c : ℕ) : EReal := U r c + A r c * sh s 0 U r c

/-- Row `r` of the pair composes the last `min s (r % 8 + 1)` steps. -/
def Composes (a u : ℕ → ℕ → EReal) (s : ℕ) (A U : ℕ → ℕ → EReal) : Prop :=
  ∀ r < 16, ∀ c, 0 ≤ A r c ∧ A r c ≠ ⊤ ∧
    ∀ h, U r c + A r c * h = seg (fun r => a r c) (fun r => u r c) (min s (r % 8 + 1)) r h

theorem mul_ne_top_of {x y : EReal} (hx : 0 ≤ x) (hx' : x ≠ ⊤) (hy : y ≠ ⊤) : x * y ≠ ⊤ := by
  induction x with
  | bot => exact absurd hx (by simp)
  | top => exact absurd rfl hx'
  | coe x =>
    induction y with
    | bot =>
      rcases (EReal.coe_nonneg.1 hx).eq_or_lt with h | h
      · rw [← h]; simp
      · rw [EReal.coe_mul_bot_of_pos h]; exact bot_ne_top
    | top => exact absurd rfl hy
    | coe y => rw [← EReal.coe_mul]; exact EReal.coe_ne_top _

theorem composes_one {a u : ℕ → ℕ → EReal} (h0 : ∀ r c, 0 ≤ a r c) (h1 : ∀ r c, a r c ≠ ⊤) : Composes a u 1 a u := by
  intro r hr c
  refine ⟨h0 r c, h1 r c, fun h => ?_⟩
  rw [show min 1 (r % 8 + 1) = 1 by omega]
  simp only [seg]
  rw [add_comm]

theorem composes_step {a u A U : ℕ → ℕ → EReal} {s : ℕ} (hs : s ≤ 8) (H : Composes a u s A U) :
    Composes a u (2 * s) (stepA s A) (stepU s A U) := by
  intro r hr c
  obtain ⟨p, q, e⟩ := H r hr c
  unfold stepA stepU sh
  by_cases hk : s ≤ r % 8
  · simp only [if_pos hk]
    have hr' : (r + 16 - s) % 16 = r - s := by omega
    rw [hr']
    obtain ⟨p', q', e'⟩ := H (r - s) (by omega) c
    refine ⟨mul_nonneg p p', mul_ne_top_of p q q', fun h => ?_⟩
    rw [mul_assoc, add_assoc, ← EReal.left_distrib_of_nonneg_of_ne_top p q, e', e,
      show min (2 * s) (r % 8 + 1) = s + min s (r % 8 - s + 1) by omega, seg_add,
      show min s (r % 8 + 1) = s by omega, show (r - s) % 8 = r % 8 - s by omega]
  · simp only [if_neg hk, mul_one, mul_zero, add_zero]
    refine ⟨p, q, fun h => ?_⟩
    rw [e, show min (2 * s) (r % 8 + 1) = r % 8 + 1 by omega, show min s (r % 8 + 1) = r % 8 + 1 by omega]

/-- The factors of the eight-row scan. -/
def scanA (a : ℕ → ℕ → EReal) : ℕ → ℕ → EReal := stepA 4 (stepA 2 (stepA 1 a))

/-- The summands of the eight-row scan. -/
def scanU (a u : ℕ → ℕ → EReal) : ℕ → ℕ → EReal :=
  stepU 4 (stepA 2 (stepA 1 a)) (stepU 2 (stepA 1 a) (stepU 1 a u))

theorem scan_apply {a u : ℕ → ℕ → EReal} (h0 : ∀ r c, 0 ≤ a r c) (h1 : ∀ r c, a r c ≠ ⊤) (h : ℕ → EReal)
    (g r c : ℕ) (hg : g < 2) (hr : r < 8) :
    scanU a u (8 * g + r) c + scanA a (8 * g + r) c * state a u h (8 * g) c = state a u h (8 * g + r + 1) c := by
  have H : Composes a u 8 (scanA a) (scanU a u) :=
    composes_step (s := 4) (by omega) (composes_step (s := 2) (by omega) (composes_step (s := 1) (by omega)
      (composes_one h0 h1)))
  rw [(H (8 * g + r) (by omega) c).2.2, show min 8 ((8 * g + r) % 8 + 1) = r + 1 by omega, Nat.add_assoc,
    state_seg]
  rfl

/-! ### Signs -/

theorem ofBits_neg_eight : Ideal.ofBits .f32 0xC1000000#32 = ((-8 : ℝ) : EReal) := by
  simp [Ideal.ofBits, Ideal.ieee, -EReal.coe_mul, -EReal.coe_neg]; norm_num

theorem exp_nonneg (x : EReal) : 0 ≤ Ideal.exp x := by
  induction x with
  | bot => simp
  | top => simp
  | coe x => rw [Ideal.exp_coe]; exact_mod_cast (Real.exp_pos x).le

theorem one_add_pos {x : ℝ} : (0 : ℝ) < 1 + Real.exp x := by positivity

theorem sig_coe (x : ℝ) : sig x = (((1 + Real.exp (-x))⁻¹ : ℝ) : EReal) := by
  unfold sig
  rw [zero_sub, ← EReal.coe_neg, Ideal.exp_coe, ← EReal.coe_one, ← EReal.coe_add,
    Ideal.div_coe (one_add_pos).ne', ← EReal.coe_mul, one_mul, one_div]

theorem sig_eq (x : EReal) : sig x = Ideal.logistic x := by
  simp only [sig, Ideal.logistic, zero_sub]

theorem sig_nonneg (x : EReal) : 0 ≤ sig x := by
  rw [sig_eq]
  induction x with
  | bot => simp
  | top => simp
  | coe x => rw [Ideal.logistic_coe]; exact_mod_cast (inv_pos.2 one_add_pos).le

theorem log1p_exp_nonneg (x : EReal) : 0 ≤ Ideal.log1p (Ideal.exp x) := by
  unfold Ideal.log1p
  induction x with
  | bot => rw [Ideal.exp_bot, add_zero, ← EReal.coe_one, Ideal.log_coe, if_neg (by norm_num)]; simp
  | top => rw [Ideal.exp_top, ← EReal.coe_one, EReal.coe_add_top]; simp
  | coe x =>
    rw [Ideal.exp_coe, ← EReal.coe_one, ← EReal.coe_add, Ideal.log_coe, if_neg (not_le.2 one_add_pos)]
    have := (Real.exp_pos x).le
    exact_mod_cast Real.log_nonneg (by linarith)

theorem softplus_nonneg (x : EReal) : 0 ≤ softplus x :=
  add_nonneg (le_max_right _ _) (log1p_exp_nonneg _)

theorem logA_nonpos (lam g : ℕ → ℕ → EReal) (r c : ℕ) : logA lam g r c ≤ 0 := by
  unfold logA
  refine EReal.mul_nonpos_iff.2 (.inr ⟨EReal.mul_nonpos_iff.2 (.inr ⟨?_, softplus_nonneg _⟩), sig_nonneg _⟩)
  rw [ofBits_neg_eight]
  exact_mod_cast (by norm_num : (-8 : ℝ) ≤ 0)

theorem decay_nonneg (lam g : ℕ → ℕ → EReal) (r c : ℕ) : 0 ≤ decay lam g r c := exp_nonneg _

theorem decay_ne_top (lam g : ℕ → ℕ → EReal) (r c : ℕ) : decay lam g r c ≠ ⊤ := by
  have h := logA_nonpos lam g r c
  unfold decay
  generalize logA lam g r c = x at h ⊢
  induction x with
  | bot => simp
  | top => exact absurd h (by simp)
  | coe x => rw [Ideal.exp_coe]; exact EReal.coe_ne_top _

end Cert.Rec

end
-- ==== Proof.Lru.Pure.lean ====
/- What each block of vector operations of the kernel computes, entry by entry. -/
module

public import proofs.«01_k».proof.Proof.Lru.Spec
public import proofs.«01_k».proof.Proof.Gen.KernelIdeal.Skeleton

@[expose] public section

set_option maxRecDepth 16384

noncomputable section

namespace Cert.Rec

open Idealize.ShloMosaic Idealize.ShloMosaic.TcCoe Idealize.SL.Sem
open Cert.KernelIdeal Cert.KernelIdeal.Gen

theorem pay1 (x b : ℕ → ℕ → EReal) :
    k0_pay1 (F := Ideal) (vec2 x) (vec2 b) = vec2 (fun r c => x r c + b 0 c) := by
  funext y; idx_vars y
  pointwise [k0_pay1, vec2]

theorem pay2 (lam : ℕ → ℕ → EReal) :
    k0_pay2 (F := Ideal) (vec2 lam) = vec2 (fun _ c => Ideal.ofBits .f32 0xC1000000#32 * softplus (0 - lam 0 c)) := by
  funext y; idx_vars y
  pointwise [k0_pay2, vec2, softplus]
  rfl

theorem pay5 (x : ℕ → ℕ → EReal) : k0_pay5 (F := Ideal) (vec2 x) = vec2 x := by
  funext y; idx_vars y
  pointwise [k0_pay5, vec2]

theorem pay6 (lam g : ℕ → ℕ → EReal) :
    k0_pay6 (F := Ideal) (k0_pay2 (F := Ideal) (vec2 lam)) (vec2 g) = vec2 (logA lam g) := by
  rw [pay2]
  funext y; idx_vars y
  pointwise [k0_pay6, vec2, logA, sig]

theorem pay7 (lam g : ℕ → ℕ → EReal) :
    k0_pay7 (F := Ideal) (k0_pay2 (F := Ideal) (vec2 lam)) (vec2 g) = vec2 (decay lam g) := by
  funext y; idx_vars y
  pointwise [k0_pay7, pay6, vec2, decay]

theorem pay8 (lam xc g : ℕ → ℕ → EReal) :
    k0_pay8 (F := Ideal) (k0_pay2 (F := Ideal) (vec2 lam)) (vec2 xc) (vec2 g) = vec2 (inject lam xc g) := by
  funext y; idx_vars y
  pointwise [k0_pay8, pay6, pay7, vec2, inject, sig]

/-- The row-within-eight test as a choice. -/
theorem select_row {i : ℕ} (hi : i < 16) (s : BitVec 32) (hs : s = 1#32 ∨ s = 2#32 ∨ s = 4#32) (x y : EReal) :
    Scalar.select (IntOp.cmpi CmpIPredicate.sge (IntOp.andi (BitVec.ofNat 32 i) 7#32) s) x y
      = if s.toNat ≤ i % 8 then x else y := by
  have h : IntOp.cmpi CmpIPredicate.sge (IntOp.andi (BitVec.ofNat 32 i) 7#32) s = if s.toNat ≤ i % 8 then 1#1 else 0#1 := by
    rcases hs with rfl | rfl | rfl <;> interval_cases i <;> rfl
  rw [h]
  split <;> rfl

theorem select1 {i : ℕ} (hi : i < 16) (x y : EReal) :
    Scalar.select (IntOp.cmpi CmpIPredicate.sge (IntOp.andi (BitVec.ofNat 32 i) 7#32) 1#32) x y = if 1 ≤ i % 8 then x else y :=
  select_row hi _ (.inl rfl) x y

theorem select2 {i : ℕ} (hi : i < 16) (x y : EReal) :
    Scalar.select (IntOp.cmpi CmpIPredicate.sge (IntOp.andi (BitVec.ofNat 32 i) 7#32) 2#32) x y = if 2 ≤ i % 8 then x else y :=
  select_row hi _ (.inr (.inl rfl)) x y

theorem select4 {i : ℕ} (hi : i < 16) (x y : EReal) :
    Scalar.select (IntOp.cmpi CmpIPredicate.sge (IntOp.andi (BitVec.ofNat 32 i) 7#32) 4#32) x y = if 4 ≤ i % 8 then x else y :=
  select_row hi _ (.inr (.inr rfl)) x y

theorem mod_lt16 (n : ℕ) : n % 16 < 16 := Nat.mod_lt _ (by norm_num)

theorem pay10 (lam g : ℕ → ℕ → EReal) :
    k0_pay10 (F := Ideal) (k0_pay2 (F := Ideal) (vec2 lam)) k0_pay3 (vec2 g) = vec2 (sh 1 1 (decay lam g)) := by
  funext y; idx_vars y
  pointwise [k0_pay10, pay7, k0_pay9, k0_pay3, vec2]
  rw [select1 (Fin.isLt _)]; rfl

theorem pay11 (lam xc g : ℕ → ℕ → EReal) :
    k0_pay11 (F := Ideal) (k0_pay2 (F := Ideal) (vec2 lam)) k0_pay3 (vec2 xc) (vec2 g) = vec2 (sh 1 0 (inject lam xc g)) := by
  funext y; idx_vars y
  pointwise [k0_pay11, pay8, k0_pay9, k0_pay3, vec2]
  rw [select1 (Fin.isLt _)]; rfl

theorem pay16 (a u : ℕ → ℕ → EReal) :
    k0_pay16 (F := Ideal) k0_pay3 (vec2 a) (vec2 u) (vec2 (sh 1 1 a)) (vec2 (sh 1 0 u)) = vec2 (scanU a u) := by
  funext y; idx_vars y
  pointwise [k0_pay16, k0_pay12, k0_pay14, k0_pay13, k0_pay15, k0_pay3, vec2]
  simp only [select2 (Fin.isLt _), select4 (Fin.isLt _), select2 (mod_lt16 _)]
  simp only [scanU, stepU, stepA, sh, mul_ite, mul_zero, mul_one]

theorem pay17 (a : ℕ → ℕ → EReal) :
    k0_pay17 (F := Ideal) k0_pay3 (vec2 a) (vec2 (sh 1 1 a)) = vec2 (scanA a) := by
  funext y; idx_vars y
  pointwise [k0_pay17, k0_pay12, k0_pay14, k0_pay13, k0_pay15, k0_pay3, vec2]
  simp only [select2 (Fin.isLt _), select4 (Fin.isLt _), select2 (mod_lt16 _)]
  rfl

section Scan

variable {a u : ℕ → ℕ → EReal} (h0 : ∀ r c, 0 ≤ a r c) (h1 : ∀ r c, a r c ≠ ⊤) (h : ℕ → EReal)
include h0 h1

theorem pay18 :
    k0_pay18 (F := Ideal) k0_pay3 (vec2 fun _ c => h c) (vec2 a) (vec2 u) (vec2 (sh 1 1 a)) (vec2 (sh 1 0 u))
      = vec2 fun r c => state a u h (r + 1) c := by
  funext y; idx_vars y
  pointwise [k0_pay18, pay16, pay17, vec2]
  have := scan_apply (u := u) h0 h1 h 0 y0.val y1.val (by norm_num) y0.isLt
  simpa [state] using this

theorem pay19 :
    k0_pay19 (F := Ideal) k0_pay3 (vec2 fun _ c => h c) (vec2 a) (vec2 u) (vec2 (sh 1 1 a)) (vec2 (sh 1 0 u))
      = vec2 fun r c => state a u h (8 + r + 1) c := by
  funext y; idx_vars y
  pointwise [k0_pay19, pay18 h0 h1, pay16, pay17, vec2]
  have := scan_apply (u := u) h0 h1 h 1 y0.val y1.val (by norm_num) y0.isLt
  simpa using this

/-- The state handed to the next block of rows. -/
theorem pay20 :
    k0_pay20 (F := Ideal) k0_pay3 (vec2 fun _ c => h c) (vec2 a) (vec2 u) (vec2 (sh 1 1 a)) (vec2 (sh 1 0 u))
      = vec2 fun _ c => state a u h 16 c := by
  funext y; idx_vars y
  pointwise [k0_pay20, pay19 h0 h1, vec2]

/-- The states of the sixteen rows. -/
theorem pay21 :
    k0_pay21 (F := Ideal) k0_pay3 (vec2 fun _ c => h c) (vec2 a) (vec2 u) (vec2 (sh 1 1 a)) (vec2 (sh 1 0 u))
      = vec2 fun r c => state a u h (r + 1) c := by
  funext y; idx_vars y
  pointwise [k0_pay21, pay18 h0 h1, pay19 h0 h1, vec2]
  split
  · rfl
  · rw [show 8 + (y0.val - 8) + 1 = y0.val + 1 by omega]

theorem pay4 (az : ℕ → ℕ → EReal) :
    k0_pay4 (F := Ideal) (k0_pay21 k0_pay3 (vec2 fun _ c => h c) (vec2 a) (vec2 u) (vec2 (sh 1 1 a)) (vec2 (sh 1 0 u))) (vec2 az)
        (k0_pay22 (vec2 az)) = vec2 (result a u az h) := by
  rw [pay21 h0 h1]
  funext y; idx_vars y
  pointwise [k0_pay4, k0_pay22, vec2, result, sig]

end Scan

theorem pay23 : k0_pay23 (F := Ideal) = vec2 fun _ _ => 0 := by
  funext y; idx_vars y
  pointwise [k0_pay23, vec2]

theorem pay24 (x : ℕ → ℕ → EReal) : k0_pay24 (F := Ideal) (vec2 x) = vec2 x := by
  funext y; idx_vars y
  pointwise [k0_pay24, vec2]

theorem pay25 : k0_pay25 (F := Ideal) = vec2 fun _ _ => 0 := by
  funext y; idx_vars y
  pointwise [k0_pay25, vec2]

theorem pay26 (x : ℕ → ℕ → EReal) : k0_pay26 (F := Ideal) (vec2 x) = vec2 x := by
  funext y; idx_vars y
  pointwise [k0_pay26, vec2]

theorem pay27 (cw cb w : ℕ → ℕ → EReal) :
    k0_pay27 (F := Ideal) (vec2 cw) (vec2 cb) (vec2 w) = vec2 (conv cw cb w) := by
  funext y; idx_vars y
  pointwise [k0_pay27, vec2, conv]

/-! ### The gates' products -/

/-- One product of a group's channels, columns from `o` on, with its bias. -/
def prod (x : ℕ → ℕ → EReal) (w : ℕ → ℕ → ℕ → EReal) (o : ℕ) (b : ℕ → ℕ → EReal) (r c : ℕ) : EReal :=
  (∑ k : Fin 256, x r k.val * w 0 k.val (o + c)) + b 0 c

variable (x : ℕ → ℕ → EReal) (w : ℕ → ℕ → ℕ → EReal) (b : ℕ → ℕ → EReal)

theorem pay30 : k0_pay30 (F := Ideal) (k0_pay29 (vec2 x) (vec3 w) (vec2 b)) = vec2 (prod x w 0 b) := by
  funext y; idx_vars y
  pointwise [k0_pay30, k0_pay29, k0_pay28, vec2, vec3, prod]

theorem pay31 : k0_pay31 (F := Ideal) (k0_pay28 (vec2 x) (vec3 w)) (vec2 b) = vec2 (prod x w 256 b) := by
  funext y; idx_vars y
  pointwise [k0_pay31, k0_pay28, vec2, vec3, prod]

theorem pay33 : k0_pay33 (F := Ideal) (vec2 x) (vec3 w) (vec2 b) = vec2 (prod x w 0 b) := by
  funext y; idx_vars y
  pointwise [k0_pay33, k0_pay32, vec2, vec3, prod]

theorem pay34 : k0_pay34 (F := Ideal) (vec2 x) (vec3 w) (vec2 b) = vec2 (prod x w 256 b) := by
  funext y; idx_vars y
  pointwise [k0_pay34, k0_pay32, vec2, vec3, prod]

theorem pay37 : k0_pay37 (F := Ideal) (k0_pay35 (vec2 x)) (vec3 w) (vec2 b) = vec2 (prod x w 0 b) := by
  funext y; idx_vars y
  pointwise [k0_pay37, k0_pay36, k0_pay35, vec2, vec3, prod]

theorem pay38 : k0_pay38 (F := Ideal) (k0_pay35 (vec2 x)) (vec3 w) (vec2 b) = vec2 (prod x w 256 b) := by
  funext y; idx_vars y
  pointwise [k0_pay38, k0_pay36, k0_pay35, vec2, vec3, prod]

theorem pay40 : k0_pay40 (F := Ideal) (vec2 x) (vec3 w) (vec2 b) = vec2 (prod x w 0 b) := by
  funext y; idx_vars y
  pointwise [k0_pay40, k0_pay39, vec2, vec3, prod]

theorem pay41 : k0_pay1 (F := Ideal) (k0_pay41 (vec2 x) (vec3 w)) (vec2 b) = vec2 (prod x w 256 b) := by
  funext y; idx_vars y
  pointwise [k0_pay1, k0_pay41, k0_pay39, vec2, vec3, prod]

end Cert.Rec

end
-- ==== Proof.Lru.Base.lean ====
/- The recurrence's body: its branch conditions over the grid, and the buffers it is run on. -/
module

public import proofs.«01_k».proof.Proof.Gen.KernelIdeal.Frame
public import proofs.«01_k».proof.Proof.Gen.KernelIdeal.Skeleton
public import proofs.«01_k».proof.Proof.Gen.KernelIdeal.Loops

@[expose] public section

set_option maxRecDepth 16384

noncomputable section

namespace Cert.KernelIdeal.Lru

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 32) — by arithmetic of the point. -/
theorem hcond0_0 : ∀ t : Fin cfg0.N, cond0_0 (grid0.coords t) ↔ t.val % 32 = 0 :=
  (fun t => by
    have ht : t.val < 64 := Nat.lt_of_lt_of_eq t.isLt N_0
    have e0 : (grid0.coords t 0).val = t.val / 32 % 2 := Pipeline.Grid.coords_val t 0 (by decide) rfl
    have e1 : (grid0.coords t 1).val = t.val / 1 % 32 := Pipeline.Grid.coords_val t 1 (by decide) rfl
    simp only [cond0_0, e0, e1]
    word_cmp
   : ∀ t : Fin grid0.N, cond0_0 (grid0.coords t) ↔ t.val % 32 = 0)

/-- The condition of the body's `scf.if` 1 (`k0_h2`), from the grid coordinates (the skeleton's scalar
    chain substituted). -/
abbrev cond0_1 (i : grid0.Coords) : Prop := (Scalar.cmpi .ne (Scalar.extui (Scalar.cmpi .sgt (BitVec.ofNat 32 (i 1).val) 0#32)) 0#32) = 1#1
/-- It holds at the points whose coordinates have 1 ≤ i1 — decided over the grid. -/
theorem hcond0_1 : ∀ t : Fin cfg0.N, cond0_1 (grid0.coords t) ↔ 1 ≤ t.val % 32 :=
  (by decide +kernel : ∀ t : Fin grid0.N, cond0_1 (grid0.coords t) ↔ 1 ≤ t.val % 32)

/-- The condition of the body's `scf.if` 2 (`k0_h3`), from the grid coordinates (the skeleton's scalar
    chain substituted). -/
abbrev cond0_2 (i : grid0.Coords) : Prop := (Scalar.cmpi .ne (Scalar.extui (Scalar.cmpi .eq (BitVec.ofNat 32 (i 1).val) 0#32)) 0#32) = 1#1
/-- It holds at the points ≡ 0 (mod 32) — by arithmetic of the point. -/
theorem hcond0_2 : ∀ t : Fin cfg0.N, cond0_2 (grid0.coords t) ↔ t.val % 32 = 0 :=
  (fun t => by
    have ht : t.val < 64 := Nat.lt_of_lt_of_eq t.isLt N_0
    have e0 : (grid0.coords t 0).val = t.val / 32 % 2 := Pipeline.Grid.coords_val t 0 (by decide) rfl
    have e1 : (grid0.coords t 1).val = t.val / 1 % 32 := Pipeline.Grid.coords_val t 1 (by decide) rfl
    simp only [cond0_2, e0, e1]
    word_cmp
   : ∀ t : Fin grid0.N, cond0_2 (grid0.coords t) ↔ t.val % 32 = 0)

/-! ## The kernel body on any staging memrefs: a subtype the run finds -/

/-- Each window's current staging memref at point `t`, spelled as the pipeline passes it (`bodyAt0`), and its wholeness. -/
abbrev ms0_0 (t : Fin cfg0.N) : Memref sig .tc .vmem S256x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S4x256x512 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x2048 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256x1024 .bf16 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S264x1024 .f32 := Memref.whole cc0_scratch0
abbrev scM0_1 : Memref sig .tc .vmem S256x1024 .f32 := Memref.whole cc0_scratch1
abbrev scM0_2 : Memref sig .tc .vmem S256x2048 .f32 := Memref.whole cc0_scratch2
abbrev scM0_3 : Memref sig .tc .vmem S8x1024 .f32 := Memref.whole cc0_scratch3
/-- The scratch `arg10` the kernel carries between points, as a view: what it holds is stated through it. -/
abbrev VS0_0 : View sig .tc .vmem S264x1024 .f32 := scM0_0.view
/-- The scratch `arg13` the kernel carries between points, as a view: what it holds is stated through it. -/
abbrev VS0_3 : View sig .tc .vmem S8x1024 .f32 := scM0_3.view

/-- The frame kit's invariant with the scratch operands as memrefs owned at some contents (`scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.KernelIdeal.Lru

end
-- ==== Proof.Rows.Load.lean ====
/- Loads and stores of blocks of a matrix, read by natural numbers. -/
module

public import proofs.«01_k».proof.Proof.Lru.Spec
public import Idealize.ShloMosaic.Lib.WritesUnit

@[expose] public section

set_option maxRecDepth 16384

noncomputable section

namespace Cert.Rec

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ### Reading and writing blocks of a matrix -/

section Blocks

variable {sig : RefSig} {R C : ℕ} {e : EltTy} {Val : EltTy → Type} {sp : Space}

/-- A load of a block reads the matrix's entries under it. -/
theorem load2g {R' C' : ℕ} (v : View sig .tc sp ⟨2, ![R, C]⟩ e) (X : v.ty.Contents Val) (f : ℕ → ℕ → Val e)
    (hX : v.read Val X = fun y => f (y 0).val (y 1).val) (off : Fin 2 → ℕ) (o0 o1 : ℕ) (hoff : off = ![o0, o1])
    (inb : ∀ a, off a + (![R', C'] : Fin 2 → ℕ) a ≤ (⟨2, ![R, C]⟩ : Shape).size a) :
    v.readAt Val (Rect.unit (s := ⟨2, ![R, C]⟩) off ![R', C'] inb).toLoadRect X
      = (fun y => f (o0 + (y 0).val) (o1 + (y 1).val) : (⟨2, ![R', C']⟩ : Shape).Idx → Val e) := by
  subst hoff
  funext x
  rw [View.readAt_apply, hX]
  show f (o0 + 1 * (x 0).val) (o1 + 1 * (x 1).val) = f (o0 + (x 0).val) (o1 + (x 1).val)
  rw [Nat.one_mul, Nat.one_mul]

/-- A load of a block of a rank-3 array reads the array's entries under it. -/
theorem load3g {Q Q' R' C' : ℕ} (v : View sig .tc sp ⟨3, ![Q, R, C]⟩ e) (X : v.ty.Contents Val)
    (f : ℕ → ℕ → ℕ → Val e) (hX : v.read Val X = fun y => f (y 0).val (y 1).val (y 2).val) (o : ℕ)
    (inb : ∀ a, (![o, 0, 0] : Fin 3 → ℕ) a + (![Q', R', C'] : Fin 3 → ℕ) a ≤ (⟨3, ![Q, R, C]⟩ : Shape).size a) :
    v.readAt Val (Rect.unit (s := ⟨3, ![Q, R, C]⟩) ![o, 0, 0] ![Q', R', C'] inb).toLoadRect X
      = (fun y => f (o + (y 0).val) (y 1).val (y 2).val : (⟨3, ![Q', R', C']⟩ : Shape).Idx → Val e) := by
  funext x
  rw [View.readAt_apply, hX]
  show f (o + 1 * (x 0).val) (0 + 1 * (x 1).val) (0 + 1 * (x 2).val) = f (o + (x 0).val) (x 1).val (x 2).val
  rw [Nat.one_mul, Nat.one_mul, Nat.one_mul, Nat.zero_add, Nat.zero_add]

/-- A store of whole rows: the row's entries from the stored block, the other rows from what was there. -/
theorem store_rows {R' : ℕ} (v : View sig .tc sp ⟨2, ![R, C]⟩ e) (X : v.ty.Contents Val) (f g : ℕ → ℕ → Val e)
    (off : Fin 2 → ℕ) (o : ℕ) (hoff : off = ![o, 0])
    (inb : ∀ a, off a + (![R', C] : Fin 2 → ℕ) a ≤ (⟨2, ![R, C]⟩ : Shape).size a)
    (L : List (View.Piece Val ⟨2, ![R, C]⟩ e)) (lo : ℕ → Prop)
    (w : (⟨2, ![R', C]⟩ : Shape).Idx → Val e) (hw : w = fun y => f (y 0).val (y 1).val) (hf : ∀ r < R', ∀ c, f r c = g (o + r) c)
    (hL : ∀ y : (⟨2, ![R, C]⟩ : Shape).Idx, lo (y 0).val → v.read Val (v.writes Val X L) y = g (y 0).val (y 1).val)
    (y : (⟨2, ![R, C]⟩ : Shape).Idx) (hy : lo (y 0).val ∨ o ≤ (y 0).val ∧ (y 0).val < o + R') :
    v.read Val (v.writes Val X (⟨Rect.unit (s := ⟨2, ![R, C]⟩) off ![R', C] inb, w⟩ :: L)) y = g (y 0).val (y 1).val := by
  subst hw
  by_cases h : o ≤ (y 0).val ∧ (y 0).val < o + R'
  · rw [View.read_writes_cons_rows_of_mem v X inb _ L y
      (fun a => ⟨(y a).val - (![o, 0] : Fin 2 → ℕ) a, by
        have h1 : (y 1).val < C := (y 1).isLt
        revert a; exact Fin.forall_fin_two.2 ⟨show (y 0).val - o < R' by omega, show (y 1).val - 0 < C by omega⟩⟩) hoff
      (show (y 0).val = o + ((y 0).val - o) by omega) (show (y 1).val = (y 1).val - 0 by omega)]
    show f ((y 0).val - o) ((y 1).val - 0) = g (y 0).val (y 1).val
    rw [hf _ (by omega), Nat.sub_zero, show o + ((y 0).val - o) = (y 0).val by omega]
  · rw [View.read_writes_cons_rows_of_not_mem v X (W := R') inb _ L y hoff rfl (by omega)]
    exact hL y (by tauto)

/-- `load2g` at the extended reals. -/
theorem load2 {R' C' : ℕ} (v : View sig .tc sp ⟨2, ![R, C]⟩ .f32) (X : v.ty.Contents (Elt Ideal)) (f : ℕ → ℕ → EReal)
    (hX : v.read (Elt Ideal) X = vec2 f) (off : Fin 2 → ℕ) (o0 o1 : ℕ) (hoff : off = ![o0, o1])
    (inb : ∀ a, off a + (![R', C'] : Fin 2 → ℕ) a ≤ (⟨2, ![R, C]⟩ : Shape).size a) :
    v.readAt (Elt Ideal) (Rect.unit (s := ⟨2, ![R, C]⟩) off ![R', C'] inb).toLoadRect X = vec2 (fun r c => f (o0 + r) (o1 + c)) :=
  load2g v X f hX off o0 o1 hoff inb

/-- `load2g` at the extended reals, of a buffer of the half-width type. -/
theorem load2h {R' C' : ℕ} (v : View sig .tc sp ⟨2, ![R, C]⟩ .bf16) (X : v.ty.Contents (Elt Ideal)) (f : ℕ → ℕ → EReal)
    (hX : v.read (Elt Ideal) X = vec2 f) (off : Fin 2 → ℕ) (o0 o1 : ℕ) (hoff : off = ![o0, o1])
    (inb : ∀ a, off a + (![R', C'] : Fin 2 → ℕ) a ≤ (⟨2, ![R, C]⟩ : Shape).size a) :
    v.readAt (Elt Ideal) (Rect.unit (s := ⟨2, ![R, C]⟩) off ![R', C'] inb).toLoadRect X = vec2 (fun r c => f (o0 + r) (o1 + c)) :=
  load2g v X f hX off o0 o1 hoff inb

/-- `load3g` at the extended reals. -/
theorem load3 {Q Q' R' C' : ℕ} (v : View sig .tc sp ⟨3, ![Q, R, C]⟩ .bf16) (X : v.ty.Contents (Elt Ideal))
    (f : ℕ → ℕ → ℕ → EReal) (hX : v.read (Elt Ideal) X = vec3 f) (o : ℕ)
    (inb : ∀ a, (![o, 0, 0] : Fin 3 → ℕ) a + (![Q', R', C'] : Fin 3 → ℕ) a ≤ (⟨3, ![Q, R, C]⟩ : Shape).size a) :
    v.readAt (Elt Ideal) (Rect.unit (s := ⟨3, ![Q, R, C]⟩) ![o, 0, 0] ![Q', R', C'] inb).toLoadRect X
      = vec3 (fun q r c => f (o + q) r c) :=
  load3g v X f hX o inb

end Blocks

end Cert.Rec

end
-- ==== Proof.Lru.Loops.lean ====
/- What the two counted loops leave: the convolved rows, and the result's rows with the state after them. -/
module

public import proofs.«01_k».proof.Proof.Lru.Pure
public import proofs.«01_k».proof.Proof.Lru.Base
public import proofs.«01_k».proof.Proof.Rows.Load

@[expose] public section

set_option maxRecDepth 16384

noncomputable section

namespace Cert.KernelIdeal.Lru

open Cert.Rec
open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ### The convolution's loop -/

theorem tripL1_eq (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S4x1024 .f32) (harg4 : arg4.IsWhole) (arg5 : Memref sig .tc .vmem S1x1024 .f32) (harg5 : arg5.IsWhole) (arg6 : Memref sig .tc .vmem S4x256x512 .bf16) (harg6 : arg6.IsWhole) (arg7 : Memref sig .tc .vmem S1x2048 .f32) (harg7 : arg7.IsWhole) (arg8 : Memref sig .tc .vmem S1x1024 .f32) (harg8 : arg8.IsWhole) (arg9 : Memref sig .tc .vmem S256x1024 .bf16) (harg9 : arg9.IsWhole) (arg10 : Memref sig .tc .vmem S264x1024 .f32) (harg10 : arg10.IsWhole) (arg11 : Memref sig .tc .vmem S256x1024 .f32) (harg11 : arg11.IsWhole) (arg12 : Memref sig .tc .vmem S256x2048 .f32) (harg12 : arg12.IsWhole) (arg13 : Memref sig .tc .vmem S8x1024 .f32) (harg13 : arg13.IsWhole) (v13 : Vec F S4x1024 .f32) (v14 : Vec F S1x1024 .f32) (X10 : BufTy.Contents (Elt F) arg10.view.ty) (k : Fin k0_t1_loop.trips) :
    tripL_k0_t1 Variants.none c none i arg2 harg2 arg3 harg3 arg4 harg4 arg5 harg5 arg6 harg6 arg7 harg7 arg8 harg8 arg9 harg9 arg10 harg10 arg11 harg11 arg12 harg12 arg13 harg13 v13 v14 X10 k
      = [⟨Rect.unit (s := S256x1024) (k0_off2 k) S16x1024.size (k0_off2_inb k),
          k0_pay27 v13 v14 (View.readAt (Elt F) arg10.view (Rect.unit (s := S264x1024) (k0_off1 k) S24x1024.size (k0_off1_inb k)).toLoadRect X10)⟩] := by
  unfold tripL_k0_t1 trip_k0_t1; dsimp only

/-- After the trips before `n` the rows below `16 n` are convolved. -/
theorem t1_read (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S4x1024 .f32) (harg4 : arg4.IsWhole) (arg5 : Memref sig .tc .vmem S1x1024 .f32) (harg5 : arg5.IsWhole) (arg6 : Memref sig .tc .vmem S4x256x512 .bf16) (harg6 : arg6.IsWhole) (arg7 : Memref sig .tc .vmem S1x2048 .f32) (harg7 : arg7.IsWhole) (arg8 : Memref sig .tc .vmem S1x1024 .f32) (harg8 : arg8.IsWhole) (arg9 : Memref sig .tc .vmem S256x1024 .bf16) (harg9 : arg9.IsWhole) (arg10 : Memref sig .tc .vmem S264x1024 .f32) (harg10 : arg10.IsWhole) (arg11 : Memref sig .tc .vmem S256x1024 .f32) (harg11 : arg11.IsWhole) (arg12 : Memref sig .tc .vmem S256x2048 .f32) (harg12 : arg12.IsWhole) (arg13 : Memref sig .tc .vmem S8x1024 .f32) (harg13 : arg13.IsWhole) (cw cb xe : ℕ → ℕ → EReal)
    (X10 : BufTy.Contents (Elt Ideal) arg10.view.ty) (hX : arg10.view.read (Elt Ideal) X10 = vec2 xe) (G : BufTy.Contents (Elt Ideal) arg11.view.ty) (n : ℕ) (hn : n ≤ 16)
    (y : S256x1024.Idx) (hy : (y 0).val < 16 * n) :
    arg11.view.read (Elt Ideal) (arg11.view.writes (Elt Ideal) G (pb_k0_t1 (F := Ideal) Variants.none c none i arg2 harg2 arg3 harg3 arg4 harg4 arg5 harg5 arg6 harg6 arg7 harg7 arg8 harg8 arg9 harg9 arg10 harg10 arg11 harg11 arg12 harg12 arg13 harg13 (vec2 cw) (vec2 cb) X10 n)) y
      = vec2 (conv cw cb xe) y := by
  induction n generalizing y with
  | zero => omega
  | succ n ih =>
    have hlt : n < k0_t1_loop.trips := by
      rw [show k0_t1_loop.trips = 16 from by decide +kernel]; omega
    rw [pb_k0_t1_succ (F := Ideal) Variants.none c none i arg2 harg2 arg3 harg3 arg4 harg4 arg5 harg5 arg6 harg6 arg7 harg7 arg8 harg8 arg9 harg9 arg10 harg10 arg11 harg11 arg12 harg12 arg13 harg13 (vec2 cw) (vec2 cb) X10 ⟨n, hlt⟩, tripL1_eq]
    refine store_rows (R := 256) (C := 1024) (R' := 16) arg11.view G (fun r => conv cw cb xe (16 * n + r)) _ _ (16 * n) (k0_off2_eq ⟨n, hlt⟩) _ _ (fun r => r < 16 * n) _ ?_ (fun _ _ _ => rfl)
      (fun y hy => ih (by omega) y hy) y (by omega)
    rw [load2 (R := 264) (C := 1024) (R' := 24) (C' := 1024) arg10.view X10 xe hX _ (16 * n) 0 (k0_off1_eq ⟨n, hlt⟩), pay27]
    funext y
    simp only [vec2, conv, Nat.zero_add]
    simp only [Nat.add_left_comm (16 * n)]

/-! ### The scan's loop -/

theorem tripR2_eq (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S4x1024 .f32) (harg4 : arg4.IsWhole) (arg5 : Memref sig .tc .vmem S1x1024 .f32) (harg5 : arg5.IsWhole) (arg6 : Memref sig .tc .vmem S4x256x512 .bf16) (harg6 : arg6.IsWhole) (arg7 : Memref sig .tc .vmem S1x2048 .f32) (harg7 : arg7.IsWhole) (arg8 : Memref sig .tc .vmem S1x1024 .f32) (harg8 : arg8.IsWhole) (arg9 : Memref sig .tc .vmem S256x1024 .bf16) (harg9 : arg9.IsWhole) (arg10 : Memref sig .tc .vmem S264x1024 .f32) (harg10 : arg10.IsWhole) (arg11 : Memref sig .tc .vmem S256x1024 .f32) (harg11 : arg11.IsWhole) (arg12 : Memref sig .tc .vmem S256x2048 .f32) (harg12 : arg12.IsWhole) (arg13 : Memref sig .tc .vmem S8x1024 .f32) (harg13 : arg13.IsWhole) (v101 : Vec F S1x1024 .f32) (X3 : BufTy.Contents (Elt F) arg3.view.ty) (X11 : BufTy.Contents (Elt F) arg11.view.ty) (X12 : BufTy.Contents (Elt F) arg12.view.ty) (k : Fin k0_t2_loop.trips) (acc : Vec F S8x1024 .f32)
    (B11 : Vec F S16x1024 .f32) (h11 : View.readAt (Elt F) arg11.view (Rect.unit (s := S256x1024) (k0_off3 k) S16x1024.size (k0_off3_inb k)).toLoadRect X11 = B11)
    (B12 : Vec F S16x2048 .f32) (h12 : View.readAt (Elt F) arg12.view (Rect.unit (s := S256x2048) (k0_off4 k) S16x2048.size (k0_off4_inb k)).toLoadRect X12 = B12) :
    tripR_k0_t2 Variants.none c none i arg2 harg2 arg3 harg3 arg4 harg4 arg5 harg5 arg6 harg6 arg7 harg7 arg8 harg8 arg9 harg9 arg10 harg10 arg11 harg11 arg12 harg12 arg13 harg13 v101 X3 X11 X12 k acc
      = k0_pay20 k0_pay3 acc (k0_pay7 (k0_pay2 v101) B12) (k0_pay8 (k0_pay2 v101) B11 B12) (k0_pay10 (k0_pay2 v101) k0_pay3 B12) (k0_pay11 (k0_pay2 v101) k0_pay3 B11 B12) := by
  subst h11; subst h12
  unfold tripR_k0_t2 trip_k0_t2; dsimp only; sl_unfold_words; rfl

theorem tripL2_eq (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S4x1024 .f32) (harg4 : arg4.IsWhole) (arg5 : Memref sig .tc .vmem S1x1024 .f32) (harg5 : arg5.IsWhole) (arg6 : Memref sig .tc .vmem S4x256x512 .bf16) (harg6 : arg6.IsWhole) (arg7 : Memref sig .tc .vmem S1x2048 .f32) (harg7 : arg7.IsWhole) (arg8 : Memref sig .tc .vmem S1x1024 .f32) (harg8 : arg8.IsWhole) (arg9 : Memref sig .tc .vmem S256x1024 .bf16) (harg9 : arg9.IsWhole) (arg10 : Memref sig .tc .vmem S264x1024 .f32) (harg10 : arg10.IsWhole) (arg11 : Memref sig .tc .vmem S256x1024 .f32) (harg11 : arg11.IsWhole) (arg12 : Memref sig .tc .vmem S256x2048 .f32) (harg12 : arg12.IsWhole) (arg13 : Memref sig .tc .vmem S8x1024 .f32) (harg13 : arg13.IsWhole) (v101 : Vec F S1x1024 .f32) (X3 : BufTy.Contents (Elt F) arg3.view.ty) (X11 : BufTy.Contents (Elt F) arg11.view.ty) (X12 : BufTy.Contents (Elt F) arg12.view.ty) (k : Fin k0_t2_loop.trips) (acc : Vec F S8x1024 .f32)
    (B11 : Vec F S16x1024 .f32) (h11 : View.readAt (Elt F) arg11.view (Rect.unit (s := S256x1024) (k0_off3 k) S16x1024.size (k0_off3_inb k)).toLoadRect X11 = B11)
    (B12 : Vec F S16x2048 .f32) (h12 : View.readAt (Elt F) arg12.view (Rect.unit (s := S256x2048) (k0_off4 k) S16x2048.size (k0_off4_inb k)).toLoadRect X12 = B12)
    (B3 : Vec F S16x1024 .f32) (h3 : View.readAt (Elt F) arg3.view (Rect.unit (s := S256x1024) (k0_off3 k) S16x1024.size (k0_off3_inb k)).toLoadRect X3 = B3) :
    tripL_k0_t2 Variants.none c none i arg2 harg2 arg3 harg3 arg4 harg4 arg5 harg5 arg6 harg6 arg7 harg7 arg8 harg8 arg9 harg9 arg10 harg10 arg11 harg11 arg12 harg12 arg13 harg13 v101 X3 X11 X12 k acc
      = [⟨Rect.unit (s := S256x1024) (k0_off3 k) S16x1024.size (k0_off3_inb k),
          k0_pay4 (k0_pay21 k0_pay3 acc (k0_pay7 (k0_pay2 v101) B12) (k0_pay8 (k0_pay2 v101) B11 B12) (k0_pay10 (k0_pay2 v101) k0_pay3 B12) (k0_pay11 (k0_pay2 v101) k0_pay3 B11 B12)) B3 (k0_pay22 B3)⟩] := by
  subst h11; subst h12; subst h3
  unfold tripL_k0_t2 trip_k0_t2; dsimp only; sl_unfold_words; rfl

/-- After the trips before `n` the carried rows are the state after `16 n` steps and the rows below `16 n` of the result
are done. -/
theorem t2_read (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S4x1024 .f32) (harg4 : arg4.IsWhole) (arg5 : Memref sig .tc .vmem S1x1024 .f32) (harg5 : arg5.IsWhole) (arg6 : Memref sig .tc .vmem S4x256x512 .bf16) (harg6 : arg6.IsWhole) (arg7 : Memref sig .tc .vmem S1x2048 .f32) (harg7 : arg7.IsWhole) (arg8 : Memref sig .tc .vmem S1x1024 .f32) (harg8 : arg8.IsWhole) (arg9 : Memref sig .tc .vmem S256x1024 .bf16) (harg9 : arg9.IsWhole) (arg10 : Memref sig .tc .vmem S264x1024 .f32) (harg10 : arg10.IsWhole) (arg11 : Memref sig .tc .vmem S256x1024 .f32) (harg11 : arg11.IsWhole) (arg12 : Memref sig .tc .vmem S256x2048 .f32) (harg12 : arg12.IsWhole) (arg13 : Memref sig .tc .vmem S8x1024 .f32) (harg13 : arg13.IsWhole) (lam az xc g : ℕ → ℕ → EReal) (h : ℕ → EReal)
    (X3 : BufTy.Contents (Elt Ideal) arg3.view.ty) (h3 : arg3.view.read (Elt Ideal) X3 = vec2 az)
    (X11 : BufTy.Contents (Elt Ideal) arg11.view.ty) (h11 : arg11.view.read (Elt Ideal) X11 = vec2 xc)
    (X12 : BufTy.Contents (Elt Ideal) arg12.view.ty) (h12 : arg12.view.read (Elt Ideal) X12 = vec2 g)
    (G : BufTy.Contents (Elt Ideal) arg9.view.ty) (n : ℕ) (hn : n ≤ 16) :
    (st_k0_t2 (F := Ideal) Variants.none c none i arg2 harg2 arg3 harg3 arg4 harg4 arg5 harg5 arg6 harg6 arg7 harg7 arg8 harg8 arg9 harg9 arg10 harg10 arg11 harg11 arg12 harg12 arg13 harg13 (vec2 lam) X3 X11 X12 (vec2 fun _ c => h c) n).1
        = (vec2 fun _ c => state (decay lam g) (inject lam xc g) h (16 * n) c)
    ∧ ∀ y : S256x1024.Idx, (y 0).val < 16 * n →
      arg9.view.read (Elt Ideal) (arg9.view.writes (Elt Ideal) G (st_k0_t2 (F := Ideal) Variants.none c none i arg2 harg2 arg3 harg3 arg4 harg4 arg5 harg5 arg6 harg6 arg7 harg7 arg8 harg8 arg9 harg9 arg10 harg10 arg11 harg11 arg12 harg12 arg13 harg13 (vec2 lam) X3 X11 X12 (vec2 fun _ c => h c) n).2) y
        = vec2 (result (decay lam g) (inject lam xc g) az h) y := by
  induction n with
  | zero => exact ⟨rfl, fun y hy => by omega⟩
  | succ n ih =>
    obtain ⟨i1, i2⟩ := ih (by omega)
    have hlt : n < k0_t2_loop.trips := by
      rw [show k0_t2_loop.trips = 16 from by decide +kernel]; omega
    have l11 := load2 (R := 256) (C := 1024) (R' := 16) (C' := 1024) arg11.view X11 xc h11 _ (16 * n) 0 (k0_off3_eq ⟨n, hlt⟩) (k0_off3_inb ⟨n, hlt⟩)
    have l3 := load2 (R := 256) (C := 1024) (R' := 16) (C' := 1024) arg3.view X3 az h3 _ (16 * n) 0 (k0_off3_eq ⟨n, hlt⟩) (k0_off3_inb ⟨n, hlt⟩)
    have l12 := load2 (R := 256) (C := 2048) (R' := 16) (C' := 2048) arg12.view X12 g h12 _ (16 * n) 0 (k0_off4_eq ⟨n, hlt⟩) (k0_off4_inb ⟨n, hlt⟩)
    rw [st_k0_t2_succ (F := Ideal) Variants.none c none i arg2 harg2 arg3 harg3 arg4 harg4 arg5 harg5 arg6 harg6 arg7 harg7 arg8 harg8 arg9 harg9 arg10 harg10 arg11 harg11 arg12 harg12 arg13 harg13 (vec2 lam) X3 X11 X12 (vec2 fun _ c => h c) ⟨n, hlt⟩]
    dsimp only
    rw [i1, tripR2_eq (F := Ideal) c i arg2 harg2 arg3 harg3 arg4 harg4 arg5 harg5 arg6 harg6 arg7 harg7 arg8 harg8 arg9 harg9 arg10 harg10 arg11 harg11 arg12 harg12 arg13 harg13 _ X3 X11 X12 ⟨n, hlt⟩ _ _ l11 _ l12, tripL2_eq (F := Ideal) c i arg2 harg2 arg3 harg3 arg4 harg4 arg5 harg5 arg6 harg6 arg7 harg7 arg8 harg8 arg9 harg9 arg10 harg10 arg11 harg11 arg12 harg12 arg13 harg13 _ X3 X11 X12 ⟨n, hlt⟩ _ _ l11 _ l12 _ l3]
    simp only [Nat.zero_add]
    rw [pay7, pay8, pay10, pay11]
    have hd : decay lam (fun r c => g (16 * n + r) c) = fun r => decay lam g (16 * n + r) := rfl
    have hu : inject lam (fun r c => xc (16 * n + r) c) (fun r c => g (16 * n + r) c) = fun r => inject lam xc g (16 * n + r) := rfl
    have e0 : ∀ r c, 0 ≤ (fun r => decay lam g (16 * n + r)) r c := fun r c => decay_nonneg lam g _ c
    have e1 : ∀ r c, (fun r => decay lam g (16 * n + r)) r c ≠ ⊤ := fun r c => decay_ne_top lam g _ c
    rw [hd, hu]
    refine ⟨?_, fun y hy => ?_⟩
    · rw [pay20 e0 e1]
      funext y
      simp only [vec2]
      rw [state_add, Nat.mul_succ]
    · rw [pay4 e0 e1]
      refine store_rows (R := 256) (C := 1024) (R' := 16) arg9.view G _ _ _ (16 * n) (k0_off3_eq ⟨n, hlt⟩) _ _ (fun r => r < 16 * n) _ rfl (fun r _ c => ?_)
        (fun y hy => i2 y hy) y (by omega)
      simp only [result]
      rw [state_add, Nat.add_assoc]

end Cert.KernelIdeal.Lru

end
-- ==== Proof.Lru.Gates.lean ====
/- The gates' products, stored block by block, are one matrix. -/
module

public import proofs.«01_k».proof.Proof.Lru.Loops

@[expose] public section

set_option maxRecDepth 16384

noncomputable section

namespace Cert.KernelIdeal.Lru

open Cert.Rec
open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

theorem prod_gate (xc : ℕ → ℕ → EReal) (wg : ℕ → ℕ → ℕ → EReal) (bg : ℕ → ℕ → EReal) {q j : ℕ} (hq : q < 4) {r c : ℕ} (hc : c < 256) :
    prod (fun r k => xc r (256 * q + k)) (fun a k c => wg (q + a) k c) (256 * j) (fun r c => bg r (1024 * j + 256 * q + c)) r c
      = gate xc wg bg r (1024 * j + 256 * q + c) := by
  simp only [prod, gate, Nat.add_zero]
  rw [show (1024 * j + 256 * q + c) % 1024 / 256 = q by omega, show (1024 * j + 256 * q + c) / 1024 = j by omega,
    show (1024 * j + 256 * q + c) % 256 = c by omega]

theorem piece_gate (xc : ℕ → ℕ → EReal) (wg : ℕ → ℕ → ℕ → EReal) (bg : ℕ → ℕ → EReal) (q j : ℕ) (hq : q < 4) (o s : ℕ)
    (ho : o = 1024 * j + 256 * q) (hs : s = 256 * j)
    (inb : ∀ a, (![0, o] : Fin 2 → ℕ) a + S256x256.size a ≤ S256x2048.size a) (x : S256x256.Idx) :
    vec2 (R := 256) (C := 256) (prod (fun r k => xc r (256 * q + k)) (fun a k c => wg (q + a) k c) s (fun r c => bg r (1024 * j + 256 * q + c))) x
      = vec2 (R := 256) (C := 2048) (gate xc wg bg) ((Rect.unit (s := S256x2048) ![0, o] S256x256.size inb).emb x) := by
  subst ho; subst hs
  have hx : (x 1).val < 256 := (x 1).isLt
  show _ = gate xc wg bg (0 + 1 * (x 0).val) (1024 * j + 256 * q + 1 * (x 1).val)
  rw [Nat.zero_add, Nat.one_mul, Nat.one_mul, ← prod_gate xc wg bg hq hx]
  rfl

theorem mem_cols (o : ℕ) (inb : ∀ a, (![0, o] : Fin 2 → ℕ) a + S256x256.size a ≤ S256x2048.size a) (y : S256x2048.Idx)
    (h : o ≤ (y 1).val ∧ (y 1).val < o + 256) : y ∈ (Rect.unit (s := S256x2048) ![0, o] S256x256.size inb).set := by
  rw [Rect.mem_set_unit]
  have h0 : (y 0).val < 256 := (y 0).isLt
  exact Fin.forall_fin_two.2 ⟨⟨Nat.zero_le _, show (y 0).val < 0 + 256 by omega⟩, h⟩

/-- The eight stores leave the gates' matrix. -/
theorem gates_read (arg6 : Memref sig .tc .vmem S4x256x512 .bf16) (arg7 : Memref sig .tc .vmem S1x2048 .f32)
    (arg11 : Memref sig .tc .vmem S256x1024 .f32) (arg12 : Memref sig .tc .vmem S256x2048 .f32)
    (xc : ℕ → ℕ → EReal) (wg : ℕ → ℕ → ℕ → EReal) (bg : ℕ → ℕ → EReal)
    (X6 : BufTy.Contents (Elt Ideal) arg6.view.ty) (h6 : arg6.view.read (Elt Ideal) X6 = vec3 wg)
    (X7 : BufTy.Contents (Elt Ideal) arg7.view.ty) (h7 : arg7.view.read (Elt Ideal) X7 = vec2 bg)
    (X11 : BufTy.Contents (Elt Ideal) arg11.view.ty) (h11 : arg11.view.read (Elt Ideal) X11 = vec2 xc)
    (G : BufTy.Contents (Elt Ideal) arg12.view.ty) :
    arg12.view.read (Elt Ideal) (arg12.view.writes (Elt Ideal) G
      [⟨Rect.unit (s := S256x2048) ![0, 1792] S256x256.size inb_S256x2048_S256x256_0_1792, k0_pay1 (k0_pay41 (View.readAt (Elt Ideal) arg11.view (Rect.unit (s := S256x1024) ![0, 768] S256x256.size inb_S256x1024_S256x256_0_768).toLoadRect X11) (View.readAt (Elt Ideal) arg6.view (Rect.unit (s := S4x256x512) ![3, 0, 0] S1x256x512.size inb_S4x256x512_S1x256x512_3_0_0).toLoadRect X6)) (View.readAt (Elt Ideal) arg7.view (Rect.unit (s := S1x2048) ![0, 1792] S1x256.size inb_S1x2048_S1x256_0_1792).toLoadRect X7)⟩,
        ⟨Rect.unit (s := S256x2048) ![0, 768] S256x256.size inb_S256x2048_S256x256_0_768, k0_pay40 (View.readAt (Elt Ideal) arg11.view (Rect.unit (s := S256x1024) ![0, 768] S256x256.size inb_S256x1024_S256x256_0_768).toLoadRect X11) (View.readAt (Elt Ideal) arg6.view (Rect.unit (s := S4x256x512) ![3, 0, 0] S1x256x512.size inb_S4x256x512_S1x256x512_3_0_0).toLoadRect X6) (View.readAt (Elt Ideal) arg7.view (Rect.unit (s := S1x2048) ![0, 768] S1x256.size inb_S1x2048_S1x256_0_768).toLoadRect X7)⟩,
        ⟨Rect.unit (s := S256x2048) ![0, 1536] S256x256.size inb_S256x2048_S256x256_0_1536, k0_pay38 (k0_pay35 (View.readAt (Elt Ideal) arg11.view (Rect.unit (s := S256x1024) ![0, 512] S256x256.size inb_S256x1024_S256x256_0_512).toLoadRect X11)) (View.readAt (Elt Ideal) arg6.view (Rect.unit (s := S4x256x512) ![2, 0, 0] S1x256x512.size inb_S4x256x512_S1x256x512_2_0_0).toLoadRect X6) (View.readAt (Elt Ideal) arg7.view (Rect.unit (s := S1x2048) ![0, 1536] S1x256.size inb_S1x2048_S1x256_0_1536).toLoadRect X7)⟩,
        ⟨Rect.unit (s := S256x2048) ![0, 512] S256x256.size inb_S256x2048_S256x256_0_512, k0_pay37 (k0_pay35 (View.readAt (Elt Ideal) arg11.view (Rect.unit (s := S256x1024) ![0, 512] S256x256.size inb_S256x1024_S256x256_0_512).toLoadRect X11)) (View.readAt (Elt Ideal) arg6.view (Rect.unit (s := S4x256x512) ![2, 0, 0] S1x256x512.size inb_S4x256x512_S1x256x512_2_0_0).toLoadRect X6) (View.readAt (Elt Ideal) arg7.view (Rect.unit (s := S1x2048) ![0, 512] S1x256.size inb_S1x2048_S1x256_0_512).toLoadRect X7)⟩,
        ⟨Rect.unit (s := S256x2048) ![0, 1280] S256x256.size inb_S256x2048_S256x256_0_1280, k0_pay34 (View.readAt (Elt Ideal) arg11.view (Rect.unit (s := S256x1024) ![0, 256] S256x256.size inb_S256x1024_S256x256_0_256).toLoadRect X11) (View.readAt (Elt Ideal) arg6.view (Rect.unit (s := S4x256x512) ![1, 0, 0] S1x256x512.size inb_S4x256x512_S1x256x512_1_0_0).toLoadRect X6) (View.readAt (Elt Ideal) arg7.view (Rect.unit (s := S1x2048) ![0, 1280] S1x256.size inb_S1x2048_S1x256_0_1280).toLoadRect X7)⟩,
        ⟨Rect.unit (s := S256x2048) ![0, 256] S256x256.size inb_S256x2048_S256x256_0_256, k0_pay33 (View.readAt (Elt Ideal) arg11.view (Rect.unit (s := S256x1024) ![0, 256] S256x256.size inb_S256x1024_S256x256_0_256).toLoadRect X11) (View.readAt (Elt Ideal) arg6.view (Rect.unit (s := S4x256x512) ![1, 0, 0] S1x256x512.size inb_S4x256x512_S1x256x512_1_0_0).toLoadRect X6) (View.readAt (Elt Ideal) arg7.view (Rect.unit (s := S1x2048) ![0, 256] S1x256.size inb_S1x2048_S1x256_0_256).toLoadRect X7)⟩,
        ⟨Rect.unit (s := S256x2048) ![0, 1024] S256x256.size inb_S256x2048_S256x256_0_1024, k0_pay31 (k0_pay28 (View.readAt (Elt Ideal) arg11.view (Rect.unit (s := S256x1024) ![0, 0] S256x256.size inb_S256x1024_S256x256_0_0).toLoadRect X11) (View.readAt (Elt Ideal) arg6.view (Rect.unit (s := S4x256x512) ![0, 0, 0] S1x256x512.size inb_S4x256x512_S1x256x512_0_0_0).toLoadRect X6)) (View.readAt (Elt Ideal) arg7.view (Rect.unit (s := S1x2048) ![0, 1024] S1x256.size inb_S1x2048_S1x256_0_1024).toLoadRect X7)⟩,
        ⟨Rect.unit (s := S256x2048) ![0, 0] S256x256.size inb_S256x2048_S256x256_0_0, k0_pay30 (k0_pay29 (View.readAt (Elt Ideal) arg11.view (Rect.unit (s := S256x1024) ![0, 0] S256x256.size inb_S256x1024_S256x256_0_0).toLoadRect X11) (View.readAt (Elt Ideal) arg6.view (Rect.unit (s := S4x256x512) ![0, 0, 0] S1x256x512.size inb_S4x256x512_S1x256x512_0_0_0).toLoadRect X6) (View.readAt (Elt Ideal) arg7.view (Rect.unit (s := S1x2048) ![0, 0] S1x256.size inb_S1x2048_S1x256_0_0).toLoadRect X7))⟩]) = vec2 (gate xc wg bg) := by
  have x0 : (View.readAt (Elt Ideal) arg11.view (Rect.unit (s := S256x1024) ![0, 0] S256x256.size inb_S256x1024_S256x256_0_0).toLoadRect X11) = vec2 (fun r k => xc r (256 * 0 + k)) := by
    rw [load2 (R := 256) (C := 1024) (R' := 256) (C' := 256) arg11.view X11 xc h11 _ 0 (256 * 0) rfl]; simp only [Nat.zero_add]
  have w0 : (View.readAt (Elt Ideal) arg6.view (Rect.unit (s := S4x256x512) ![0, 0, 0] S1x256x512.size inb_S4x256x512_S1x256x512_0_0_0).toLoadRect X6) = vec3 (fun a k c => wg (0 + a) k c) := load3 (Q := 4) (R := 256) (C := 512) (Q' := 1) (R' := 256) (C' := 512) arg6.view X6 wg h6 0 _
  have b00 : (View.readAt (Elt Ideal) arg7.view (Rect.unit (s := S1x2048) ![0, 0] S1x256.size inb_S1x2048_S1x256_0_0).toLoadRect X7) = vec2 (fun r c => bg r (1024 * 0 + 256 * 0 + c)) := by
    rw [load2 (R := 1) (C := 2048) (R' := 1) (C' := 256) arg7.view X7 bg h7 _ 0 (1024 * 0 + 256 * 0) rfl]; simp only [Nat.zero_add]
  have b01 : (View.readAt (Elt Ideal) arg7.view (Rect.unit (s := S1x2048) ![0, 1024] S1x256.size inb_S1x2048_S1x256_0_1024).toLoadRect X7) = vec2 (fun r c => bg r (1024 * 1 + 256 * 0 + c)) := by
    rw [load2 (R := 1) (C := 2048) (R' := 1) (C' := 256) arg7.view X7 bg h7 _ 0 (1024 * 1 + 256 * 0) rfl]; simp only [Nat.zero_add]
  have x1 : (View.readAt (Elt Ideal) arg11.view (Rect.unit (s := S256x1024) ![0, 256] S256x256.size inb_S256x1024_S256x256_0_256).toLoadRect X11) = vec2 (fun r k => xc r (256 * 1 + k)) := by
    rw [load2 (R := 256) (C := 1024) (R' := 256) (C' := 256) arg11.view X11 xc h11 _ 0 (256 * 1) rfl]; simp only [Nat.zero_add]
  have w1 : (View.readAt (Elt Ideal) arg6.view (Rect.unit (s := S4x256x512) ![1, 0, 0] S1x256x512.size inb_S4x256x512_S1x256x512_1_0_0).toLoadRect X6) = vec3 (fun a k c => wg (1 + a) k c) := load3 (Q := 4) (R := 256) (C := 512) (Q' := 1) (R' := 256) (C' := 512) arg6.view X6 wg h6 1 _
  have b10 : (View.readAt (Elt Ideal) arg7.view (Rect.unit (s := S1x2048) ![0, 256] S1x256.size inb_S1x2048_S1x256_0_256).toLoadRect X7) = vec2 (fun r c => bg r (1024 * 0 + 256 * 1 + c)) := by
    rw [load2 (R := 1) (C := 2048) (R' := 1) (C' := 256) arg7.view X7 bg h7 _ 0 (1024 * 0 + 256 * 1) rfl]; simp only [Nat.zero_add]
  have b11 : (View.readAt (Elt Ideal) arg7.view (Rect.unit (s := S1x2048) ![0, 1280] S1x256.size inb_S1x2048_S1x256_0_1280).toLoadRect X7) = vec2 (fun r c => bg r (1024 * 1 + 256 * 1 + c)) := by
    rw [load2 (R := 1) (C := 2048) (R' := 1) (C' := 256) arg7.view X7 bg h7 _ 0 (1024 * 1 + 256 * 1) rfl]; simp only [Nat.zero_add]
  have x2 : (View.readAt (Elt Ideal) arg11.view (Rect.unit (s := S256x1024) ![0, 512] S256x256.size inb_S256x1024_S256x256_0_512).toLoadRect X11) = vec2 (fun r k => xc r (256 * 2 + k)) := by
    rw [load2 (R := 256) (C := 1024) (R' := 256) (C' := 256) arg11.view X11 xc h11 _ 0 (256 * 2) rfl]; simp only [Nat.zero_add]
  have w2 : (View.readAt (Elt Ideal) arg6.view (Rect.unit (s := S4x256x512) ![2, 0, 0] S1x256x512.size inb_S4x256x512_S1x256x512_2_0_0).toLoadRect X6) = vec3 (fun a k c => wg (2 + a) k c) := load3 (Q := 4) (R := 256) (C := 512) (Q' := 1) (R' := 256) (C' := 512) arg6.view X6 wg h6 2 _
  have b20 : (View.readAt (Elt Ideal) arg7.view (Rect.unit (s := S1x2048) ![0, 512] S1x256.size inb_S1x2048_S1x256_0_512).toLoadRect X7) = vec2 (fun r c => bg r (1024 * 0 + 256 * 2 + c)) := by
    rw [load2 (R := 1) (C := 2048) (R' := 1) (C' := 256) arg7.view X7 bg h7 _ 0 (1024 * 0 + 256 * 2) rfl]; simp only [Nat.zero_add]
  have b21 : (View.readAt (Elt Ideal) arg7.view (Rect.unit (s := S1x2048) ![0, 1536] S1x256.size inb_S1x2048_S1x256_0_1536).toLoadRect X7) = vec2 (fun r c => bg r (1024 * 1 + 256 * 2 + c)) := by
    rw [load2 (R := 1) (C := 2048) (R' := 1) (C' := 256) arg7.view X7 bg h7 _ 0 (1024 * 1 + 256 * 2) rfl]; simp only [Nat.zero_add]
  have x3 : (View.readAt (Elt Ideal) arg11.view (Rect.unit (s := S256x1024) ![0, 768] S256x256.size inb_S256x1024_S256x256_0_768).toLoadRect X11) = vec2 (fun r k => xc r (256 * 3 + k)) := by
    rw [load2 (R := 256) (C := 1024) (R' := 256) (C' := 256) arg11.view X11 xc h11 _ 0 (256 * 3) rfl]; simp only [Nat.zero_add]
  have w3 : (View.readAt (Elt Ideal) arg6.view (Rect.unit (s := S4x256x512) ![3, 0, 0] S1x256x512.size inb_S4x256x512_S1x256x512_3_0_0).toLoadRect X6) = vec3 (fun a k c => wg (3 + a) k c) := load3 (Q := 4) (R := 256) (C := 512) (Q' := 1) (R' := 256) (C' := 512) arg6.view X6 wg h6 3 _
  have b30 : (View.readAt (Elt Ideal) arg7.view (Rect.unit (s := S1x2048) ![0, 768] S1x256.size inb_S1x2048_S1x256_0_768).toLoadRect X7) = vec2 (fun r c => bg r (1024 * 0 + 256 * 3 + c)) := by
    rw [load2 (R := 1) (C := 2048) (R' := 1) (C' := 256) arg7.view X7 bg h7 _ 0 (1024 * 0 + 256 * 3) rfl]; simp only [Nat.zero_add]
  have b31 : (View.readAt (Elt Ideal) arg7.view (Rect.unit (s := S1x2048) ![0, 1792] S1x256.size inb_S1x2048_S1x256_0_1792).toLoadRect X7) = vec2 (fun r c => bg r (1024 * 1 + 256 * 3 + c)) := by
    rw [load2 (R := 1) (C := 2048) (R' := 1) (C' := 256) arg7.view X7 bg h7 _ 0 (1024 * 1 + 256 * 3) rfl]; simp only [Nat.zero_add]
  rw [x0, w0, b00, b01, x1, w1, b10, b11, x2, w2, b20, b21, x3, w3, b30, b31, pay30, pay31, pay33, pay34, pay37, pay38, pay40, pay41]
  funext y
  refine View.read_writes_apply_of_pieces (Val := Elt Ideal) (s := S256x2048) (e := .f32) arg12.view G (vec2 (R := 256) (C := 2048) (gate xc wg bg) : S256x2048.Idx → EReal) _ ?_ y ?_
  · intro p hp
    simp only [List.mem_cons, List.not_mem_nil, or_false] at hp
    obtain rfl | rfl | rfl | rfl | rfl | rfl | rfl | rfl := hp
    · exact fun x => piece_gate xc wg bg 3 1 (by norm_num) 1792 256 (by norm_num) (by norm_num) inb_S256x2048_S256x256_0_1792 x
    · exact fun x => piece_gate xc wg bg 3 0 (by norm_num) 768 0 (by norm_num) (by norm_num) inb_S256x2048_S256x256_0_768 x
    · exact fun x => piece_gate xc wg bg 2 1 (by norm_num) 1536 256 (by norm_num) (by norm_num) inb_S256x2048_S256x256_0_1536 x
    · exact fun x => piece_gate xc wg bg 2 0 (by norm_num) 512 0 (by norm_num) (by norm_num) inb_S256x2048_S256x256_0_512 x
    · exact fun x => piece_gate xc wg bg 1 1 (by norm_num) 1280 256 (by norm_num) (by norm_num) inb_S256x2048_S256x256_0_1280 x
    · exact fun x => piece_gate xc wg bg 1 0 (by norm_num) 256 0 (by norm_num) (by norm_num) inb_S256x2048_S256x256_0_256 x
    · exact fun x => piece_gate xc wg bg 0 1 (by norm_num) 1024 256 (by norm_num) (by norm_num) inb_S256x2048_S256x256_0_1024 x
    · exact fun x => piece_gate xc wg bg 0 0 (by norm_num) 0 0 (by norm_num) (by norm_num) inb_S256x2048_S256x256_0_0 x
  · have h1 : (y 1).val < 2048 := (y 1).isLt
    have hc : (1792 ≤ (y 1).val ∧ (y 1).val < 1792 + 256) ∨ (768 ≤ (y 1).val ∧ (y 1).val < 768 + 256) ∨ (1536 ≤ (y 1).val ∧ (y 1).val < 1536 + 256) ∨ (512 ≤ (y 1).val ∧ (y 1).val < 512 + 256) ∨ (1280 ≤ (y 1).val ∧ (y 1).val < 1280 + 256) ∨ (256 ≤ (y 1).val ∧ (y 1).val < 256 + 256) ∨ (1024 ≤ (y 1).val ∧ (y 1).val < 1024 + 256) ∨ (0 ≤ (y 1).val ∧ (y 1).val < 0 + 256) := by omega
    rcases hc with h | h | h | h | h | h | h | h
    · exact ⟨_, List.mem_of_getElem? (i := 0) rfl, mem_cols 1792 inb_S256x2048_S256x256_0_1792 y h⟩
    · exact ⟨_, List.mem_of_getElem? (i := 1) rfl, mem_cols 768 inb_S256x2048_S256x256_0_768 y h⟩
    · exact ⟨_, List.mem_of_getElem? (i := 2) rfl, mem_cols 1536 inb_S256x2048_S256x256_0_1536 y h⟩
    · exact ⟨_, List.mem_of_getElem? (i := 3) rfl, mem_cols 512 inb_S256x2048_S256x256_0_512 y h⟩
    · exact ⟨_, List.mem_of_getElem? (i := 4) rfl, mem_cols 1280 inb_S256x2048_S256x256_0_1280 y h⟩
    · exact ⟨_, List.mem_of_getElem? (i := 5) rfl, mem_cols 256 inb_S256x2048_S256x256_0_256 y h⟩
    · exact ⟨_, List.mem_of_getElem? (i := 6) rfl, mem_cols 1024 inb_S256x2048_S256x256_0_1024 y h⟩
    · exact ⟨_, List.mem_of_getElem? (i := 7) rfl, mem_cols 0 inb_S256x2048_S256x256_0_0 y h⟩

/-- The rows with their history in front, stored in two pieces. -/
theorem ext_read (arg10 : Memref sig .tc .vmem S264x1024 .f32) (hist xa : ℕ → ℕ → EReal)
    (w : Vec Ideal S256x1024 .f32) (hw : w = vec2 xa) (w' : Vec Ideal S8x1024 .f32) (hw' : w' = vec2 hist)
    (G : BufTy.Contents (Elt Ideal) arg10.view.ty) :
    arg10.view.read (Elt Ideal) (arg10.view.writes (Elt Ideal) G
      [⟨Rect.unit (s := S264x1024) ![8, 0] S256x1024.size inb_S264x1024_S256x1024_8_0, w⟩,
        ⟨Rect.unit (s := S264x1024) ![0, 0] S8x1024.size inb_S264x1024_S8x1024_0_0, w'⟩]) = vec2 (ext hist xa) := by
  subst hw; subst hw'
  funext y
  have h0 : (y 0).val < 264 := (y 0).isLt
  refine store_rows (R := 264) (C := 1024) (R' := 256) arg10.view G xa _ _ 8 rfl _ _ (fun r => r < 8) _ rfl (fun r _ c => ?_) (fun y hy => ?_) y (by omega)
  · simp only [ext, show ¬8 + r < 8 by omega, if_false, Nat.add_sub_cancel_left]
  · refine store_rows (R := 264) (C := 1024) (R' := 8) arg10.view G hist _ _ 0 rfl _ _ (fun r => False) _ rfl (fun r hr c => ?_) (fun _ h => h.elim) y (by omega)
    simp only [ext, Nat.zero_add, hr, if_true]

/-- A store of the whole state. -/
theorem state_read (arg13 : Memref sig .tc .vmem S8x1024 .f32) (f : ℕ → ℕ → EReal)
    (w : Vec Ideal S8x1024 .f32) (hw : w = vec2 f) (G : BufTy.Contents (Elt Ideal) arg13.view.ty) (L : List (View.Piece (Elt Ideal) S8x1024 .f32)) :
    arg13.view.read (Elt Ideal) (arg13.view.writes (Elt Ideal) G
      (⟨Rect.unit (s := S8x1024) ![0, 0] S8x1024.size inb_S8x1024_S8x1024_0_0, w⟩ :: L)) = vec2 f := by
  funext y
  have h0 : (y 0).val < 8 := (y 0).isLt
  exact store_rows (R := 8) (C := 1024) (R' := 8) arg13.view G f f _ 0 rfl _ _ (fun _ => False) _ hw (fun r _ c => by rw [Nat.zero_add]) (fun _ h => h.elim) y (by omega)

theorem trips1 : Scf.trips k0_t1_loop.lb k0_t1_loop.ub k0_t1_loop.st = 16 := by decide +kernel

theorem trips2 : Scf.trips k0_t2_loop.lb k0_t2_loop.ub k0_t2_loop.st = 16 := by decide +kernel

end Cert.KernelIdeal.Lru

end
-- ==== Proof.Lru.RunA.lean ====
/- One run of the recurrence's body, at a point that starts a sequence. -/
module

public import proofs.«01_k».proof.Proof.Lru.Gates
public import Idealize.ShloMosaic.Lib.Pipeline.ValueKit

@[expose] public section

set_option maxRecDepth 16384

noncomputable section

namespace Cert.KernelIdeal.Lru

open Cert.Rec
open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

set_option maxHeartbeats 2000000 in
/-- One run of the body at a point that starts a sequence. -/
theorem runA (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S4x1024 .f32) (harg4 : arg4.IsWhole) (arg5 : Memref sig .tc .vmem S1x1024 .f32) (harg5 : arg5.IsWhole) (arg6 : Memref sig .tc .vmem S4x256x512 .bf16) (harg6 : arg6.IsWhole) (arg7 : Memref sig .tc .vmem S1x2048 .f32) (harg7 : arg7.IsWhole) (arg8 : Memref sig .tc .vmem S1x1024 .f32) (harg8 : arg8.IsWhole) (arg9 : Memref sig .tc .vmem S256x1024 .bf16) (harg9 : arg9.IsWhole) (arg10 : Memref sig .tc .vmem S264x1024 .f32) (harg10 : arg10.IsWhole) (arg11 : Memref sig .tc .vmem S256x1024 .f32) (harg11 : arg11.IsWhole) (arg12 : Memref sig .tc .vmem S256x2048 .f32) (harg12 : arg12.IsWhole) (arg13 : Memref sig .tc .vmem S8x1024 .f32) (harg13 : arg13.IsWhole) (hc0 : cond0_0 i) (hc1 : ¬cond0_1 i) (hc2 : cond0_2 i)
    (xa az cw cb : ℕ → ℕ → EReal) (wg : ℕ → ℕ → ℕ → EReal) (bg lam : ℕ → ℕ → EReal) (E : Set ℕ) (K : PUnit → sProp 𝕄) :
        iprop(owns (c : Thread nD τ) arg2 fullShare (vec2 xa) ∗ owns (c : Thread nD τ) arg3 fullShare (vec2 az) ∗ owns (c : Thread nD τ) arg4 fullShare (vec2 cw) ∗ owns (c : Thread nD τ) arg5 fullShare (vec2 cb) ∗ owns (c : Thread nD τ) arg6 fullShare (vec3 wg) ∗ owns (c : Thread nD τ) arg7 fullShare (vec2 bg) ∗ owns (c : Thread nD τ) arg8 fullShare (vec2 lam) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg2 fullShare (vec2 xa) ∗ owns (c : Thread nD τ) arg3 fullShare (vec2 az) ∗ owns (c : Thread nD τ) arg4 fullShare (vec2 cw) ∗ owns (c : Thread nD τ) arg5 fullShare (vec2 cb) ∗ owns (c : Thread nD τ) arg6 fullShare (vec3 wg) ∗ owns (c : Thread nD τ) arg7 fullShare (vec2 bg) ∗ owns (c : Thread nD τ) arg8 fullShare (vec2 lam) ∗ owns (c : Thread nD τ) arg9 fullShare (vec2 (blockOut cw cb wg bg lam (ext (fun _ _ => 0) xa) az (fun _ => 0))) ∗ owns (c : Thread nD τ) arg10 fullShare (vec2 (ext (fun _ _ => 0) xa)) ∗ (∃ d, owns (c : Thread nD τ) arg11 fullShare d) ∗ (∃ d, owns (c : Thread nD τ) arg12 fullShare d) ∗ owns (c : Thread nD τ) arg13 fullShare (vec2 fun _ c => blockState cw cb wg bg lam (ext (fun _ _ => 0) xa) (fun _ => 0) 256 c)) -∗ K ⟨⟩))
          ⊢ wp frame (wpE (defs₀ (F := Ideal)) Variants.none c none) E (cc0_rglru i arg2 harg2 arg3 harg3 arg4 harg4 arg5 harg5 arg6 harg6 arg7 harg7 arg8 harg8 arg9 harg9 arg10 harg10 arg11 harg11 arg12 harg12 arg13 harg13) K := by
    simp only [cc0_rglru_eq_skeleton]; unfold cc0_rglru_skel
    simp only [k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, ⟨%ds1, %fs1, -, HS1⟩, ⟨%ds2, %fs2, -, HS2⟩, ⟨%ds3, %fs3, -, HS3⟩, Hk⟩
    have l2 : View.readAt (Elt Ideal) arg2.view (Rect.unit (s := S256x1024) ![0, 0] S256x1024.size inb_S256x1024_S256x1024_0_0).toLoadRect f0 = vec2 xa := by
      rw [load2 (R := 256) (C := 1024) (R' := 256) (C' := 1024) arg2.view f0 xa hf0 _ 0 0 rfl]; simp only [Nat.zero_add]
    have l4 : View.readAt (Elt Ideal) arg4.view (Rect.unit (s := S4x1024) ![0, 0] S4x1024.size inb_S4x1024_S4x1024_0_0).toLoadRect f2 = vec2 cw := by
      rw [load2 (R := 4) (C := 1024) (R' := 4) (C' := 1024) arg4.view f2 cw hf2 _ 0 0 rfl]; simp only [Nat.zero_add]
    have l5 : View.readAt (Elt Ideal) arg5.view (Rect.unit (s := S1x1024) ![0, 0] S1x1024.size inb_S1x1024_S1x1024_0_0).toLoadRect f3 = vec2 cb := by
      rw [load2 (R := 1) (C := 1024) (R' := 1) (C' := 1024) arg5.view f3 cb hf3 _ 0 0 rfl]; simp only [Nat.zero_add]
    have l8 : View.readAt (Elt Ideal) arg8.view (Rect.unit (s := S1x1024) ![0, 0] S1x1024.size inb_S1x1024_S1x1024_0_0).toLoadRect f6 = vec2 lam := by
      rw [load2 (R := 1) (C := 1024) (R' := 1) (C' := 1024) arg8.view f6 lam hf6 _ 0 0 rfl]; simp only [Nat.zero_add]
    have lz : View.readCov (Val := Elt Ideal) arg13.view [⟨Rect.unit (s := S8x1024) ![0, 0] S8x1024.size inb_S8x1024_S8x1024_0_0, vec2 fun _ _ => 0⟩] (Rect.unit (s := S8x1024) ![0, 0] S8x1024.size inb_S8x1024_S8x1024_0_0).toLoadRect = vec2 fun _ _ => 0 :=
      View.readCov_unit_lit arg13.view inb_S8x1024_S8x1024_0_0 _ (by decide)
    sl_exec (disch := first | sl_exact hc0 | sl_exact hc1 | sl_exact hc2)
    sl_step
    iapply Hk
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; isplitr; · ipureintro; exact hf5
      iexact H5
    isplitl [H6]
    · iexists _; isplitr; · ipureintro; exact hf6
      iexact H6
    isplitl [H7]
    · iexists _; isplitr; swap; · iexact H7
      ipureintro
      sl_unfold_words
      simp only [l2, l4, l5, l8, pay23, pay25, pay26, trips1, trips2, lz]
      exact funext fun y => (t2_read c i arg2 harg2 arg3 harg3 arg4 harg4 arg5 harg5 arg6 harg6 arg7 harg7 arg8 harg8 arg9 harg9 arg10 harg10 arg11 harg11 arg12 harg12 arg13 harg13 lam az (conv cw cb (ext (fun _ _ => 0) xa)) (gate (conv cw cb (ext (fun _ _ => 0) xa)) wg bg) (fun _ => 0) f1 hf1 _
        (funext fun y => t1_read c i arg2 harg2 arg3 harg3 arg4 harg4 arg5 harg5 arg6 harg6 arg7 harg7 arg8 harg8 arg9 harg9 arg10 harg10 arg11 harg11 arg12 harg12 arg13 harg13 cw cb (ext (fun _ _ => 0) xa) _ (ext_read arg10 (fun _ _ => 0) xa _ rfl _ rfl _) _ 16 le_rfl y (y 0).isLt) _
        (gates_read arg6 arg7 arg11 arg12 (conv cw cb (ext (fun _ _ => 0) xa)) wg bg f4 hf4 f5 hf5 _
          (funext fun y => t1_read c i arg2 harg2 arg3 harg3 arg4 harg4 arg5 harg5 arg6 harg6 arg7 harg7 arg8 harg8 arg9 harg9 arg10 harg10 arg11 harg11 arg12 harg12 arg13 harg13 cw cb (ext (fun _ _ => 0) xa) _ (ext_read arg10 (fun _ _ => 0) xa _ rfl _ rfl _) _ 16 le_rfl y (y 0).isLt) _) f7 16 le_rfl).2 y (y 0).isLt
    isplitl [HS0]
    · iexists _; isplitr; swap; · iexact HS0
      ipureintro
      sl_unfold_words
      simp only [l2, l4, l5, l8, pay23, pay25, pay26]
      exact ext_read arg10 (fun _ _ => 0) xa _ rfl _ rfl _
    isplitl [HS1]
    · iexists _, _; isplitr; swap; · iexact HS1
      ipureintro; rfl
    isplitl [HS2]
    · iexists _, _; isplitr; swap; · iexact HS2
      ipureintro; rfl
    iexists _; isplitr; swap; · iexact HS3
    ipureintro
    sl_unfold_words
    simp only [l2, l4, l5, l8, pay23, pay25, pay26, trips1, trips2, lz]
    refine state_read arg13 (fun _ c => blockState cw cb wg bg lam (ext (fun _ _ => 0) xa) (fun _ => 0) 256 c) _ ?_ _ _
    refine (congrArg (k0_pay5 (F := Ideal)) (t2_read c i arg2 harg2 arg3 harg3 arg4 harg4 arg5 harg5 arg6 harg6 arg7 harg7 arg8 harg8 arg9 harg9 arg10 harg10 arg11 harg11 arg12 harg12 arg13 harg13 lam az (conv cw cb (ext (fun _ _ => 0) xa)) (gate (conv cw cb (ext (fun _ _ => 0) xa)) wg bg) (fun _ => 0) f1 hf1 _
        (funext fun y => t1_read c i arg2 harg2 arg3 harg3 arg4 harg4 arg5 harg5 arg6 harg6 arg7 harg7 arg8 harg8 arg9 harg9 arg10 harg10 arg11 harg11 arg12 harg12 arg13 harg13 cw cb (ext (fun _ _ => 0) xa) _ (ext_read arg10 (fun _ _ => 0) xa _ rfl _ rfl _) _ 16 le_rfl y (y 0).isLt) _
        (gates_read arg6 arg7 arg11 arg12 (conv cw cb (ext (fun _ _ => 0) xa)) wg bg f4 hf4 f5 hf5 _
          (funext fun y => t1_read c i arg2 harg2 arg3 harg3 arg4 harg4 arg5 harg5 arg6 harg6 arg7 harg7 arg8 harg8 arg9 harg9 arg10 harg10 arg11 harg11 arg12 harg12 arg13 harg13 cw cb (ext (fun _ _ => 0) xa) _ (ext_read arg10 (fun _ _ => 0) xa _ rfl _ rfl _) _ 16 le_rfl y (y 0).isLt) _) f7 16 le_rfl).1).trans ((pay5 _).trans ?_)
    rfl

end Cert.KernelIdeal.Lru

end
-- ==== Proof.Lru.RunB.lean ====
/- One run of the recurrence's body, at a point that continues a sequence. -/
module

public import proofs.«01_k».proof.Proof.Lru.Gates

@[expose] public section

set_option maxRecDepth 16384

noncomputable section

namespace Cert.KernelIdeal.Lru

open Cert.Rec
open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

set_option maxHeartbeats 2000000 in
/-- One run of the body at a point that continues a sequence. -/
theorem runB (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S4x1024 .f32) (harg4 : arg4.IsWhole) (arg5 : Memref sig .tc .vmem S1x1024 .f32) (harg5 : arg5.IsWhole) (arg6 : Memref sig .tc .vmem S4x256x512 .bf16) (harg6 : arg6.IsWhole) (arg7 : Memref sig .tc .vmem S1x2048 .f32) (harg7 : arg7.IsWhole) (arg8 : Memref sig .tc .vmem S1x1024 .f32) (harg8 : arg8.IsWhole) (arg9 : Memref sig .tc .vmem S256x1024 .bf16) (harg9 : arg9.IsWhole) (arg10 : Memref sig .tc .vmem S264x1024 .f32) (harg10 : arg10.IsWhole) (arg11 : Memref sig .tc .vmem S256x1024 .f32) (harg11 : arg11.IsWhole) (arg12 : Memref sig .tc .vmem S256x2048 .f32) (harg12 : arg12.IsWhole) (arg13 : Memref sig .tc .vmem S8x1024 .f32) (harg13 : arg13.IsWhole) (hc0 : ¬cond0_0 i) (hc1 : cond0_1 i) (hc2 : ¬cond0_2 i)
    (xa az cw cb : ℕ → ℕ → EReal) (wg : ℕ → ℕ → ℕ → EReal) (bg lam : ℕ → ℕ → EReal) (xp : ℕ → ℕ → EReal) (h : ℕ → EReal) (E : Set ℕ) (K : PUnit → sProp 𝕄) :
        iprop(owns (c : Thread nD τ) arg2 fullShare (vec2 xa) ∗ owns (c : Thread nD τ) arg3 fullShare (vec2 az) ∗ owns (c : Thread nD τ) arg4 fullShare (vec2 cw) ∗ owns (c : Thread nD τ) arg5 fullShare (vec2 cb) ∗ owns (c : Thread nD τ) arg6 fullShare (vec3 wg) ∗ owns (c : Thread nD τ) arg7 fullShare (vec2 bg) ∗ owns (c : Thread nD τ) arg8 fullShare (vec2 lam) ∗ (∃ d, owns (c : Thread nD τ) arg9 fullShare d) ∗ owns (c : Thread nD τ) arg10 fullShare (vec2 xp) ∗ (∃ d, owns (c : Thread nD τ) arg11 fullShare d) ∗ (∃ d, owns (c : Thread nD τ) arg12 fullShare d) ∗ owns (c : Thread nD τ) arg13 fullShare (vec2 fun _ c => h c)
            ∗ (iprop(owns (c : Thread nD τ) arg2 fullShare (vec2 xa) ∗ owns (c : Thread nD τ) arg3 fullShare (vec2 az) ∗ owns (c : Thread nD τ) arg4 fullShare (vec2 cw) ∗ owns (c : Thread nD τ) arg5 fullShare (vec2 cb) ∗ owns (c : Thread nD τ) arg6 fullShare (vec3 wg) ∗ owns (c : Thread nD τ) arg7 fullShare (vec2 bg) ∗ owns (c : Thread nD τ) arg8 fullShare (vec2 lam) ∗ owns (c : Thread nD τ) arg9 fullShare (vec2 (blockOut cw cb wg bg lam (ext (fun r => xp (256 + r)) xa) az h)) ∗ owns (c : Thread nD τ) arg10 fullShare (vec2 (ext (fun r => xp (256 + r)) xa)) ∗ (∃ d, owns (c : Thread nD τ) arg11 fullShare d) ∗ (∃ d, owns (c : Thread nD τ) arg12 fullShare d) ∗ owns (c : Thread nD τ) arg13 fullShare (vec2 fun _ c => blockState cw cb wg bg lam (ext (fun r => xp (256 + r)) xa) h 256 c)) -∗ K ⟨⟩))
          ⊢ wp frame (wpE (defs₀ (F := Ideal)) Variants.none c none) E (cc0_rglru i arg2 harg2 arg3 harg3 arg4 harg4 arg5 harg5 arg6 harg6 arg7 harg7 arg8 harg8 arg9 harg9 arg10 harg10 arg11 harg11 arg12 harg12 arg13 harg13) K := by
    simp only [cc0_rglru_eq_skeleton]; unfold cc0_rglru_skel
    simp only [k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, ⟨%ds1, %fs1, -, HS1⟩, ⟨%ds2, %fs2, -, HS2⟩, ⟨%fs3, %hfs3, HS3⟩, Hk⟩
    have l2 : View.readAt (Elt Ideal) arg2.view (Rect.unit (s := S256x1024) ![0, 0] S256x1024.size inb_S256x1024_S256x1024_0_0).toLoadRect f0 = vec2 xa := by
      rw [load2 (R := 256) (C := 1024) (R' := 256) (C' := 1024) arg2.view f0 xa hf0 _ 0 0 rfl]; simp only [Nat.zero_add]
    have l4 : View.readAt (Elt Ideal) arg4.view (Rect.unit (s := S4x1024) ![0, 0] S4x1024.size inb_S4x1024_S4x1024_0_0).toLoadRect f2 = vec2 cw := by
      rw [load2 (R := 4) (C := 1024) (R' := 4) (C' := 1024) arg4.view f2 cw hf2 _ 0 0 rfl]; simp only [Nat.zero_add]
    have l5 : View.readAt (Elt Ideal) arg5.view (Rect.unit (s := S1x1024) ![0, 0] S1x1024.size inb_S1x1024_S1x1024_0_0).toLoadRect f3 = vec2 cb := by
      rw [load2 (R := 1) (C := 1024) (R' := 1) (C' := 1024) arg5.view f3 cb hf3 _ 0 0 rfl]; simp only [Nat.zero_add]
    have l8 : View.readAt (Elt Ideal) arg8.view (Rect.unit (s := S1x1024) ![0, 0] S1x1024.size inb_S1x1024_S1x1024_0_0).toLoadRect f6 = vec2 lam := by
      rw [load2 (R := 1) (C := 1024) (R' := 1) (C' := 1024) arg8.view f6 lam hf6 _ 0 0 rfl]; simp only [Nat.zero_add]
    have l13 : View.readAt (Elt Ideal) arg13.view (Rect.unit (s := S8x1024) ![0, 0] S8x1024.size inb_S8x1024_S8x1024_0_0).toLoadRect fs3 = vec2 (fun _ c => h c) := by
      rw [load2 (R := 8) (C := 1024) (R' := 8) (C' := 1024) arg13.view fs3 (fun _ c => h c) hfs3 _ 0 0 rfl]; simp only [Nat.zero_add]
    have l10 : View.readAt (Elt Ideal) arg10.view (Rect.unit (s := S264x1024) ![256, 0] S8x1024.size inb_S264x1024_S8x1024_256_0).toLoadRect fs0 = vec2 (fun r => xp (256 + r)) := by
      rw [load2 (R := 264) (C := 1024) (R' := 8) (C' := 1024) arg10.view fs0 xp hfs0 _ 256 0 rfl]; simp only [Nat.zero_add]
    sl_exec (disch := first | sl_exact hc0 | sl_exact hc1 | sl_exact hc2)
    sl_step
    iapply Hk
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; isplitr; · ipureintro; exact hf5
      iexact H5
    isplitl [H6]
    · iexists _; isplitr; · ipureintro; exact hf6
      iexact H6
    isplitl [H7]
    · iexists _; isplitr; swap; · iexact H7
      ipureintro
      sl_unfold_words
      simp only [l2, l4, l5, l8, l13, l10, pay24, pay26, trips1, trips2]
      exact funext fun y => (t2_read c i arg2 harg2 arg3 harg3 arg4 harg4 arg5 harg5 arg6 harg6 arg7 harg7 arg8 harg8 arg9 harg9 arg10 harg10 arg11 harg11 arg12 harg12 arg13 harg13 lam az (conv cw cb (ext (fun r => xp (256 + r)) xa)) (gate (conv cw cb (ext (fun r => xp (256 + r)) xa)) wg bg) h f1 hf1 _
        (funext fun y => t1_read c i arg2 harg2 arg3 harg3 arg4 harg4 arg5 harg5 arg6 harg6 arg7 harg7 arg8 harg8 arg9 harg9 arg10 harg10 arg11 harg11 arg12 harg12 arg13 harg13 cw cb (ext (fun r => xp (256 + r)) xa) _ (ext_read arg10 (fun r => xp (256 + r)) xa _ rfl _ rfl _) _ 16 le_rfl y (y 0).isLt) _
        (gates_read arg6 arg7 arg11 arg12 (conv cw cb (ext (fun r => xp (256 + r)) xa)) wg bg f4 hf4 f5 hf5 _
          (funext fun y => t1_read c i arg2 harg2 arg3 harg3 arg4 harg4 arg5 harg5 arg6 harg6 arg7 harg7 arg8 harg8 arg9 harg9 arg10 harg10 arg11 harg11 arg12 harg12 arg13 harg13 cw cb (ext (fun r => xp (256 + r)) xa) _ (ext_read arg10 (fun r => xp (256 + r)) xa _ rfl _ rfl _) _ 16 le_rfl y (y 0).isLt) _) f7 16 le_rfl).2 y (y 0).isLt
    isplitl [HS0]
    · iexists _; isplitr; swap; · iexact HS0
      ipureintro
      sl_unfold_words
      simp only [l2, l4, l5, l8, l13, l10, pay24, pay26]
      exact ext_read arg10 (fun r => xp (256 + r)) xa _ rfl _ rfl _
    isplitl [HS1]
    · iexists _, _; isplitr; swap; · iexact HS1
      ipureintro; rfl
    isplitl [HS2]
    · iexists _, _; isplitr; swap; · iexact HS2
      ipureintro; rfl
    iexists _; isplitr; swap; · iexact HS3
    ipureintro
    sl_unfold_words
    simp only [l2, l4, l5, l8, l13, l10, pay24, pay26, trips1, trips2]
    refine state_read arg13 (fun _ c => blockState cw cb wg bg lam (ext (fun r => xp (256 + r)) xa) h 256 c) _ ?_ _ _
    refine (congrArg (k0_pay5 (F := Ideal)) (t2_read c i arg2 harg2 arg3 harg3 arg4 harg4 arg5 harg5 arg6 harg6 arg7 harg7 arg8 harg8 arg9 harg9 arg10 harg10 arg11 harg11 arg12 harg12 arg13 harg13 lam az (conv cw cb (ext (fun r => xp (256 + r)) xa)) (gate (conv cw cb (ext (fun r => xp (256 + r)) xa)) wg bg) h f1 hf1 _
        (funext fun y => t1_read c i arg2 harg2 arg3 harg3 arg4 harg4 arg5 harg5 arg6 harg6 arg7 harg7 arg8 harg8 arg9 harg9 arg10 harg10 arg11 harg11 arg12 harg12 arg13 harg13 cw cb (ext (fun r => xp (256 + r)) xa) _ (ext_read arg10 (fun r => xp (256 + r)) xa _ rfl _ rfl _) _ 16 le_rfl y (y 0).isLt) _
        (gates_read arg6 arg7 arg11 arg12 (conv cw cb (ext (fun r => xp (256 + r)) xa)) wg bg f4 hf4 f5 hf5 _
          (funext fun y => t1_read c i arg2 harg2 arg3 harg3 arg4 harg4 arg5 harg5 arg6 harg6 arg7 harg7 arg8 harg8 arg9 harg9 arg10 harg10 arg11 harg11 arg12 harg12 arg13 harg13 cw cb (ext (fun r => xp (256 + r)) xa) _ (ext_read arg10 (fun r => xp (256 + r)) xa _ rfl _ rfl _) _ 16 le_rfl y (y 0).isLt) _) f7 16 le_rfl).1).trans ((pay5 _).trans ?_)
    rfl

end Cert.KernelIdeal.Lru

end
-- ==== Proof.Lru.Chain.lean ====
/- The recurrence over the whole grid: what each point finds and leaves, read by natural numbers. -/
module

public import proofs.«01_k».proof.Proof.Lru.Spec

@[expose] public section

set_option maxRecDepth 16384

noncomputable section

namespace Cert.Rec

open Idealize.ShloMosaic

/-- A vector read by a natural number, zero outside it. -/
def at1 {C : ℕ} (X : (⟨1, ![C]⟩ : Shape).Idx → EReal) (c : ℕ) : EReal := if h : c < C then X (ix1 ⟨c, h⟩) else 0

/-- A matrix read by natural numbers, zero outside it. -/
def at2 {R C : ℕ} (X : (⟨2, ![R, C]⟩ : Shape).Idx → EReal) (r c : ℕ) : EReal :=
  if h : r < R ∧ c < C then X (ix2 ⟨r, h.1⟩ ⟨c, h.2⟩) else 0

/-- A three-axis array read by natural numbers, zero outside it. -/
def at3 {A B C : ℕ} (X : (⟨3, ![A, B, C]⟩ : Shape).Idx → EReal) (a b c : ℕ) : EReal :=
  if h : a < A ∧ b < B ∧ c < C then X (ix3 ⟨a, h.1⟩ ⟨b, h.2.1⟩ ⟨c, h.2.2⟩) else 0

theorem at1_of {C : ℕ} (X : (⟨1, ![C]⟩ : Shape).Idx → EReal) (c : Fin C) : at1 X c.val = X (ix1 c) := by
  unfold at1; rw [dif_pos c.isLt]

theorem at2_of {R C : ℕ} (X : (⟨2, ![R, C]⟩ : Shape).Idx → EReal) (r : Fin R) (c : Fin C) : at2 X r.val c.val = X (ix2 r c) := by
  unfold at2; rw [dif_pos ⟨r.isLt, c.isLt⟩]

theorem at3_of {A B C : ℕ} (X : (⟨3, ![A, B, C]⟩ : Shape).Idx → EReal) (a : Fin A) (b : Fin B) (c : Fin C) :
    at3 X a.val b.val c.val = X (ix3 a b c) := by
  unfold at3; rw [dif_pos ⟨a.isLt, b.isLt, c.isLt⟩]

theorem vec2_at2 {R C : ℕ} (X : (⟨2, ![R, C]⟩ : Shape).Idx → EReal) : vec2 (at2 X) = X := by
  funext y
  show at2 X (y 0).val (y 1).val = X y
  rw [at2_of X (y 0) (y 1)]
  exact congrArg X (ix2_eta y)

theorem vec3_at3 {A B C : ℕ} (X : (⟨3, ![A, B, C]⟩ : Shape).Idx → EReal) : vec3 (at3 X) = X := by
  funext y
  show at3 X (y 0).val (y 1).val (y 2).val = X y
  rw [at3_of X (y 0) (y 1) (y 2)]
  exact congrArg X (ix3_eta y)

/-- What the launch reads: the projection, the convolution's taps and bias, the gates' weights and biases, the decay's parameter. -/
structure Arrays where
  x : ℕ → ℕ → EReal
  cw : ℕ → ℕ → EReal
  cb : ℕ → ℕ → EReal
  wg : ℕ → ℕ → ℕ → EReal
  bg : ℕ → ℕ → EReal
  lam : ℕ → ℕ → EReal

namespace Arrays

variable (A : Arrays)

/-- The rows that point `n` convolves: its own 256 and the eight before them, zero at the start of a sequence of 32 points. -/
def win (n : ℕ) : ℕ → ℕ → EReal :=
  ext (if n % 32 = 0 then fun _ _ => 0 else fun r c => A.x (256 * (n - 1) + (248 + r)) c) (fun r c => A.x (256 * n + r) c)

/-- The gating rows of point `n`. -/
def gateRows (n r c : ℕ) : EReal := A.x (256 * n + r) (1024 + c)

/-- The state that point `n` starts from. -/
def start : ℕ → ℕ → EReal
  | 0 => fun _ => 0
  | n + 1 => if (n + 1) % 32 = 0 then fun _ => 0 else fun c => blockState A.cw A.cb A.wg A.bg A.lam (A.win n) (start n) 256 c

/-- The state that point `n` leaves. -/
def stop (n c : ℕ) : EReal := blockState A.cw A.cb A.wg A.bg A.lam (A.win n) (A.start n) 256 c

/-- The block that point `n` writes. -/
def block (n : ℕ) : ℕ → ℕ → EReal :=
  blockOut A.cw A.cb A.wg A.bg A.lam (A.win n) (A.gateRows n) (A.start n)

theorem win_first (n : ℕ) (h : n % 32 = 0) : A.win n = ext (fun _ _ => 0) (fun r c => A.x (256 * n + r) c) := by
  unfold win; rw [if_pos h]

theorem win_next (n : ℕ) (h : ¬n % 32 = 0) :
    A.win n = ext (fun r => A.win (n - 1) (256 + r)) (fun r c => A.x (256 * n + r) c) := by
  unfold win; rw [if_neg h]
  congr 1; funext r c
  unfold ext; rw [if_neg (by omega), show 256 + r - 8 = 248 + r by omega]

theorem start_first (n : ℕ) (h : n % 32 = 0) : A.start n = fun _ => 0 := by
  cases n with
  | zero => rfl
  | succ n => show (if _ then _ else _) = _; rw [if_pos h]

theorem start_next (n : ℕ) (h : ¬n % 32 = 0) : A.start n = fun c => A.stop (n - 1) c := by
  cases n with
  | zero => exact absurd rfl h
  | succ n => show (if _ then _ else _) = _; rw [if_neg h]; rfl

end Arrays

end Cert.Rec

end
-- ==== Proof.Lru.Blocks.lean ====
/- The input blocks of each point, read by natural numbers. -/
module

public import proofs.«01_k».proof.Proof.Lru.Base
public import proofs.«01_k».proof.Proof.Lru.Chain
public import Idealize.ShloMosaic.Lib.Pipeline.ValueKit

@[expose] public section

set_option maxRecDepth 16384

noncomputable section

namespace Cert.KernelIdeal.Lru

open Cert.Rec
open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The arrays that the launch reads, as it finds them. -/
def arrays (c : Dev nD) : Arrays where
  x := at2 (R := 16384) (C := 19456) (V m c main_arg0)
  cw := at2 (R := 4) (C := 1024) (V m c main_arg1)
  cb := at2 (R := 1) (C := 1024) (V m c main_v32)
  wg := at3 (A := 4) (B := 256) (C := 512) (V m c main_v29)
  bg := at2 (R := 1) (C := 2048) (V m c main_v31)
  lam := at2 (R := 1) (C := 1024) (V m c main_v33)

/-- Where each window's block lies. -/
theorem idx : ∀ t : Fin cfg0.N, win0_0.index t = ![t.val, 0] ∧ win0_1.index t = ![t.val, 1] ∧ win0_2.index t = ![0, 0]
    ∧ win0_3.index t = ![0, 0] ∧ win0_4.index t = ![0, 0, 0] ∧ win0_5.index t = ![0, 0] ∧ win0_6.index t = ![0, 0]
    ∧ win0_7.index t = ![t.val, 0] :=
  (by decide +kernel : ∀ t : Fin grid0.N, _)

theorem lt_N (t : Fin cfg0.N) : t.val < 64 := lt_of_lt_of_eq t.isLt (show cfg0.N = 64 from N_0)

theorem block0 (c : Dev nD) (t : Fin cfg0.N) : iblk m c 0 t = vec2 (R := 256) (C := 1024) (fun r q => (arrays m c).x (256 * t.val + r) q) := by
  have hN := lt_N t
  funext y
  have h0 : (y 0).val < 256 := (y 0).isLt
  have h1 : (y 1).val < 1024 := (y 1).isLt
  show _ = at2 (R := 16384) (C := 19456) (V m c main_arg0) (256 * t.val + (y 0).val) (y 1).val
  unfold at2
  rw [dif_pos ⟨by omega, by omega⟩]
  blk_ext [iblk, idx t]

theorem block1 (c : Dev nD) (t : Fin cfg0.N) : iblk m c 1 t = vec2 (R := 256) (C := 1024) (fun r q => (arrays m c).gateRows t.val r q) := by
  have hN := lt_N t
  funext y
  have h0 : (y 0).val < 256 := (y 0).isLt
  have h1 : (y 1).val < 1024 := (y 1).isLt
  show _ = at2 (R := 16384) (C := 19456) (V m c main_arg0) (256 * t.val + (y 0).val) (1024 + (y 1).val)
  unfold at2
  rw [dif_pos ⟨by omega, by omega⟩]
  blk_ext [iblk, idx t]

theorem block2 (c : Dev nD) (t : Fin cfg0.N) : iblk m c 2 t = vec2 (R := 4) (C := 1024) (arrays m c).cw := by
  refine Eq.trans ?_ (vec2_at2 (R := 4) (C := 1024) (V m c main_arg1)).symm
  funext y
  blk_ext [iblk, idx t]

theorem block3 (c : Dev nD) (t : Fin cfg0.N) : iblk m c 3 t = vec2 (R := 1) (C := 1024) (arrays m c).cb := by
  refine Eq.trans ?_ (vec2_at2 (R := 1) (C := 1024) (V m c main_v32)).symm
  funext y
  blk_ext [iblk, idx t]

theorem block4 (c : Dev nD) (t : Fin cfg0.N) : iblk m c 4 t = vec3 (Q := 4) (R := 256) (C := 512) (arrays m c).wg := by
  refine Eq.trans ?_ (vec3_at3 (A := 4) (B := 256) (C := 512) (V m c main_v29)).symm
  funext y
  blk_ext [iblk, idx t]

theorem block5 (c : Dev nD) (t : Fin cfg0.N) : iblk m c 5 t = vec2 (R := 1) (C := 2048) (arrays m c).bg := by
  refine Eq.trans ?_ (vec2_at2 (R := 1) (C := 2048) (V m c main_v31)).symm
  funext y
  blk_ext [iblk, idx t]

theorem block6 (c : Dev nD) (t : Fin cfg0.N) : iblk m c 6 t = vec2 (R := 1) (C := 1024) (arrays m c).lam := by
  refine Eq.trans ?_ (vec2_at2 (R := 1) (C := 1024) (V m c main_v33)).symm
  funext y
  blk_ext [iblk, idx t]

end Cert.KernelIdeal.Lru

end
-- ==== Proof.Lru.Frame.lean ====
/- The recurrence's launch: what the carried buffers hold before each point, the body at each point, and the run. -/
module

public import proofs.«01_k».proof.Proof.Lru.RunA
public import proofs.«01_k».proof.Proof.Lru.RunB
public import proofs.«01_k».proof.Proof.Lru.Blocks

@[expose] public section

set_option maxRecDepth 16384

noncomputable section

namespace Cert.KernelIdeal.Lru

open Cert.Rec
open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- What is held before position `n`: at the first nothing is known of the four scratch buffers; afterwards the history
    buffer holds the rows that the point before convolved, and the state buffer the state that it left. -/
def PhiS (c : Dev nD) : (n : ℕ) → n ≤ cfg0.N → sProp 𝕄
  | 0, _ => Pipeline.ΦA spec0 c
  | n + 1, hn => iprop(iprop(owns (c : Thread nD τ) scM0_0 fullShare (vec2 (R := 264) (C := 1024) ((arrays m c).win (n))) ∗ (∃ d, owns (c : Thread nD τ) scM0_1 fullShare d) ∗ (∃ d, owns (c : Thread nD τ) scM0_2 fullShare d) ∗ owns (c : Thread nD τ) scM0_3 fullShare (vec2 (R := 8) (C := 1024) fun _ q => (arrays m c).stop (n) q)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (vec2 (R := 264) (C := 1024) ((arrays m c).win (n))) ∗ (∃ d, owns (c : Thread nD τ) scM0_1 fullShare d) ∗ (∃ d, owns (c : Thread nD τ) scM0_2 fullShare d) ∗ owns (c : Thread nD τ) scM0_3 fullShare (vec2 (R := 8) (C := 1024) fun _ q => (arrays m c).stop (n) q)) ∗ (∃ r, prngReg c r)) := rfl

theorem PhiS_pos (c : Dev nD) (n : ℕ) (h : n ≤ cfg0.N) (hz : n ≠ 0) :
    PhiS m c n h = iprop(iprop(owns (c : Thread nD τ) scM0_0 fullShare (vec2 (R := 264) (C := 1024) ((arrays m c).win (n - 1))) ∗ (∃ d, owns (c : Thread nD τ) scM0_1 fullShare d) ∗ (∃ d, owns (c : Thread nD τ) scM0_2 fullShare d) ∗ owns (c : Thread nD τ) scM0_3 fullShare (vec2 (R := 8) (C := 1024) fun _ q => (arrays m c).stop (n - 1) q)) ∗ (∃ r, prngReg c r)) := by
  cases n with
  | zero => exact absurd rfl hz
  | succ n => rfl

/-- The launch's proof data: each input's buffer at its block, the result's at the block that the point writes. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => vec2 (R := 256) (C := 1024) ((arrays m c).block t.val)
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = vec2 (R := 256) (C := 1024) ((arrays m c).block t.val) := by
  dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- What the body returns at point `t`. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

set_option maxHeartbeats 9600000 in
/-- The body at any point. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl,
    after0_0, after0_1, after0_2, after0_3, after0_4, after0_5, after0_6, after0_7,
    block0, block1, block2, block3, block4, block5, block6]
  rw [show (dats m 0 c).Φ t.succ = PhiS m c (t.val + 1) t.isLt from rfl, PhiS_succ]
  have hN := lt_N t
  by_cases h0 : t.val % 32 = 0
  · have h1 : ¬1 ≤ t.val % 32 := by omega
    by_cases hz : t.val = 0
    · rw [PhiS_castSucc m c t, PhiS_zero m c _ _ hz, PhiA0_eq]
      unfold Arrays.stop Arrays.block
      rw [(arrays m c).win_first _ h0, (arrays m c).start_first _ h0]
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) ((hcond0_0 t).mpr h0) (fun h => h1 ((hcond0_1 t).mp h)) ((hcond0_2 t).mpr h0) (fun r q => (arrays m c).x (256 * t.val + r) q) (fun r q => (arrays m c).gateRows t.val r q) (arrays m c).cw (arrays m c).cb (arrays m c).wg (arrays m c).bg (arrays m c).lam Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexact HS0
      isplitl [HS1]; · iexact HS1
      isplitl [HS2]; · iexact HS2
      isplitl [HS3]; · iexact HS3
      iintro ⟨H0, H1, H2, H3, H4, H5, H6, H7, HS0, HS1, HS2, HS3⟩
      isplitl [HS0 HS1 HS2 HS3 Hg]
      · isplitl [HS0 HS1 HS2 HS3]
        · isplitl [HS0]; · iexact HS0
          isplitl [HS1]; · iexact HS1
          isplitl [HS2]; · iexact HS2
          iexact HS3
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · rw [PhiS_castSucc m c t, PhiS_pos m c _ _ hz]
      unfold Arrays.stop Arrays.block
      rw [(arrays m c).win_first _ h0, (arrays m c).start_first _ h0]
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) ((hcond0_0 t).mpr h0) (fun h => h1 ((hcond0_1 t).mp h)) ((hcond0_2 t).mpr h0) (fun r q => (arrays m c).x (256 * t.val + r) q) (fun r q => (arrays m c).gateRows t.val r q) (arrays m c).cw (arrays m c).cb (arrays m c).wg (arrays m c).bg (arrays m c).lam Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexists _; iexact HS0
      isplitl [HS1]; · iexact HS1
      isplitl [HS2]; · iexact HS2
      isplitl [HS3]; · iexists _; iexact HS3
      iintro ⟨H0, H1, H2, H3, H4, H5, H6, H7, HS0, HS1, HS2, HS3⟩
      isplitl [HS0 HS1 HS2 HS3 Hg]
      · isplitl [HS0 HS1 HS2 HS3]
        · isplitl [HS0]; · iexact HS0
          isplitl [HS1]; · iexact HS1
          isplitl [HS2]; · iexact HS2
          iexact HS3
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
  · have h1 : 1 ≤ t.val % 32 := by omega
    have hz : t.val ≠ 0 := by omega
    rw [PhiS_castSucc m c t, PhiS_pos m c _ _ hz]
    unfold Arrays.stop Arrays.block
    rw [(arrays m c).win_next _ h0, (arrays m c).start_next _ h0]
    unfold Arrays.stop
    iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (fun h => h0 ((hcond0_2 t).mp h)) (fun r q => (arrays m c).x (256 * t.val + r) q) (fun r q => (arrays m c).gateRows t.val r q) (arrays m c).cw (arrays m c).cb (arrays m c).wg (arrays m c).bg (arrays m c).lam ((arrays m c).win (t.val - 1)) (fun q => (arrays m c).stop (t.val - 1) q) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS0]; · iexact HS0
    isplitl [HS1]; · iexact HS1
    isplitl [HS2]; · iexact HS2
    isplitl [HS3]; · iexact HS3
    iintro ⟨H0, H1, H2, H3, H4, H5, H6, H7, HS0, HS1, HS2, HS3⟩
    isplitl [HS0 HS1 HS2 HS3 Hg]
    · isplitl [HS0 HS1 HS2 HS3]
      · isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The body at every point, as the launch asks for it. -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3⟩, Hg⟩
  isplitl [HS0 HS1 HS2 HS3]
  · isplitl [HS0]
    · iexists _; iexact HS0
    isplitl [HS1]
    · iexact HS1
    isplitl [HS2]
    · iexact HS2
    iexists _; iexact HS3
  iexact Hg

/-- The same after the last point. -/
theorem hout (c : Dev nD) : (dats m 0 c).Φ (Fin.last cfg0.N) ⊢ Pipeline.ΦA spec0 c :=
  Phi_out m c _ (by rw [Fin.val_last]; have : cfg0.N = 64 := N_0; omega)

-- the runner's implicit arguments are found by unifying its conclusion with this one
set_option backward.isDefEq.respectTransparency.types false in
/-- The launch's run, with every counter at zero at the end. -/
theorem run_main_quiescent : θ_run defs (onTc (τ := τ) (main (F := Ideal))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- The launch's run. -/
theorem run_main : θ_run defs (onTc (τ := τ) (main (F := Ideal))) (s₀ m ρ) (Pipeline.FramePost cfgs (dats m) 0 (V m)) :=
  (θ_run defs _ _).mono (fun _ h => h.1) (run_main_quiescent m ρ)

/-- The arguments end unchanged and every counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) (run_main m ρ)) ((θ_run defs _ _).mono (fun _ h => h.2) (run_main_quiescent m ρ))

end Cert.KernelIdeal.Lru

end
-- ==== Proof.Lru.Seq.lean ====
/- The points of a sequence one after another: together they are the recurrence over the whole sequence. -/
module

public import proofs.«01_k».proof.Proof.Lru.Chain

@[expose] public section

set_option maxRecDepth 16384

noncomputable section

namespace Cert.Rec

theorem conv_shift (cw cb w : ℕ → ℕ → EReal) (s : ℕ) :
    conv cw cb (fun r => w (s + r)) = fun r => conv cw cb w (s + r) := by
  funext r c
  simp only [conv, Nat.add_left_comm s]

theorem blockA_shift (cw cb : ℕ → ℕ → EReal) (wg : ℕ → ℕ → ℕ → EReal) (bg lam w : ℕ → ℕ → EReal) (s : ℕ) :
    blockA cw cb wg bg lam (fun r => w (s + r)) = fun r => blockA cw cb wg bg lam w (s + r) := by
  unfold blockA; rw [conv_shift]; rfl

theorem blockU_shift (cw cb : ℕ → ℕ → EReal) (wg : ℕ → ℕ → ℕ → EReal) (bg lam w : ℕ → ℕ → EReal) (s : ℕ) :
    blockU cw cb wg bg lam (fun r => w (s + r)) = fun r => blockU cw cb wg bg lam w (s + r) := by
  unfold blockU; rw [conv_shift]; rfl

namespace Arrays

variable (A : Arrays)

/-- The rows of sequence `b`, with eight zero rows in front. -/
def rows (b : ℕ) : ℕ → ℕ → EReal := ext (fun _ _ => 0) fun t c => A.x (8192 * b + t) c

/-- The state of sequence `b` before its step `t`. -/
def seqState (b : ℕ) : ℕ → ℕ → EReal := blockState A.cw A.cb A.wg A.bg A.lam (A.rows b) fun _ => 0

/-- The result's rows of sequence `b`. -/
def seqOut (b : ℕ) : ℕ → ℕ → EReal :=
  blockOut A.cw A.cb A.wg A.bg A.lam (A.rows b) (fun t c => A.x (8192 * b + t) (1024 + c)) fun _ => 0

/-- The rows that a point convolves are the sequence's. -/
theorem win_eq (b k : ℕ) (hk : k < 32) : A.win (32 * b + k) = fun r => A.rows b (256 * k + r) := by
  funext r c
  unfold win rows ext
  by_cases h0 : (32 * b + k) % 32 = 0
  · have hk0 : k = 0 := by omega
    subst hk0
    simp only [if_pos h0]
    rw [show 256 * 0 + r = r by omega, show 256 * (32 * b + 0) = 8192 * b by omega]
  · simp only [if_neg h0]
    rw [if_neg (show ¬256 * k + r < 8 by omega)]
    by_cases hr : r < 8
    · rw [if_pos hr]
      exact congrFun (congrArg A.x (by omega)) c
    · rw [if_neg hr]
      exact congrFun (congrArg A.x (by omega)) c

/-- A point enters the sequence's state. -/
theorem start_eq (b k : ℕ) (hk : k < 32) : A.start (32 * b + k) = fun c => A.seqState b (256 * k) c := by
  induction k with
  | zero => rw [A.start_first _ (by omega)]; rfl
  | succ k ih =>
    rw [A.start_next _ (by omega)]
    funext c
    unfold stop
    rw [show 32 * b + (k + 1) - 1 = 32 * b + k by omega, ih (by omega), A.win_eq b k (by omega)]
    unfold seqState blockState
    rw [blockA_shift, blockU_shift, state_add]
    rfl

/-- A point's block is the sequence's rows. -/
theorem block_eq (b k : ℕ) (hk : k < 32) (r c : ℕ) : A.block (32 * b + k) r c = A.seqOut b (256 * k + r) c := by
  unfold block
  rw [A.win_eq b k hk, A.start_eq b k hk]
  unfold seqState seqOut blockOut result blockState
  rw [blockA_shift, blockU_shift, state_add, Nat.add_assoc]
  unfold gateRows
  rw [show 256 * (32 * b + k) + r = 8192 * b + (256 * k + r) by omega]

end Arrays

end Cert.Rec

end
-- ==== Proof.Lru.Array.lean ====
/- What the launch leaves in its result: every sequence's rows. -/
module

public import proofs.«01_k».proof.Proof.Lru.Frame
public import proofs.«01_k».proof.Proof.Lru.Seq

@[expose] public section

set_option maxRecDepth 16384

noncomputable section

namespace Cert.KernelIdeal.Lru

open Cert.Rec
open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The launch's result. -/
def out (c : Dev nD) : (⟨2, ![16384, 1024]⟩ : Shape).Idx → EReal :=
  vec2 fun r q => (arrays m c).seqOut (r / 8192) (r % 8192) q

theorem final_7 (c : Dev nD) : (dats m 0 c).arrAt 7 cfg0.N = out m c := by
  refine (dats m 0 c).arrAt_eq_of_covers 7 _ (by decide +kernel) fun t _ y => ?_
  have hN := lt_N t
  have h0 : (y 0).val < 256 := (y 0).isLt
  blk_simp
  rw [after0_7]
  unfold out vec2
  blk_simp [idx t]
  show (arrays m c).block t.val (y 0).val (y 1).val = _
  rw [show t.val = 32 * (t.val / 32) + t.val % 32 by omega, (arrays m c).block_eq _ _ (by omega)]
  rw [show ((32 * (t.val / 32) + t.val % 32) * 256 + (y 0).val) / 8192 = t.val / 32 by omega,
    show ((32 * (t.val / 32) + t.val % 32) * 256 + (y 0).val) % 8192 = 256 * (t.val % 32) + (y 0).val by omega]

/-- The run leaves the result, with the arguments unchanged and every counter at zero. -/
theorem run_out : θ_run defs (onTc (τ := τ) (main (F := Ideal))) ⟨m, fun _ => 0, ρ⟩ (fun r => ∀ c : Dev nD,
    r.2.mem ((c.tc : Thread nD τ).loc main_v34) = out m c) :=
  (θ_run defs _ _).mono (fun r h c => ((h c).1 7).trans (final_7 m c)) (run_main m ρ)

end Cert.KernelIdeal.Lru

end
-- ==== Proof.Lru.Params.lean ====
/- The arrays the recurrence reads, from the model's parameters. -/
module

public import proofs.«01_k».proof.Proof.Lru.Seq

@[expose] public section

set_option maxRecDepth 16384

noncomputable section

namespace Cert.Rec

open Idealize.ShloMosaic Idealize.ShloMosaic.TcCoe Idealize.SL.Sem

/-- The two gates' matrices on the diagonal of groups of two heads: group `q`, its input channel `k`, the gates' columns one after the other. -/
def groups (w v : ℕ → ℕ → ℕ → EReal) (q k j : ℕ) : EReal :=
  if j < 256 then (if k / 128 = j / 128 then w (q * 2 + k / 128) (k % 128) (j % 128) else 0)
  else (if k / 128 = (j - 256) / 128 then v (q * 2 + k / 128) (k % 128) ((j - 256) % 128) else 0)

/-- The arrays of the recurrence. -/
def params (x0 : (⟨2, ![16384, 19456]⟩ : Shape).Idx → EReal) (x1 : (⟨2, ![4, 1024]⟩ : Shape).Idx → EReal)
    (x2 : (⟨1, ![1024]⟩ : Shape).Idx → EReal) (x3 : (⟨3, ![8, 128, 128]⟩ : Shape).Idx → EReal)
    (x4 : (⟨1, ![1024]⟩ : Shape).Idx → EReal) (x5 : (⟨3, ![8, 128, 128]⟩ : Shape).Idx → EReal)
    (x6 x7 : (⟨1, ![1024]⟩ : Shape).Idx → EReal) : Arrays where
  x := at2 x0
  cw := at2 x1
  cb := at2 (vec2 (R := 1) (C := 1024) fun _ c => at1 x2 c)
  wg := at3 (vec3 (Q := 4) (R := 256) (C := 512) (groups (at3 x3) (at3 x5)))
  bg := at2 (vec2 (R := 1) (C := 2048) fun _ c => if c < 1024 then at1 x4 c else at1 x6 (c - 1024))
  lam := at2 (vec2 (R := 1) (C := 1024) fun _ c => at1 x7 c)

theorem at2_vec2 {R C : ℕ} (f : ℕ → ℕ → EReal) {r c : ℕ} (hr : r < R) (hc : c < C) : at2 (vec2 (R := R) (C := C) f) r c = f r c :=
  at2_of (vec2 f) ⟨r, hr⟩ ⟨c, hc⟩

theorem at3_vec3 {Q R C : ℕ} (f : ℕ → ℕ → ℕ → EReal) {q r c : ℕ} (hq : q < Q) (hr : r < R) (hc : c < C) :
    at3 (vec3 (Q := Q) (R := R) (C := C) f) q r c = f q r c :=
  at3_of (vec3 f) ⟨q, hq⟩ ⟨r, hr⟩ ⟨c, hc⟩

theorem at1_lt {C : ℕ} (X : (⟨1, ![C]⟩ : Shape).Idx → EReal) {c : ℕ} (h : c < C) : at1 X c = X (ix1 ⟨c, h⟩) := at1_of X ⟨c, h⟩

theorem at2_lt {R C : ℕ} (X : (⟨2, ![R, C]⟩ : Shape).Idx → EReal) {r c : ℕ} (hr : r < R) (hc : c < C) :
    at2 X r c = X (ix2 ⟨r, hr⟩ ⟨c, hc⟩) := at2_of X ⟨r, hr⟩ ⟨c, hc⟩

theorem at3_lt {Q R C : ℕ} (X : (⟨3, ![Q, R, C]⟩ : Shape).Idx → EReal) {q r c : ℕ} (hq : q < Q) (hr : r < R) (hc : c < C) :
    at3 X q r c = X (ix3 ⟨q, hq⟩ ⟨r, hr⟩ ⟨c, hc⟩) := at3_of X ⟨q, hq⟩ ⟨r, hr⟩ ⟨c, hc⟩

theorem groups_at (w v : (⟨3, ![8, 128, 128]⟩ : Shape).Idx → EReal) (q : Fin 4) (k : Fin 256) (j : Fin 512) :
    groups (at3 w) (at3 v) q.val k.val j.val
      = if h : j.val < 256 then (if k.val / 128 = j.val / 128 then (1 : EReal) else 0)
          * w (ix3 ⟨q.val * 2 + k.val / 128, by omega⟩ ⟨k.val % 128, by omega⟩ ⟨j.val % 128, by omega⟩)
        else (if k.val / 128 = (j.val - 256) / 128 then (1 : EReal) else 0)
          * v (ix3 ⟨q.val * 2 + k.val / 128, by omega⟩ ⟨k.val % 128, by omega⟩ ⟨(j.val - 256) % 128, by omega⟩) := by
  unfold groups
  by_cases h : j.val < 256
  · rw [if_pos h, dif_pos h]
    by_cases e : k.val / 128 = j.val / 128
    · rw [if_pos e, if_pos e, at3_lt w (by omega) (by omega) (by omega), one_mul]
    · rw [if_neg e, if_neg e, zero_mul]
  · rw [if_neg h, dif_neg h]
    by_cases e : k.val / 128 = (j.val - 256) / 128
    · rw [if_pos e, if_pos e, at3_lt v (by omega) (by omega) (by omega), one_mul]
    · rw [if_neg e, if_neg e, zero_mul]

end Cert.Rec

end
-- ==== Proof.Lru.Entry.lean ====
/- The arrays the launch reads are the model's parameters, regrouped by the host. -/
module

public import proofs.«01_k».proof.Proof.Lru.Array
public import proofs.«01_k».proof.Proof.Lru.Params
public import Idealize.ShloMosaic.Lib.Claim

@[expose] public section

set_option maxRecDepth 16384

noncomputable section

namespace Cert.KernelIdeal.Lru

open Cert.Rec
open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The one-bit comparison of two block numbers, as a number. -/
theorem same_block (a b : ℕ) (ha : a < 2) (hb : b < 2) :
    (FloatOps.uitofp .f32 (IntOp.cmpi CmpIPredicate.eq (IntOp.addi (BitVec.ofNat 32 a) 0#32) (BitVec.ofNat 32 b)) : Ideal .f32)
      = if a = b then (1 : EReal) else 0 := by
  interval_cases a <;> interval_cases b <;> simp [IntOp.cmpi, IntOp.addi, FloatOps.uitofp]

theorem wg_at (c : Dev nD) (q : Fin 4) (k : Fin 256) (j : Fin 512) :
    (V m c main_v29 : (⟨3, ![4, 256, 512]⟩ : Shape).Idx → EReal) (ix3 q k j)
      = groups (at3 (m ((c.tc : Thread nD τ).loc main_arg3) : (⟨3, ![8, 128, 128]⟩ : Shape).Idx → EReal)) (at3 (m ((c.tc : Thread nD τ).loc main_arg5) : (⟨3, ![8, 128, 128]⟩ : Shape).Idx → EReal)) q.val k.val j.val := by
  generalize hG : groups _ _ q.val k.val j.val = G
  entry_read
  pointwise
  have e1 := fun h : j.val < 256 => same_block (k.val / 128) (j.val / 128) (by clear * - k; omega) (by clear * - h; omega)
  have e2 := same_block (k.val / 128) ((j.val - 256) / 128) (by clear * - k; omega) (by clear * - j; omega)
  subst hG
  refine Eq.trans ?_ (groups_at _ _ q k j).symm
  exact dite_congr rfl (fun h => congrArg (fun z : EReal => z * _) (e1 h)) (fun h => congrArg (fun z : EReal => z * _) e2)

theorem bg_at (c : Dev nD) (r : Fin 1) (j : Fin 2048) : (V m c main_v31 : (⟨2, ![1, 2048]⟩ : Shape).Idx → EReal) (ix2 r j)
    = if j.val < 1024 then at1 (m ((c.tc : Thread nD τ).loc main_arg4) : (⟨1, ![1024]⟩ : Shape).Idx → EReal) j.val
      else at1 (m ((c.tc : Thread nD τ).loc main_arg6) : (⟨1, ![1024]⟩ : Shape).Idx → EReal) (j.val - 1024) := by
  entry_read
  pointwise
  have hj := j.isLt
  split
  · rw [at1_lt _ (by omega)]
  · rw [at1_lt _ (by omega)]

theorem cb_at (c : Dev nD) (r : Fin 1) (j : Fin 1024) : (V m c main_v32 : (⟨2, ![1, 1024]⟩ : Shape).Idx → EReal) (ix2 r j)
    = at1 (m ((c.tc : Thread nD τ).loc main_arg2) : (⟨1, ![1024]⟩ : Shape).Idx → EReal) j.val := by
  entry_read
  pointwise
  rw [at1_of]

theorem lam_at (c : Dev nD) (r : Fin 1) (j : Fin 1024) : (V m c main_v33 : (⟨2, ![1, 1024]⟩ : Shape).Idx → EReal) (ix2 r j)
    = at1 (m ((c.tc : Thread nD τ).loc main_arg7) : (⟨1, ![1024]⟩ : Shape).Idx → EReal) j.val := by
  entry_read
  pointwise
  rw [at1_of]

theorem vec2_of {R C : ℕ} {X : (⟨2, ![R, C]⟩ : Shape).Idx → EReal} {f : ℕ → ℕ → EReal}
    (h : ∀ (r : Fin R) (c : Fin C), X (ix2 r c) = f r.val c.val) : X = vec2 f := by
  funext y; rw [← ix2_eta y]; exact h _ _

theorem vec3_of {Q R C : ℕ} {X : (⟨3, ![Q, R, C]⟩ : Shape).Idx → EReal} {f : ℕ → ℕ → ℕ → EReal}
    (h : ∀ (q : Fin Q) (r : Fin R) (c : Fin C), X (ix3 q r c) = f q.val r.val c.val) : X = vec3 f := by
  funext y; rw [← ix3_eta y]; exact h _ _ _

/-- The launch's arrays. -/
theorem arrays_eq (c : Dev nD) : arrays m c = params (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7)) := by
  unfold arrays params
  have hcb : (V m c main_v32 : (⟨2, ![1, 1024]⟩ : Shape).Idx → EReal) = vec2 fun _ j => at1 (m ((c.tc : Thread nD τ).loc main_arg2) : (⟨1, ![1024]⟩ : Shape).Idx → EReal) j :=
    vec2_of (f := fun _ j => at1 (m ((c.tc : Thread nD τ).loc main_arg2) : (⟨1, ![1024]⟩ : Shape).Idx → EReal) j) (cb_at m c)
  have hlam : (V m c main_v33 : (⟨2, ![1, 1024]⟩ : Shape).Idx → EReal) = vec2 fun _ j => at1 (m ((c.tc : Thread nD τ).loc main_arg7) : (⟨1, ![1024]⟩ : Shape).Idx → EReal) j :=
    vec2_of (f := fun _ j => at1 (m ((c.tc : Thread nD τ).loc main_arg7) : (⟨1, ![1024]⟩ : Shape).Idx → EReal) j) (lam_at m c)
  have hbg : (V m c main_v31 : (⟨2, ![1, 2048]⟩ : Shape).Idx → EReal) = vec2 fun _ j => if j < 1024 then at1 (m ((c.tc : Thread nD τ).loc main_arg4) : (⟨1, ![1024]⟩ : Shape).Idx → EReal) j else at1 (m ((c.tc : Thread nD τ).loc main_arg6) : (⟨1, ![1024]⟩ : Shape).Idx → EReal) (j - 1024) :=
    vec2_of (f := fun _ j => if j < 1024 then at1 (m ((c.tc : Thread nD τ).loc main_arg4) : (⟨1, ![1024]⟩ : Shape).Idx → EReal) j else at1 (m ((c.tc : Thread nD τ).loc main_arg6) : (⟨1, ![1024]⟩ : Shape).Idx → EReal) (j - 1024)) (bg_at m c)
  have hwg : (V m c main_v29 : (⟨3, ![4, 256, 512]⟩ : Shape).Idx → EReal) = vec3 (groups (at3 (m ((c.tc : Thread nD τ).loc main_arg3) : (⟨3, ![8, 128, 128]⟩ : Shape).Idx → EReal)) (at3 (m ((c.tc : Thread nD τ).loc main_arg5) : (⟨3, ![8, 128, 128]⟩ : Shape).Idx → EReal))) :=
    vec3_of (f := groups (at3 (m ((c.tc : Thread nD τ).loc main_arg3) : (⟨3, ![8, 128, 128]⟩ : Shape).Idx → EReal)) (at3 (m ((c.tc : Thread nD τ).loc main_arg5) : (⟨3, ![8, 128, 128]⟩ : Shape).Idx → EReal))) (wg_at m c)
  rw [hcb, hlam, hbg, hwg, V_main_arg0, V_main_arg1]

end Cert.KernelIdeal.Lru

end
-- ==== Proof.Lru.RefRun.lean ====
/- The reference's run, trip by trip: the result is what the step of one trip makes, 8192 times over. -/
module

public import proofs.«01_k».proof.Proof.Gen.ReferenceIdeal.Run
public import proofs.«01_k».proof.Proof.Gen.ReferenceIdeal.Step

@[expose] public section

noncomputable section

namespace Cert.ReferenceIdeal.Trips

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_3 : V0 (Proc.devRef .tc main_v77_3) = s.main_v77_3
  f_4 : V0 (Proc.devRef .tc main_v77_4) = s.main_v77_4
  f_0 : V0 (Proc.devRef .tc main_v77_0) = s.main_v77_0
  f_1 : V0 (Proc.devRef .tc main_v77_1) = s.main_v77_1
  n_2 : V0 (Proc.devRef .tc main_v77_2) = constantI S_ 32 (BitVec.ofNat 32 j)

variable {V0 s j}

set_option maxRecDepth 8192 in
theorem al_0 (h : Holds V0 s j) : (constantI S_ 32 0#32 : (Proc.devRef .tc main_while0b_call2_c : DevRef τ sig).ty.Contents (Elt F)) = Cert.ReferenceIdeal.Step.b0 j s := by
  unfold Cert.ReferenceIdeal.Step.b0
  rfl
set_option maxRecDepth 8192 in
theorem al_1 (h : Holds V0 s j) : (constantI S_ 32 0#32 : (Proc.devRef .tc main_while0b_call2_c_0 : DevRef τ sig).ty.Contents (Elt F)) = Cert.ReferenceIdeal.Step.b1 j s := by
  unfold Cert.ReferenceIdeal.Step.b1
  rfl
set_option maxRecDepth 8192 in
theorem al_2 (h : Holds V0 s j) : (Host.dynamicSlice S1x2x1024 (V0 (Proc.devRef .tc main_v77_0)) (fun k => (((![V0 (Proc.devRef .tc main_v77_2), constantI S_ 32 0#32, constantI S_ 32 0#32] : Fin 3 → (⟨S_, .i32⟩ : BufTy).Contents (Elt F))) k (Shape.Idx.first h_S_)).toInt) sliceFits_S8192x2x1024_S1x2x1024 : (Proc.devRef .tc main_while0b_call2_v0 : DevRef τ sig).ty.Contents (Elt F)) = Cert.ReferenceIdeal.Step.b2 j s := by
  unfold Cert.ReferenceIdeal.Step.b2
  rw [← al_0 h, ← al_1 h, h.f_0, h.n_2]
  try rfl
set_option maxRecDepth 8192 in
theorem al_3 (h : Holds V0 s j) : (shapeCast S2x1024 (Host.dynamicSlice S1x2x1024 (V0 (Proc.devRef .tc main_v77_0)) (fun k => (((![V0 (Proc.devRef .tc main_v77_2), constantI S_ 32 0#32, constantI S_ 32 0#32] : Fin 3 → (⟨S_, .i32⟩ : BufTy).Contents (Elt F))) k (Shape.Idx.first h_S_)).toInt) sliceFits_S8192x2x1024_S1x2x1024) shapeCasts_S1x2x1024_S2x1024 : (Proc.devRef .tc main_while0b_v85 : DevRef τ sig).ty.Contents (Elt F)) = Cert.ReferenceIdeal.Step.b3 j s := by
  unfold Cert.ReferenceIdeal.Step.b3
  rw [← al_2 h]
  try rfl
set_option maxRecDepth 8192 in
theorem al_4 (h : Holds V0 s j) : (constantI S_ 32 0#32 : (Proc.devRef .tc main_while0b_call3_c : DevRef τ sig).ty.Contents (Elt F)) = Cert.ReferenceIdeal.Step.b4 j s := by
  unfold Cert.ReferenceIdeal.Step.b4
  rfl
set_option maxRecDepth 8192 in
theorem al_5 (h : Holds V0 s j) : (constantI S_ 32 0#32 : (Proc.devRef .tc main_while0b_call3_c_0 : DevRef τ sig).ty.Contents (Elt F)) = Cert.ReferenceIdeal.Step.b5 j s := by
  unfold Cert.ReferenceIdeal.Step.b5
  rfl
set_option maxRecDepth 8192 in
theorem al_6 (h : Holds V0 s j) : (Host.dynamicSlice S1x2x1024 (V0 (Proc.devRef .tc main_v77_1)) (fun k => (((![V0 (Proc.devRef .tc main_v77_2), constantI S_ 32 0#32, constantI S_ 32 0#32] : Fin 3 → (⟨S_, .i32⟩ : BufTy).Contents (Elt F))) k (Shape.Idx.first h_S_)).toInt) sliceFits_S8192x2x1024_S1x2x1024 : (Proc.devRef .tc main_while0b_call3_v0 : DevRef τ sig).ty.Contents (Elt F)) = Cert.ReferenceIdeal.Step.b6 j s := by
  unfold Cert.ReferenceIdeal.Step.b6
  rw [← al_4 h, ← al_5 h, h.f_1, h.n_2]
  try rfl
set_option maxRecDepth 8192 in
theorem al_7 (h : Holds V0 s j) : (shapeCast S2x1024 (Host.dynamicSlice S1x2x1024 (V0 (Proc.devRef .tc main_v77_1)) (fun k => (((![V0 (Proc.devRef .tc main_v77_2), constantI S_ 32 0#32, constantI S_ 32 0#32] : Fin 3 → (⟨S_, .i32⟩ : BufTy).Contents (Elt F))) k (Shape.Idx.first h_S_)).toInt) sliceFits_S8192x2x1024_S1x2x1024) shapeCasts_S1x2x1024_S2x1024 : (Proc.devRef .tc main_while0b_v86 : DevRef τ sig).ty.Contents (Elt F)) = Cert.ReferenceIdeal.Step.b7 j s := by
  unfold Cert.ReferenceIdeal.Step.b7
  rw [← al_6 h]
  try rfl
set_option maxRecDepth 8192 in
theorem al_8 (h : Holds V0 s j) : (mulf (shapeCast S2x1024 (Host.dynamicSlice S1x2x1024 (V0 (Proc.devRef .tc main_v77_0)) (fun k => (((![V0 (Proc.devRef .tc main_v77_2), constantI S_ 32 0#32, constantI S_ 32 0#32] : Fin 3 → (⟨S_, .i32⟩ : BufTy).Contents (Elt F))) k (Shape.Idx.first h_S_)).toInt) sliceFits_S8192x2x1024_S1x2x1024) shapeCasts_S1x2x1024_S2x1024) (V0 (Proc.devRef .tc main_v77_3)) : (Proc.devRef .tc main_while0b_v87 : DevRef τ sig).ty.Contents (Elt F)) = Cert.ReferenceIdeal.Step.b8 j s := by
  unfold Cert.ReferenceIdeal.Step.b8
  rw [← al_3 h, h.f_3]
  try rfl
set_option maxRecDepth 8192 in
theorem al_9 (h : Holds V0 s j) : (res_main_while0b_v88 V0 : (Proc.devRef .tc main_while0b_v88 : DevRef τ sig).ty.Contents (Elt F)) = Cert.ReferenceIdeal.Step.b9 j s := by
  unfold res_main_while0b_v88 Cert.ReferenceIdeal.Step.b9
  rw [← al_8 h, ← al_7 h]
  try rfl
set_option maxRecDepth 8192 in
theorem al_10 (h : Holds V0 s j) : (broadcastInDim S1x2x1024 ![1, 2] bcast_S2x1024_S1x2x1024_1_2 (res_main_while0b_v88 V0) : (Proc.devRef .tc main_while0b_call4_v0 : DevRef τ sig).ty.Contents (Elt F)) = Cert.ReferenceIdeal.Step.b10 j s := by
  unfold Cert.ReferenceIdeal.Step.b10
  rw [← al_9 h]
  try rfl
set_option maxRecDepth 8192 in
theorem al_11 (h : Holds V0 s j) : (constantI S_ 32 0#32 : (Proc.devRef .tc main_while0b_call4_c : DevRef τ sig).ty.Contents (Elt F)) = Cert.ReferenceIdeal.Step.b11 j s := by
  unfold Cert.ReferenceIdeal.Step.b11
  rfl
set_option maxRecDepth 8192 in
theorem al_12 (h : Holds V0 s j) : (constantI S_ 32 0#32 : (Proc.devRef .tc main_while0b_call4_c_0 : DevRef τ sig).ty.Contents (Elt F)) = Cert.ReferenceIdeal.Step.b12 j s := by
  unfold Cert.ReferenceIdeal.Step.b12
  rfl
set_option maxRecDepth 8192 in
theorem al_13 (h : Holds V0 s j) : (Host.dynamicUpdateSlice (V0 (Proc.devRef .tc main_v77_4)) (broadcastInDim S1x2x1024 ![1, 2] bcast_S2x1024_S1x2x1024_1_2 (res_main_while0b_v88 V0)) (fun k => (((![V0 (Proc.devRef .tc main_v77_2), constantI S_ 32 0#32, constantI S_ 32 0#32] : Fin 3 → (⟨S_, .i32⟩ : BufTy).Contents (Elt F))) k (Shape.Idx.first h_S_)).toInt) updateFits_S8192x2x1024_S1x2x1024 : (Proc.devRef .tc main_while0b_v89 : DevRef τ sig).ty.Contents (Elt F)) = Cert.ReferenceIdeal.Step.b13 j s := by
  unfold Cert.ReferenceIdeal.Step.b13
  rw [← al_10 h, ← al_11 h, ← al_12 h, h.f_4, h.n_2]
  try rfl

/-! One trip's step of the carried values is `step`, field by field; a counter steps to the next number. -/

theorem step_3 (h : Holds V0 s j) : step_main_v77_3 V0 = (step j s).main_v77_3 := by
  unfold step_main_v77_3 Cert.ReferenceIdeal.Step.step
  show id (res_main_while0b_v88 V0) = _
  rw [al_9 h]
  try rfl
theorem step_4 (h : Holds V0 s j) : step_main_v77_4 V0 = (step j s).main_v77_4 := by
  unfold step_main_v77_4 Cert.ReferenceIdeal.Step.step
  show id (Host.dynamicUpdateSlice (V0 (Proc.devRef .tc main_v77_4)) (broadcastInDim S1x2x1024 ![1, 2] bcast_S2x1024_S1x2x1024_1_2 (res_main_while0b_v88 V0)) (fun k => (((![V0 (Proc.devRef .tc main_v77_2), constantI S_ 32 0#32, constantI S_ 32 0#32] : Fin 3 → (⟨S_, .i32⟩ : BufTy).Contents (Elt F))) k (Shape.Idx.first h_S_)).toInt) updateFits_S8192x2x1024_S1x2x1024) = _
  exact al_13 h
theorem step_2 (h : Holds V0 s j) : step_main_v77_2 V0 = constantI S_ 32 (BitVec.ofNat 32 (j + 1)) := by
  unfold step_main_v77_2
  rw [h.n_2]
  funext i
  show BitVec.ofNat 32 j + 1#32 = BitVec.ofNat 32 (j + 1)
  simp only [BitVec.ofNat_add]

set_option maxRecDepth 8192 in
theorem out_main_v84_holds (h : Holds V0 s j) {x_main_arg0 : (⟨S16384x19456, .f32⟩ : BufTy).Contents (Elt F)} (h_main_arg0 : V0 (Proc.devRef .tc main_arg0) = x_main_arg0) : out_main_v84 V0 = Cert.ReferenceIdeal.Step.R_main_v84 s x_main_arg0 := by
  unfold out_main_v84 Cert.ReferenceIdeal.Step.R_main_v84
  rw [h.f_4, h_main_arg0]
  try rfl

/-- One trip keeps the valuation holding: `step` of the state, the same set-up values, the next number. -/
theorem holds_step (h : Holds V0 s j) : Holds (STEP V0) (step j s) (j + 1) where
  f_3 := (STEP_main_v77_3 V0).trans (step_3 h)
  f_4 := (STEP_main_v77_4 V0).trans (step_4 h)
  n_2 := (STEP_main_v77_2 V0).trans (step_2 h)
  f_0 := (STEP_main_v77_0 V0).trans h.f_0
  f_1 := (STEP_main_v77_1 V0).trans h.f_1

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))

variable (m : (ℓ : Loc nD τ sig) → Buf (Elt F) ℓ) (c : Dev nD)

set_option maxRecDepth 65536 in
set_option maxHeartbeats 500000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 8192 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v84) = Cert.ReferenceIdeal.Step.R_main_v84 (it c 8192) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
    have hk := holds_iter m c (it c) (h0 c) (hs c) 8192
    ⟨(h c).1.trans (out_main_v84_holds hk (iter_main_arg0 m c 8192)), (h c).2.1, (h c).2.2.1, (h c).2.2.2.1, (h c).2.2.2.2.1, (h c).2.2.2.2.2.1, (h c).2.2.2.2.2.2.1, (h c).2.2.2.2.2.2.2.1, (h c).2.2.2.2.2.2.2.2⟩) (Value.run m ρ)

end Cert.ReferenceIdeal.Trips

end
-- ==== Proof.Lru.Algebra.lean ====
/- Two ways of writing the same number: the decay's complement and the softplus. -/
module

public import proofs.«01_k».proof.Proof.Lru.Params

@[expose] public section

set_option maxRecDepth 16384

noncomputable section

namespace Cert.Rec

open Idealize.ShloMosaic Idealize.ShloMosaic.TcCoe Idealize.SL.Sem

theorem zero_sub' (x : EReal) : 0 - x = -x := by rw [sub_eq_add_neg, zero_add]

/-- `1 - exp (2 x)` by the hyperbolic tangent. -/
theorem tanh_complement (x : EReal) (hx : x ≤ 0) :
    (0 - Ideal.tanh x) * (1 + Ideal.exp x * Ideal.exp x) = -(Ideal.exp ((2 : ℝ) * x) - 1) := by
  induction x with
  | bot => rw [EReal.coe_mul_bot_of_pos (by norm_num)]; simp
  | top => exact absurd hx (by simp)
  | coe x =>
    rw [← EReal.coe_mul, Ideal.exp_coe, Ideal.exp_coe, Ideal.tanh_coe]
    rw [zero_sub', ← EReal.coe_mul, ← EReal.coe_one, ← EReal.coe_add, ← EReal.coe_neg, ← EReal.coe_mul, ← EReal.coe_sub, ← EReal.coe_neg]
    refine congrArg _ ?_
    rw [Real.tanh_eq_sinh_div_cosh, Real.sinh_eq, Real.cosh_eq]
    have h : Real.exp x * Real.exp (-x) = 1 := by rw [← Real.exp_add]; simp
    have h2 : Real.exp (2 * x) = Real.exp x * Real.exp x := by rw [← Real.exp_add]; ring_nf
    have hp := Real.exp_pos x
    have hn := Real.exp_pos (-x)
    rw [h2]
    have hd : (Real.exp x + Real.exp (-x)) ≠ 0 := by positivity
    field_simp
    nlinarith [h]

theorem ofBits_two : Ideal.ofBits .f32 0x40000000#32 = ((2 : ℝ) : EReal) := by
  simp [Ideal.ofBits, Ideal.ieee, -EReal.coe_mul, -EReal.coe_neg]; try norm_num

theorem ofBits_one : Ideal.ofBits .f32 0x3F800000#32 = (1 : EReal) := by
  simp [Ideal.ofBits, Ideal.ieee, -EReal.coe_mul, -EReal.coe_neg]; try norm_num

theorem sig_neg (x : EReal) : Ideal.div 1 (1 + Ideal.exp (-x)) = sig x := by unfold sig; rw [zero_sub']

theorem softplus_abs (x y : EReal) (hy : y = max (-x) (- -x)) :
    (if -x ≠ -x then -x else max (-x) 0 + Ideal.log1p (Ideal.exp (-y))) = softplus (0 - x) := by
  rw [if_neg (fun h => h rfl), zero_sub', hy]
  unfold softplus
  rw [zero_sub' (max (-x) (- -x))]

/-- What a step adds, with the complement written out. -/
theorem inject_expm1 (lam xc g : ℕ → ℕ → EReal) (r c : ℕ) :
    Ideal.sqrt (-(Ideal.exp ((2 : ℝ) * logA lam g r c) - 1)) * (sig (g r (1024 + c)) * xc r c) = inject lam xc g r c := by
  unfold inject decay
  rw [tanh_complement _ (logA_nonpos ..)]

theorem sum_half (F G : ℕ → EReal) (s : ℕ) (hs : s < 2) :
    (∑ k : Fin 256, F k.val * (if k.val / 128 = s then G (k.val % 128) else 0)) = ∑ j : Fin 128, F (128 * s + j.val) * G j.val := by
  rw [show (∑ k : Fin 256, F k.val * (if k.val / 128 = s then G (k.val % 128) else 0))
    = ∑ k : Fin (128 + 128), F k.val * (if k.val / 128 = s then G (k.val % 128) else 0) from rfl, Fin.sum_univ_add]
  simp only [Fin.val_castAdd, Fin.val_natAdd]
  have h1 : ∀ j : Fin 128, j.val / 128 = 0 := fun j => by omega
  have h2 : ∀ j : Fin 128, (128 + j.val) / 128 = 1 := fun j => by omega
  have h3 : ∀ j : Fin 128, j.val % 128 = j.val := fun j => by omega
  have h4 : ∀ j : Fin 128, (128 + j.val) % 128 = j.val := fun j => by omega
  simp only [h1, h2, h3, h4]
  interval_cases s <;> simp

variable (x0 : (⟨2, ![16384, 19456]⟩ : Shape).Idx → EReal) (x1 : (⟨2, ![4, 1024]⟩ : Shape).Idx → EReal)
    (x2 : (⟨1, ![1024]⟩ : Shape).Idx → EReal) (x3 : (⟨3, ![8, 128, 128]⟩ : Shape).Idx → EReal)
    (x4 : (⟨1, ![1024]⟩ : Shape).Idx → EReal) (x5 : (⟨3, ![8, 128, 128]⟩ : Shape).Idx → EReal)
    (x6 x7 : (⟨1, ![1024]⟩ : Shape).Idx → EReal)

/-- The first gate reads the channels of its own head. -/
theorem gate_first (xc : ℕ → ℕ → EReal) (t : ℕ) (c : Fin 1024) :
    gate xc (params x0 x1 x2 x3 x4 x5 x6 x7).wg (params x0 x1 x2 x3 x4 x5 x6 x7).bg t c.val
      = (∑ j : Fin 128, x3 (ix3 ⟨c.val / 128, by omega⟩ j ⟨c.val % 128, by omega⟩) * xc t (c.val / 128 * 128 + j.val)) + x4 (ix1 c) := by
  have hc := c.isLt
  unfold gate
  refine congrArg₂ (· + ·) ?_ ?_
  · rw [show c.val % 1024 = c.val by omega, show c.val / 1024 = 0 by omega, show c.val % 256 = c.val % 256 by omega]
    have e : ∀ k : Fin 256, xc t (256 * (c.val / 256) + k.val) * (params x0 x1 x2 x3 x4 x5 x6 x7).wg (c.val / 256) k.val (256 * 0 + c.val % 256)
        = (fun k => xc t (256 * (c.val / 256) + k)) k.val
          * (if k.val / 128 = c.val % 256 / 128 then (fun j => at3 x3 (c.val / 128) j (c.val % 128)) (k.val % 128) else 0) := fun k => by
      refine congrArg (_ * ·) ?_
      refine (at3_vec3 (Q := 4) (R := 256) (C := 512) _ (by omega) k.isLt (by omega)).trans ?_
      unfold groups
      rw [if_pos (by omega)]
      by_cases h : k.val / 128 = c.val % 256 / 128
      · rw [if_pos (by omega), if_pos h]
        show at3 x3 _ _ _ = at3 x3 _ _ _
        rw [show c.val / 256 * 2 + k.val / 128 = c.val / 128 by omega,
          show (256 * 0 + c.val % 256) % 128 = c.val % 128 by omega]
      · rw [if_neg (by omega), if_neg h]
    refine (Finset.sum_congr rfl fun k _ => e k).trans ((sum_half (fun k => xc t (256 * (c.val / 256) + k))
      (fun j => at3 x3 (c.val / 128) j (c.val % 128)) (c.val % 256 / 128) (by omega)).trans ?_)
    refine Finset.sum_congr rfl fun j _ => ?_
    show xc t (256 * (c.val / 256) + (128 * (c.val % 256 / 128) + j.val)) * at3 x3 (c.val / 128) j.val (c.val % 128) = _
    rw [mul_comm, at3_lt x3 (by omega) j.isLt (by omega), show 256 * (c.val / 256) + (128 * (c.val % 256 / 128) + j.val) = c.val / 128 * 128 + j.val by omega]
  · refine (at2_vec2 (R := 1) (C := 2048) _ (by omega) (by omega)).trans ?_
    rw [if_pos hc, at1_of]

/-- The second gate reads the channels of its own head. -/
theorem gate_second (xc : ℕ → ℕ → EReal) (t : ℕ) (c : Fin 1024) :
    gate xc (params x0 x1 x2 x3 x4 x5 x6 x7).wg (params x0 x1 x2 x3 x4 x5 x6 x7).bg t (1024 + c.val)
      = (∑ j : Fin 128, x5 (ix3 ⟨c.val / 128, by omega⟩ j ⟨c.val % 128, by omega⟩) * xc t (c.val / 128 * 128 + j.val)) + x6 (ix1 c) := by
  have hc := c.isLt
  unfold gate
  refine congrArg₂ (· + ·) ?_ ?_
  · rw [show (1024 + c.val) % 1024 = c.val by omega, show (1024 + c.val) / 1024 = 1 by omega, show (1024 + c.val) % 256 = c.val % 256 by omega]
    have e : ∀ k : Fin 256, xc t (256 * (c.val / 256) + k.val) * (params x0 x1 x2 x3 x4 x5 x6 x7).wg (c.val / 256) k.val (256 * 1 + c.val % 256)
        = (fun k => xc t (256 * (c.val / 256) + k)) k.val
          * (if k.val / 128 = c.val % 256 / 128 then (fun j => at3 x5 (c.val / 128) j (c.val % 128)) (k.val % 128) else 0) := fun k => by
      refine congrArg (_ * ·) ?_
      refine (at3_vec3 (Q := 4) (R := 256) (C := 512) _ (by omega) k.isLt (by omega)).trans ?_
      unfold groups
      rw [if_neg (by omega)]
      by_cases h : k.val / 128 = c.val % 256 / 128
      · rw [if_pos (by omega), if_pos h]
        show at3 x5 _ _ _ = at3 x5 _ _ _
        rw [show c.val / 256 * 2 + k.val / 128 = c.val / 128 by omega,
          show (256 * 1 + c.val % 256 - 256) % 128 = c.val % 128 by omega]
      · rw [if_neg (by omega), if_neg h]
    refine (Finset.sum_congr rfl fun k _ => e k).trans ((sum_half (fun k => xc t (256 * (c.val / 256) + k))
      (fun j => at3 x5 (c.val / 128) j (c.val % 128)) (c.val % 256 / 128) (by omega)).trans ?_)
    refine Finset.sum_congr rfl fun j _ => ?_
    show xc t (256 * (c.val / 256) + (128 * (c.val % 256 / 128) + j.val)) * at3 x5 (c.val / 128) j.val (c.val % 128) = _
    rw [mul_comm, at3_lt x5 (by omega) j.isLt (by omega), show 256 * (c.val / 256) + (128 * (c.val % 256 / 128) + j.val) = c.val / 128 * 128 + j.val by omega]
  · refine (at2_vec2 (R := 1) (C := 2048) _ (by omega) (by omega)).trans ?_
    rw [if_neg (by omega), show 1024 + c.val - 1024 = c.val by omega, at1_of]

end Cert.Rec

end
-- ==== Proof.Lru.RefVals.lean ====
/- The reference's values before its loop, at an index, in terms of the recurrence. -/
module

public import proofs.«01_k».proof.Proof.Gen.ReferenceIdeal.Step
public import proofs.«01_k».proof.Proof.Lru.Algebra

@[expose] public section

set_option maxRecDepth 16384

noncomputable section

namespace Cert.ReferenceIdeal.Vals

open Idealize.ShloMosaic Idealize.ShloMosaic.TcCoe Idealize.SL.Sem
open Cert.ReferenceIdeal Cert.ReferenceIdeal.Gen Cert.ReferenceIdeal.Step Cert.Rec

variable (x0 : FVec Ideal S16384x19456 .f32) (x1 : FVec Ideal S4x1024 .f32) (x2 : FVec Ideal S1024 .f32)
  (x3 : FVec Ideal S8x128x128 .f32) (x4 : FVec Ideal S1024 .f32) (x5 : FVec Ideal S8x128x128 .f32) (x6 x7 : FVec Ideal S1024 .f32)

theorem sitofp_zero : (FloatOps.sitofp .f32 0#32 : Ideal .f32) = (0 : EReal) := by
  show (((0#32 : BitVec 32).toInt : ℝ) : EReal) = 0
  simp

/-- The padded rows are the sequence's rows with zeros in front. -/
theorem v2_at (b : Fin 2) (t : Fin 8195) (c : Fin 1024) : A_main_v2 (F := Ideal) x0 x1 x2 x3 x4 x5 x6 x7 (ix3 b t c) = (params x0 x1 x2 x3 x4 x5 x6 x7).rows b.val (t.val + 5) c.val := by
  generalize hG : (params x0 x1 x2 x3 x4 x5 x6 x7).rows b.val (t.val + 5) c.val = G
  pointwise [A_main_v2, A_main_v1, A_main_v0, K_main_call0_v0, K_main_c]
  subst hG
  have ht := t.isLt; have hb := b.isLt; have hc := c.isLt
  show _ = ext (fun _ _ => 0) (fun t c => at2 x0 (8192 * b.val + t) c) (t.val + 5) c.val
  unfold ext
  by_cases h : 3 ≤ t.val
  · refine (dif_pos ⟨h, by omega⟩).trans (Eq.trans ?_ (if_neg (by omega)).symm)
    show _ = at2 x0 (8192 * b.val + (t.val + 5 - 8)) c.val
    refine Eq.trans ?_ (at2_lt x0 (by omega) (by omega)).symm
    exact congrArg x0 (congrArg₂ ix2 (Fin.ext (by show b.val * 8192 + (t.val - 3) = 8192 * b.val + (t.val + 5 - 8); omega)) rfl)
  · refine (dif_neg (by omega)).trans (Eq.trans ?_ (if_pos (by omega)).symm)
    exact sitofp_zero

/-- The convolved rows. -/
theorem v32_at (b : Fin 2) (t : Fin 8192) (c : Fin 1024) :
    A_main_v32 (F := Ideal) x0 x1 x2 x3 x4 x5 x6 x7 (ix3 b t c) = conv (params x0 x1 x2 x3 x4 x5 x6 x7).cw (params x0 x1 x2 x3 x4 x5 x6 x7).cb ((params x0 x1 x2 x3 x4 x5 x6 x7).rows b.val) t.val c.val := by
  generalize hG : conv _ _ _ t.val c.val = G
  pointwise [A_main_v32, A_main_v31, A_main_v30, A_main_v29, A_main_v28, A_main_v27, A_main_v26, A_main_v25, A_main_v24, A_main_v23, A_main_v22, A_main_v21, A_main_v20, A_main_v19, A_main_v18, A_main_v17, A_main_v16, A_main_v15, A_main_v14, A_main_v13, A_main_v12, A_main_v11, A_main_v10, A_main_v9, A_main_v8, A_main_v7, A_main_v6, A_main_v5, A_main_v4, A_main_v3]
  subst hG
  rw [v2_at, v2_at, v2_at, v2_at]
  have e : ∀ i : Fin 4, x1 (ix2 i c) = (params x0 x1 x2 x3 x4 x5 x6 x7).cw i.val c.val := fun i => (at2_of x1 i c).symm
  have e2 : x2 (ix1 c) = (params x0 x1 x2 x3 x4 x5 x6 x7).cb 0 c.val :=
    ((at2_vec2 (R := 1) (C := 1024) (fun _ c => at1 x2 c) (r := 0) (by omega) c.isLt).trans (at1_of x2 c)).symm
  rw [e, e, e, e, e2]
  unfold conv
  generalize (params x0 x1 x2 x3 x4 x5 x6 x7) = A
  show A.cw 0 c.val * A.rows b.val (t.val + 5) c.val + A.cw 1 c.val * A.rows b.val (1 + t.val + 5) c.val
    + A.cw 2 c.val * A.rows b.val (2 + t.val + 5) c.val + A.cw 3 c.val * A.rows b.val (3 + t.val + 5) c.val + A.cb 0 c.val = _
  rw [show t.val + 5 = 5 + t.val by omega, show 1 + t.val + 5 = 6 + t.val by omega, show 2 + t.val + 5 = 7 + t.val by omega,
    show 3 + t.val + 5 = 8 + t.val by omega]
  abel

/-- The first gate's argument. -/
theorem v39_at (b : Fin 2) (t : Fin 8192) (c : Fin 1024) :
    A_main_v39 (F := Ideal) x0 x1 x2 x3 x4 x5 x6 x7 (ix3 b t c) = gate (conv (params x0 x1 x2 x3 x4 x5 x6 x7).cw (params x0 x1 x2 x3 x4 x5 x6 x7).cb ((params x0 x1 x2 x3 x4 x5 x6 x7).rows b.val)) (params x0 x1 x2 x3 x4 x5 x6 x7).wg (params x0 x1 x2 x3 x4 x5 x6 x7).bg t.val c.val := by
  rw [gate_first]
  generalize hx : conv _ _ _ = xc
  pointwise [A_main_v39, A_main_v38, A_main_v37, A_main_v36, A_main_v35, A_main_v34, A_main_v33]
  subst hx
  exact congrArg (· + _) (Finset.sum_congr rfl fun x _ => congrArg _ (v32_at x0 x1 x2 x3 x4 x5 x6 x7 b t _))

/-- The second gate's argument. -/
theorem v51_at (b : Fin 2) (t : Fin 8192) (c : Fin 1024) :
    A_main_v51 (F := Ideal) x0 x1 x2 x3 x4 x5 x6 x7 (ix3 b t c) = gate (conv (params x0 x1 x2 x3 x4 x5 x6 x7).cw (params x0 x1 x2 x3 x4 x5 x6 x7).cb ((params x0 x1 x2 x3 x4 x5 x6 x7).rows b.val)) (params x0 x1 x2 x3 x4 x5 x6 x7).wg (params x0 x1 x2 x3 x4 x5 x6 x7).bg t.val (1024 + c.val) := by
  rw [gate_second]
  generalize hx : conv _ _ _ = xc
  pointwise [A_main_v51, A_main_v50, A_main_v49, A_main_v48, A_main_v47, A_main_v46, A_main_v33]
  subst hx
  exact congrArg (· + _) (Finset.sum_congr rfl fun x _ => congrArg _ (v32_at x0 x1 x2 x3 x4 x5 x6 x7 b t _))

theorem v61_at (c : Fin 1024) : A_main_v61 (F := Ideal) x0 x1 x2 x3 x4 x5 x6 x7 (ix1 c) = softplus (0 - (params x0 x1 x2 x3 x4 x5 x6 x7).lam 0 c.val) := by
  generalize hG : softplus _ = G
  pointwise [A_main_v61, A_main_v60, A_main_call1_v1, A_main_call1_v3, A_main_call1_v4, A_main_call1_v6, A_main_call1_v7, A_main_call1_v8, A_main_call1_v9, A_main_call1_v10, A_main_call1_v11, K_main_call1_v0, K_main_call1_v2, K_main_call1_v5, K_main_call1_cst]
  subst hG
  have e2 : x7 (ix1 c) = (params x0 x1 x2 x3 x4 x5 x6 x7).lam 0 c.val :=
    ((at2_vec2 (R := 1) (C := 1024) (fun _ c => at1 x7 c) (r := 0) (by omega) c.isLt).trans (at1_of x7 c)).symm
  rw [e2]
  exact softplus_abs _ _ rfl

/-- The logarithm of the decay. -/
theorem v64_at (b : Fin 2) (t : Fin 8192) (c : Fin 1024) :
    A_main_v64 (F := Ideal) x0 x1 x2 x3 x4 x5 x6 x7 (ix3 b t c) = logA (params x0 x1 x2 x3 x4 x5 x6 x7).lam (gate (conv (params x0 x1 x2 x3 x4 x5 x6 x7).cw (params x0 x1 x2 x3 x4 x5 x6 x7).cb ((params x0 x1 x2 x3 x4 x5 x6 x7).rows b.val)) (params x0 x1 x2 x3 x4 x5 x6 x7).wg (params x0 x1 x2 x3 x4 x5 x6 x7).bg) t.val c.val := by
  generalize hG : logA _ _ t.val c.val = G
  pointwise [A_main_v64, A_main_v63, A_main_v62, A_main_v59, A_main_v45, A_main_v43, A_main_v41, A_main_v40, K_main_v42, K_main_v44, K_main_v54, K_main_v56, K_main_v58, K_main_v66, K_main_cst, K_main_cst_0, K_main_cst_1, K_main_cst_2, K_main_cst_3, K_main_cst_4]
  subst hG
  rw [v39_at, v61_at, sig_neg]
  unfold logA
  exact mul_right_comm _ _ _

/-- The decay, by time step. -/
theorem v74_at (t : Fin 8192) (b : Fin 2) (c : Fin 1024) :
    A_main_v74 (F := Ideal) x0 x1 x2 x3 x4 x5 x6 x7 (ix3 t b c) = blockA (params x0 x1 x2 x3 x4 x5 x6 x7).cw (params x0 x1 x2 x3 x4 x5 x6 x7).cb (params x0 x1 x2 x3 x4 x5 x6 x7).wg (params x0 x1 x2 x3 x4 x5 x6 x7).bg (params x0 x1 x2 x3 x4 x5 x6 x7).lam ((params x0 x1 x2 x3 x4 x5 x6 x7).rows b.val) t.val c.val := by
  generalize hG : blockA _ _ _ _ _ _ t.val c.val = G
  pointwise [A_main_v74, A_main_v65]
  subst hG
  rw [v64_at]
  rfl

/-- What the steps add, by time step. -/
theorem v75_at (t : Fin 8192) (b : Fin 2) (c : Fin 1024) :
    A_main_v75 (F := Ideal) x0 x1 x2 x3 x4 x5 x6 x7 (ix3 t b c) = blockU (params x0 x1 x2 x3 x4 x5 x6 x7).cw (params x0 x1 x2 x3 x4 x5 x6 x7).cb (params x0 x1 x2 x3 x4 x5 x6 x7).wg (params x0 x1 x2 x3 x4 x5 x6 x7).bg (params x0 x1 x2 x3 x4 x5 x6 x7).lam ((params x0 x1 x2 x3 x4 x5 x6 x7).rows b.val) t.val c.val := by
  generalize hG : blockU _ _ _ _ _ _ t.val c.val = G
  pointwise [A_main_v75, A_main_v72, A_main_v71, A_main_v70, A_main_v69, A_main_v68, A_main_v67, A_main_v57, A_main_v55, A_main_v53, A_main_v52, K_main_v42, K_main_v44, K_main_v54, K_main_v56, K_main_v58, K_main_v66, K_main_cst, K_main_cst_0, K_main_cst_1, K_main_cst_2, K_main_cst_3, K_main_cst_4]
  subst hG
  rw [v64_at, v51_at, v32_at, sig_neg]
  try rw [ofBits_two]
  exact inject_expm1 _ _ _ _ _

end Cert.ReferenceIdeal.Vals

end
-- ==== Proof.Lru.RefLoop.lean ====
/- The reference's loop, trip by trip, and its result. -/
module

public import proofs.«01_k».proof.Proof.Lru.RefVals

@[expose] public section

set_option maxRecDepth 16384

noncomputable section

namespace Cert.ReferenceIdeal.Vals

open Idealize.ShloMosaic Idealize.ShloMosaic.TcCoe Idealize.SL.Sem
open Cert.ReferenceIdeal Cert.ReferenceIdeal.Gen Cert.ReferenceIdeal.Step Cert.Rec

variable (x0 : FVec Ideal S16384x19456 .f32) (x1 : FVec Ideal S4x1024 .f32) (x2 : FVec Ideal S1024 .f32)
  (x3 : FVec Ideal S8x128x128 .f32) (x4 : FVec Ideal S1024 .f32) (x5 : FVec Ideal S8x128x128 .f32) (x6 x7 : FVec Ideal S1024 .f32)

/-- The loop's states. -/
def iter : ℕ → State Ideal
  | 0 => Step.init (F := Ideal) x0 x1 x2 x3 x4 x5 x6 x7
  | n + 1 => step n (iter n)

theorem iter_a (n : ℕ) : (iter x0 x1 x2 x3 x4 x5 x6 x7 n).main_v77_0 = A_main_v74 (F := Ideal) x0 x1 x2 x3 x4 x5 x6 x7 := by
  induction n with
  | zero => rfl
  | succ n ih => exact ih

theorem iter_u (n : ℕ) : (iter x0 x1 x2 x3 x4 x5 x6 x7 n).main_v77_1 = A_main_v75 (F := Ideal) x0 x1 x2 x3 x4 x5 x6 x7 := by
  induction n with
  | zero => rfl
  | succ n ih => exact ih

theorem toInt_small (n : ℕ) (hn : n < 8192) : (BitVec.ofNat 32 n).toInt = n := by
  rw [BitVec.toInt_eq_toNat_of_lt (by rw [BitVec.toNat_ofNat]; omega), BitVec.toNat_ofNat, Nat.mod_eq_of_lt (by omega)]

theorem read3 (X : S8192x2x1024.Idx → EReal) {i i' : Fin 8192} {j j' : Fin 2} {k k' : Fin 1024} (hi : i.val = i'.val)
    (hj : j.val = j'.val) (hk : k.val = k'.val) : X (ix3 i j k) = X (ix3 i' j' k') := by
  rw [Fin.ext hi, Fin.ext hj, Fin.ext hk]

/-- The start of trip `n`'s row is in range. -/
theorem start_at (n : ℕ) (hn : n < 8192) (ht : S1x2x1024.rank = S8192x2x1024.rank) (g : Fin S8192x2x1024.rank → Int)
    (h0 : g (0 : Fin 3) = n) (h1 : g (1 : Fin 3) = 0) (h2 : g (2 : Fin 3) = 0) :
    Host.clampedStart S8192x2x1024 S1x2x1024 ht g (0 : Fin 3) = n ∧ Host.clampedStart S8192x2x1024 S1x2x1024 ht g (1 : Fin 3) = 0
      ∧ Host.clampedStart S8192x2x1024 S1x2x1024 ht g (2 : Fin 3) = 0 :=
  ⟨Host.clampedStart_of_le ht g (0 : Fin 3) n h0 (by show n + 1 ≤ 8192; omega), Host.clampedStart_of_le ht g (1 : Fin 3) 0 h1 (by show 0 + 2 ≤ 2; omega),
    Host.clampedStart_of_le ht g (2 : Fin 3) 0 h2 (by show 0 + 1024 ≤ 1024; omega)⟩

theorem b9_at (n : ℕ) (hn : n < 8192) (s : State Ideal) (b : Fin 2) (c : Fin 1024) :
    b9 n s (ix2 b c) = (s.main_v77_0 (ix3 ⟨n, hn⟩ b c) * s.main_v77_3 (ix2 b c) + s.main_v77_1 (ix3 ⟨n, hn⟩ b c) : EReal) := by
  have h := toInt_small n hn
  obtain ⟨e0, e1, e2⟩ := start_at n hn rfl (fun k => BitVec.toInt ((![constantI S_ 32 (BitVec.ofNat 32 n), b0 n s, b1 n s] : Fin 3 → IVec S_ 32) k (Shape.Idx.first h_S_))) h rfl rfl
  obtain ⟨f0, f1, f2⟩ := start_at n hn rfl (fun k => BitVec.toInt ((![constantI S_ 32 (BitVec.ofNat 32 n), b4 n s, b5 n s] : Fin 3 → IVec S_ 32) k (Shape.Idx.first h_S_))) h rfl rfl
  pointwise [b9, b8, b7, b6, b3, b2]
  exact congrArg₂ (· + ·) (congrArg (· * _) (read3 s.main_v77_0 e0 ((congrArg (· + b.val) e1).trans (Nat.zero_add _)) ((congrArg (· + c.val) e2).trans (Nat.zero_add _))))
    (read3 s.main_v77_1 f0 ((congrArg (· + b.val) f1).trans (Nat.zero_add _)) ((congrArg (· + c.val) f2).trans (Nat.zero_add _)))

theorem b13_at (n : ℕ) (hn : n < 8192) (s : State Ideal) (t : Fin 8192) (b : Fin 2) (c : Fin 1024) :
    b13 n s (ix3 t b c) = (if t.val = n then b9 n s (ix2 b c) else s.main_v77_4 (ix3 t b c) : EReal) := by
  have h := toInt_small n hn
  obtain ⟨e0, e1, e2⟩ := start_at n hn rfl (fun k => BitVec.toInt ((![constantI S_ 32 (BitVec.ofNat 32 n), b11 n s, b12 n s] : Fin 3 → IVec S_ 32) k (Shape.Idx.first h_S_))) h rfl rfl
  pointwise [b13, b10]
  have key : ∀ p q r : ℕ, p = n → q = 0 → r = 0 → (if h : (p ≤ t.val ∧ t.val < p + 1) ∧ q ≤ b.val ∧ r ≤ c.val then
      b9 n s (ix2 ⟨b.val - q, by omega⟩ ⟨c.val - r, by omega⟩) else s.main_v77_4 (ix3 t b c))
        = if t.val = n then b9 n s (ix2 b c) else s.main_v77_4 (ix3 t b c) := by
    rintro p q r rfl rfl rfl
    by_cases ht : t.val = p
    · rw [dif_pos ⟨⟨by omega, by omega⟩, by omega, by omega⟩, if_pos ht]
      rfl
    · rw [dif_neg (fun h' => ht (by omega)), if_neg ht]
  exact key _ _ _ e0 e1 e2

/-- The carried state is the recurrence's. -/
theorem iter_h (n : ℕ) (hn : n ≤ 8192) (b : Fin 2) (c : Fin 1024) : (iter x0 x1 x2 x3 x4 x5 x6 x7 n).main_v77_3 (ix2 b c) = blockState (params x0 x1 x2 x3 x4 x5 x6 x7).cw (params x0 x1 x2 x3 x4 x5 x6 x7).cb (params x0 x1 x2 x3 x4 x5 x6 x7).wg (params x0 x1 x2 x3 x4 x5 x6 x7).bg (params x0 x1 x2 x3 x4 x5 x6 x7).lam ((params x0 x1 x2 x3 x4 x5 x6 x7).rows b.val) (fun _ => 0) n c.val := by
  induction n with
  | zero =>
    show K_main_v73 (F := Ideal) (ix2 b c) = (0 : EReal)
    pointwise [K_main_v73, K_main_cst_5]
  | succ n ih =>
    refine (b9_at n (by omega) (iter x0 x1 x2 x3 x4 x5 x6 x7 n) b c).trans ?_
    rw [ih (by omega), iter_a, iter_u, v74_at, v75_at]
    rfl

/-- The rows already written are the states after their steps. -/
theorem iter_out (n : ℕ) (hn : n ≤ 8192) (t : Fin 8192) (ht : t.val < n) (b : Fin 2) (c : Fin 1024) :
    (iter x0 x1 x2 x3 x4 x5 x6 x7 n).main_v77_4 (ix3 t b c) = blockState (params x0 x1 x2 x3 x4 x5 x6 x7).cw (params x0 x1 x2 x3 x4 x5 x6 x7).cb (params x0 x1 x2 x3 x4 x5 x6 x7).wg (params x0 x1 x2 x3 x4 x5 x6 x7).bg (params x0 x1 x2 x3 x4 x5 x6 x7).lam ((params x0 x1 x2 x3 x4 x5 x6 x7).rows b.val) (fun _ => 0) (t.val + 1) c.val := by
  induction n with
  | zero => exact absurd ht (Nat.not_lt_zero _)
  | succ n ih =>
    refine (b13_at n (by omega) (iter x0 x1 x2 x3 x4 x5 x6 x7 n) t b c).trans ?_
    by_cases h : t.val = n
    · rw [if_pos h, h]
      exact iter_h x0 x1 x2 x3 x4 x5 x6 x7 (n + 1) hn b c
    · rw [if_neg h]
      exact ih (by omega) (by omega)

/-- The reference's result. -/
theorem result_eq : R_main_v84 (F := Ideal) (iter x0 x1 x2 x3 x4 x5 x6 x7 8192) x0
    = vec2 (R := 16384) (C := 1024) fun r c => (params x0 x1 x2 x3 x4 x5 x6 x7).seqOut (r / 8192) (r % 8192) c := by
  funext y
  rw [← ix2_eta y]
  generalize hr : y 0 = r
  generalize hc : y 1 = c
  show _ = (params x0 x1 x2 x3 x4 x5 x6 x7).seqOut (r.val / 8192) (r.val % 8192) c.val
  generalize hG : (params x0 x1 x2 x3 x4 x5 x6 x7).seqOut (r.val / 8192) (r.val % 8192) c.val = G
  pointwise [R_main_v84]
  subst hG
  have hr' : r.val < 16384 := r.isLt
  have hc' : c.val < 1024 := c.isLt
  have ha : (params x0 x1 x2 x3 x4 x5 x6 x7).x (8192 * (r.val / 8192) + r.val % 8192) (1024 + c.val) = x0 (ix2 r ⟨1024 + c.val, by omega⟩) := by
    rw [show 8192 * (r.val / 8192) + r.val % 8192 = r.val by omega]
    exact at2_lt x0 hr' (by omega)
  refine (congrArg₂ (· * ·) (iter_out x0 x1 x2 x3 x4 x5 x6 x7 8192 le_rfl ⟨r.val % 8192, by omega⟩ (by show r.val % 8192 < 8192; omega)
    ⟨r.val / 8192, by omega⟩ c) rfl).trans ?_
  unfold Arrays.seqOut blockOut result
  simp only [ha]
  rw [← sig_neg]
  rfl

end Cert.ReferenceIdeal.Vals

end
-- ==== Proof.ProjBits.RunA.lean ====
/- The projection over float words: the body at the first column block of a block of rows. -/
module

public import proofs.«01_k».proof.Proof.ProjBits.Base

@[expose] public section

set_option maxRecDepth 16384

noncomputable section

namespace Cert.Kernel2.Bits

open Cert.Kernel2.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body at the first column block of a block of rows: its inputs stay as they are. -/
theorem runA (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048x1024 .bf16) (harg4 : arg4.IsWhole) (arg5 : Memref sig .tc .vmem S1x2048x128 .bf16) (harg5 : arg5.IsWhole) (arg6 : Memref sig .tc .vmem S1024x1024 .f32) (harg6 : arg6.IsWhole) (arg7 : Memref sig .tc .vmem S1024x128 .f32) (harg7 : arg7.IsWhole) (arg8 : Memref sig .tc .vmem S1024x2048 .bf16) (harg8 : arg8.IsWhole) (hc : k0_cond1 i = 1#1)
    (x0 : Vec F S1024x2048 .f32) (x1 : Vec F S1x2048 .f32) (x2 : Vec F S1x2048x1024 .bf16) (x3 : Vec F S1x2048x128 .bf16) (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d)) -∗ K ⟨⟩))
          ⊢ wp frame (wpE (defs₀ (F := F)) Variants.none c none) E (cc0_inproj i arg2 harg2 arg3 harg3 arg4 harg4 arg5 harg5 arg6 harg6 arg7 harg7 arg8 harg8) K := by
    simp only [cc0_inproj_eq_skeleton]; unfold cc0_inproj_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds0, %fs0, -, HS0⟩, Hk⟩
    sl_exec (disch := sl_exact hc)
    sl_step
    iapply Hk
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _, _; isplitr; swap; · iexact H4
      ipureintro; rfl
    isplitl [H5]
    · iexists _, _; isplitr; swap; · iexact H5
      ipureintro; rfl
    iexists _, _; isplitr; swap; · iexact HS0
    ipureintro; rfl

end Cert.Kernel2.Bits

end
-- ==== Proof.ProjBits.RunB.lean ====
/- The projection over float words: the body at a later column block. -/
module

public import proofs.«01_k».proof.Proof.ProjBits.Base

@[expose] public section

set_option maxRecDepth 16384

noncomputable section

namespace Cert.Kernel2.Bits

open Cert.Kernel2.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body at a later column block: its inputs stay as they are. -/
theorem runB (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048x1024 .bf16) (harg4 : arg4.IsWhole) (arg5 : Memref sig .tc .vmem S1x2048x128 .bf16) (harg5 : arg5.IsWhole) (arg6 : Memref sig .tc .vmem S1024x1024 .f32) (harg6 : arg6.IsWhole) (arg7 : Memref sig .tc .vmem S1024x128 .f32) (harg7 : arg7.IsWhole) (arg8 : Memref sig .tc .vmem S1024x2048 .bf16) (harg8 : arg8.IsWhole) (hc : ¬k0_cond1 i = 1#1)
    (x0 : Vec F S1024x2048 .f32) (x1 : Vec F S1x2048 .f32) (x2 : Vec F S1x2048x1024 .bf16) (x3 : Vec F S1x2048x128 .bf16) (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d)) -∗ K ⟨⟩))
          ⊢ wp frame (wpE (defs₀ (F := F)) Variants.none c none) E (cc0_inproj i arg2 harg2 arg3 harg3 arg4 harg4 arg5 harg5 arg6 harg6 arg7 harg7 arg8 harg8) K := by
    simp only [cc0_inproj_eq_skeleton]; unfold cc0_inproj_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds0, %fs0, -, HS0⟩, Hk⟩
    sl_exec (disch := sl_exact hc)
    sl_step
    iapply Hk
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _, _; isplitr; swap; · iexact H4
      ipureintro; rfl
    isplitl [H5]
    · iexists _, _; isplitr; swap; · iexact H5
      ipureintro; rfl
    iexists _, _; isplitr; swap; · iexact HS0
    ipureintro; rfl

end Cert.Kernel2.Bits

end
-- ==== Proof.ProjBits.Frame.lean ====
/- The projection over float words: it ends without fault, its arguments unchanged and every counter at zero. -/
module

public import proofs.«01_k».proof.Proof.ProjBits.RunA
public import proofs.«01_k».proof.Proof.ProjBits.RunB
public import Idealize.ShloMosaic.Lib.Claim

@[expose] public section

set_option maxRecDepth 16384

noncomputable section

namespace Cert.Kernel2.Bits

open Cert.Kernel2.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The results' windows, of whose contents nothing is said. -/
def forgets0 : Fin 6 → Bool := fun w => 4 ≤ w.val

/-- The launch's proof data: each input's buffer at its block; the buffer of normed rows at anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
    | ⟨5, h⟩ => Pipeline.Dat.unnamed (cfg := cfg0) ⟨5, h⟩ t
  Φ _ := Pipeline.ΦA spec0 c
  q w := Pipeline.shareOf spec0 w
  owed _ := 0

theorem Phi_eq (c : Dev nD) (t : Fin (cfg0.N + 1)) : (dats m 0 c).Φ t = Pipeline.ΦA spec0 c := by
  dsimp only [dats]

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- What the body is called with at point `t`. -/
def bodyPre (c : Dev nD) (t : Fin cfg0.N) : sProp 𝕄 :=
  iprop((dats m 0 c).Φ t.castSucc
    ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare d)
    ∗ (∃ d, owns (c : Thread nD τ) (ms0_5 t) fullShare d))

/-- What the body returns at point `t`. -/
def bodyPost (c : Dev nD) (t : Fin cfg0.N) : sProp 𝕄 :=
  iprop((dats m 0 c).Φ t.succ
    ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ (∃ d, owns (c : Thread nD τ) (ms0_4 t) fullShare d)
    ∗ (∃ d, owns (c : Thread nD τ) (ms0_5 t) fullShare d))

set_option maxHeartbeats 9600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl,
    after0_0, after0_1, after0_2, after0_3, Phi_eq, Phi_eq, PhiA0_eq]
  iintro ⟨⟨HS0, Hg⟩, Ho, ⟨%d0, H0⟩, ⟨%d1, H1⟩, ⟨%d2, H2⟩, ⟨%d3, H3⟩, H4, H5⟩
  by_cases h0 : k0_cond1 (grid0.coords t) = 1#1
  · iapply (runA c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) h0 (iblk m c 0 t) (iblk m c 1 t) (iblk m c 2 t) (iblk m c 3 t) Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    iintro ⟨H0, H1, H2, H3, H4, H5, HS0⟩
    isplitl [HS0 Hg]
    · isplitl [HS0]; · iexact HS0
      iexact Hg
    isplitl [Ho]; · iexact Ho
    isplitl [H0]; · iexact H0
    isplitl [H1]; · iexact H1
    isplitl [H2]; · iexact H2
    isplitl [H3]; · iexact H3
    isplitl [H4]; · iexact H4
    iexact H5
  · iapply (runB c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) h0 (iblk m c 0 t) (iblk m c 1 t) (iblk m c 2 t) (iblk m c 3 t) Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    iintro ⟨H0, H1, H2, H3, H4, H5, HS0⟩
    isplitl [HS0 Hg]
    · isplitl [HS0]; · iexact HS0
      iexact Hg
    isplitl [Ho]; · iexact Ho
    isplitl [H0]; · iexact H0
    isplitl [H1]; · iexact H1
    isplitl [H2]; · iexact H2
    isplitl [H3]; · iexact H3
    isplitl [H4]; · iexact H4
    iexact H5

/-- The body that the launch runs. -/
theorem defs₀_row (t : Fin cfg0.N) :
    defs₀ (F := F) .tc cfg0.body (cfg0.bodyArgs t (cfg0.slots t)) = bodyAt0 t := by
  unfold defs₀; rw [Defs.onTc_tc]

/-- The body at every point, as the launch asks for it. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [Phi_eq]

theorem hout (c : Dev nD) : (dats m 0 c).Φ (Fin.last cfg0.N) ⊢ Pipeline.ΦA spec0 c := by
  rw [Phi_eq]

set_option backward.isDefEq.respectTransparency.types false in
/-- The launch's run: every array outside it unchanged and every counter at zero at the end. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hin := hin m) (hout := hout m)

/-- The arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩, h.2⟩) (run_main_quiescent m ρ)

end Cert.Kernel2.Bits

end
-- ==== Proof.Proj.Base.lean ====
/- The projection's body: its branch condition over the grid, and the buffers it is run on. -/
module

public import proofs.«01_k».proof.Proof.Gen.Kernel2Ideal.Frame
public import proofs.«01_k».proof.Proof.Gen.Kernel2Ideal.Skeleton
public import proofs.«01_k».proof.Proof.Gen.Kernel2Ideal.Loops

@[expose] public section

set_option maxRecDepth 16384

noncomputable section

namespace Cert.Kernel2Ideal.Proj

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's branch is taken at the first column block of each block of rows. -/
theorem hcond : ∀ t : Fin cfg0.N, k0_cond1 (grid0.coords t) = 1#1 ↔ t.val % 19 = 0 :=
  (by decide +kernel : ∀ t : Fin grid0.N, k0_cond1 (grid0.coords t) = 1#1 ↔ t.val % 19 = 0)

/-! Each window's current buffer at point `t`, and its wholeness. -/

abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2048x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x128 .f32 := win0_5.stage (cfg0.slots t 5)
abbrev hs0_5 (t : Fin cfg0.N) : (ms0_5 t).IsWhole := hstage0_5 ((cfg0.slots t 5).cast nbuf0_5)

/-- The buffer of normed rows, kept between points. -/
abbrev scM0_0 : Memref sig .tc .vmem S1024x2048 .bf16 := Memref.whole cc0_scratch0

/-- What the launch hands the body beside the windows: the buffer of normed rows at anything. -/
theorem PhiA0_eq (c : Dev nD) :
    (Pipeline.ΦA spec0 c : sProp 𝕄)
      = iprop((∃ d, owns (c : Thread nD τ) scM0_0 fullShare d) ∗ (∃ r, prngReg c r)) := by
  unfold Pipeline.ΦA; rw [scopedRest0_eq]; simp only [scM0_0, owns_whole]; try rfl

end Cert.Kernel2Ideal.Proj

end
-- ==== Proof.Proj.Spec.lean ====
/- The layer's input projection, as a function of natural-number rows and columns. -/
module

public import proofs.«01_k».proof.Proof.Lru.Params

@[expose] public section

set_option maxRecDepth 16384

noncomputable section

namespace Cert.Proj

open Idealize.ShloMosaic Idealize.ShloMosaic.TcCoe Idealize.SL.Sem
open Cert.Rec

/-- A row over the root of its mean square, times the gain. -/
def rms (x g : ℕ → ℕ → EReal) (r c : ℕ) : EReal :=
  x r c * Ideal.rsqrt (Ideal.div (∑ k : Fin 2048, x r k.val * x r k.val) (Ideal.ofBits .f32 0x45000000#32)
    + Ideal.ofBits .f32 0x358637BD#32) * g 0 c

/-- The product of a matrix with the first matrix of `w`. -/
def mulW (u : ℕ → ℕ → EReal) (w : ℕ → ℕ → ℕ → EReal) (r c : ℕ) : EReal := ∑ k : Fin 2048, u r k.val * w 0 k.val c

/-- The weights' column under a column of the gathered result: the 128 columns from 11264 on go to the second result. -/
def col (q : ℕ) : ℕ := if q < 11264 then q else q + 128

/-- The norm of a block of rows is the block of the norm. -/
theorem rms_shift (x g : ℕ → ℕ → EReal) (s : ℕ) : rms (fun r => x (s + r)) g = fun r => rms x g (s + r) := rfl

/-- A product of normed rows depends on what it reads only. -/
theorem mulW_congr {x x' g g' : ℕ → ℕ → EReal} {w w' : ℕ → ℕ → ℕ → EReal} {r c c' : ℕ} (hx : ∀ k : Fin 2048, x r k.val = x' r k.val)
    (hg : ∀ k : Fin 2048, g 0 k.val = g' 0 k.val) (hw : ∀ k : Fin 2048, w 0 k.val c = w' 0 k.val c') :
    mulW (rms x g) w r c = mulW (rms x' g') w' r c' := by
  unfold mulW rms
  refine Finset.sum_congr rfl fun k _ => ?_
  rw [hx k, hg k, hw k, Finset.sum_congr rfl fun k _ => by rw [hx k]]

/-- The layer's rows, one sequence after the other. -/
def rowsArg (x0 : (⟨3, ![2, 8192, 2048]⟩ : Shape).Idx → EReal) (r k : ℕ) : EReal := at3 x0 (r / 8192) (r % 8192) k

/-- The projection, in the order of the weights' columns. -/
def proj (x0 : (⟨3, ![2, 8192, 2048]⟩ : Shape).Idx → EReal) (x1 : (⟨2, ![2, 2048]⟩ : Shape).Idx → EReal)
    (x2 : (⟨3, ![2, 2048, 19584]⟩ : Shape).Idx → EReal) (r c : ℕ) : EReal := mulW (rms (rowsArg x0) (at2 x1)) (at3 x2) r c

end Cert.Proj

end
-- ==== Proof.Proj.Pure.lean ====
/- What each block of vector operations of the projection's kernel computes, entry by entry. -/
module

public import proofs.«01_k».proof.Proof.Proj.Spec
public import proofs.«01_k».proof.Proof.Gen.Kernel2Ideal.Skeleton

@[expose] public section

set_option maxRecDepth 16384

noncomputable section

namespace Cert.Proj

open Idealize.ShloMosaic Idealize.ShloMosaic.TcCoe Idealize.SL.Sem
open Cert.Kernel2Ideal Cert.Kernel2Ideal.Gen Cert.Rec

theorem pay1 (g x : ℕ → ℕ → EReal) : k0_pay1 (F := Ideal) (vec2 g) (vec2 x) = vec2 (rms x g) := by
  funext y; idx_vars y
  pointwise [k0_pay1, vec2, rms]

theorem pay2 (u : ℕ → ℕ → EReal) (w : ℕ → ℕ → ℕ → EReal) : k0_pay2 (F := Ideal) (vec2 u) (vec3 w) = vec2 (mulW u w) := by
  funext y; idx_vars y
  pointwise [k0_pay2, vec2, vec3, mulW]

theorem pay3 (u : ℕ → ℕ → EReal) (w : ℕ → ℕ → ℕ → EReal) : k0_pay3 (F := Ideal) (vec2 u) (vec3 w) = vec2 (mulW u w) := by
  funext y; idx_vars y
  pointwise [k0_pay3, vec2, vec3, mulW]

end Cert.Proj

end
-- ==== Proof.Proj.Loop.lean ====
/- What the loop over groups of rows leaves: the normed rows. -/
module

public import proofs.«01_k».proof.Proof.Proj.Base
public import proofs.«01_k».proof.Proof.Proj.Pure
public import proofs.«01_k».proof.Proof.Rows.Load

@[expose] public section

set_option maxRecDepth 16384

noncomputable section

namespace Cert.Kernel2Ideal.Proj

open Cert.Rec Cert.Proj
open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

theorem trips : k0_t1_loop.trips = 32 := by decide +kernel

theorem trip_eq (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048x1024 .bf16) (harg4 : arg4.IsWhole) (arg5 : Memref sig .tc .vmem S1x2048x128 .bf16) (harg5 : arg5.IsWhole) (arg6 : Memref sig .tc .vmem S1024x1024 .f32) (harg6 : arg6.IsWhole) (arg7 : Memref sig .tc .vmem S1024x128 .f32) (harg7 : arg7.IsWhole) (arg8 : Memref sig .tc .vmem S1024x2048 .bf16) (harg8 : arg8.IsWhole) (k0_h1 : k0_cond1 i = 1#1)
    (v8 : Vec Ideal S1x2048 .f32) (X : BufTy.Contents (Elt Ideal) arg2.view.ty) (k : Fin k0_t1_loop.trips) :
    tripL_k0_t1 Variants.none c none i arg2 harg2 arg3 harg3 arg4 harg4 arg5 harg5 arg6 harg6 arg7 harg7 arg8 harg8 k0_h1 v8 X k
      = [⟨Rect.unit (s := S1024x2048) (k0_off1 k) S32x2048.size (k0_off1_inb i k k0_h1),
          k0_pay1 v8 (View.readAt (Elt Ideal) arg2.view (Rect.unit (s := S1024x2048) (k0_off1 k) S32x2048.size (k0_off1_inb i k k0_h1)).toLoadRect X)⟩] := by
  unfold tripL_k0_t1 trip_k0_t1; dsimp only

/-- After the trips before `n` the rows below `32 n` are normed. -/
theorem rows_read (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048x1024 .bf16) (harg4 : arg4.IsWhole) (arg5 : Memref sig .tc .vmem S1x2048x128 .bf16) (harg5 : arg5.IsWhole) (arg6 : Memref sig .tc .vmem S1024x1024 .f32) (harg6 : arg6.IsWhole) (arg7 : Memref sig .tc .vmem S1024x128 .f32) (harg7 : arg7.IsWhole) (arg8 : Memref sig .tc .vmem S1024x2048 .bf16) (harg8 : arg8.IsWhole) (k0_h1 : k0_cond1 i = 1#1)
    (x g : ℕ → ℕ → EReal) (X : BufTy.Contents (Elt Ideal) arg2.view.ty) (hX : arg2.view.read (Elt Ideal) X = vec2 x)
    (G : BufTy.Contents (Elt Ideal) arg8.view.ty) (n : ℕ) (hn : n ≤ 32) (y : S1024x2048.Idx) (hy : (y 0).val < 32 * n) :
    arg8.view.read (Elt Ideal) (arg8.view.writes (Elt Ideal) G (pb_k0_t1 (F := Ideal) Variants.none c none i arg2 harg2 arg3 harg3 arg4 harg4 arg5 harg5 arg6 harg6 arg7 harg7 arg8 harg8 k0_h1 (vec2 g) X n)) y
      = vec2 (rms x g) y := by
  induction n generalizing y with
  | zero => omega
  | succ n ih =>
    have hlt : n < k0_t1_loop.trips := by rw [trips]; omega
    rw [pb_k0_t1_succ (F := Ideal) Variants.none c none i arg2 harg2 arg3 harg3 arg4 harg4 arg5 harg5 arg6 harg6 arg7 harg7 arg8 harg8 k0_h1 (vec2 g) X ⟨n, hlt⟩, trip_eq]
    refine store_rows (R := 1024) (C := 2048) (R' := 32) arg8.view G (fun r => rms x g (32 * n + r)) _ _ (32 * n) (k0_off1_eq ⟨n, hlt⟩) _ _ (fun r => r < 32 * n) _ ?_ (fun _ _ _ => rfl)
      (fun y hy => ih (by omega) y hy) y (by omega)
    rw [load2 (R := 1024) (C := 2048) (R' := 32) (C' := 2048) arg2.view X x hX _ (32 * n) 0 (k0_off1_eq ⟨n, hlt⟩), pay1]
    funext y
    simp only [vec2, rms, Nat.zero_add]

end Cert.Kernel2Ideal.Proj

end
-- ==== Proof.Proj.RunA.lean ====
/- The projection: the body at the first column block of a block of rows. -/
module

public import proofs.«01_k».proof.Proof.Proj.Loop
public import Idealize.ShloMosaic.Lib.Pipeline.ValueKit
public import Idealize.ShloMosaic.Lib.VecWindow

@[expose] public section

set_option maxRecDepth 16384

noncomputable section

namespace Cert.Kernel2Ideal.Proj

open Cert.Rec Cert.Proj
open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

set_option maxHeartbeats 2000000 in
/-- One run of the body at the first column block of a block of rows. -/
theorem runA (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048x1024 .bf16) (harg4 : arg4.IsWhole) (arg5 : Memref sig .tc .vmem S1x2048x128 .bf16) (harg5 : arg5.IsWhole) (arg6 : Memref sig .tc .vmem S1024x1024 .f32) (harg6 : arg6.IsWhole) (arg7 : Memref sig .tc .vmem S1024x128 .f32) (harg7 : arg7.IsWhole) (arg8 : Memref sig .tc .vmem S1024x2048 .bf16) (harg8 : arg8.IsWhole) (hc : k0_cond1 i = 1#1)
    (x g : ℕ → ℕ → EReal) (w v : ℕ → ℕ → ℕ → EReal) (E : Set ℕ) (K : PUnit → sProp 𝕄) :
        iprop(owns (c : Thread nD τ) arg2 fullShare (vec2 x) ∗ owns (c : Thread nD τ) arg3 fullShare (vec2 g) ∗ owns (c : Thread nD τ) arg4 fullShare (vec3 w) ∗ owns (c : Thread nD τ) arg5 fullShare (vec3 v) ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare (vec2 x) ∗ owns (c : Thread nD τ) arg3 fullShare (vec2 g) ∗ owns (c : Thread nD τ) arg4 fullShare (vec3 w) ∗ owns (c : Thread nD τ) arg5 fullShare (vec3 v) ∗ owns (c : Thread nD τ) arg6 fullShare (vec2 (mulW (rms x g) w)) ∗ owns (c : Thread nD τ) arg7 fullShare (vec2 (mulW (rms x g) v)) ∗ owns (c : Thread nD τ) arg8 fullShare (vec2 (rms x g))) -∗ K ⟨⟩))
          ⊢ wp frame (wpE (defs₀ (F := Ideal)) Variants.none c none) E (cc0_inproj i arg2 harg2 arg3 harg3 arg4 harg4 arg5 harg5 arg6 harg6 arg7 harg7 arg8 harg8) K := by
    simp only [cc0_inproj_eq_skeleton]; unfold cc0_inproj_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds0, %fs0, -, HS0⟩, Hk⟩
    have l4 : View.readAt (Elt Ideal) arg4.view (Rect.unit (s := S1x2048x1024) ![0, 0, 0] S1x2048x1024.size inb_S1x2048x1024_S1x2048x1024_0_0_0).toLoadRect f2 = vec3 w := by
      rw [load3 (Q := 1) (R := 2048) (C := 1024) (Q' := 1) (R' := 2048) (C' := 1024) arg4.view f2 w hf2 0]; simp only [Nat.zero_add]
    have l3 : View.readAt (Elt Ideal) arg3.view (Rect.unit (s := S1x2048) ![0, 0] S1x2048.size inb_S1x2048_S1x2048_0_0).toLoadRect f1 = vec2 g := by
      rw [load2 (R := 1) (C := 2048) (R' := 1) (C' := 2048) arg3.view f1 g hf1 _ 0 0 rfl]; simp only [Nat.zero_add]
    have l5 : View.readAt (Elt Ideal) arg5.view (Rect.unit (s := S1x2048x128) ![0, 0, 0] S1x2048x128.size inb_S1x2048x128_S1x2048x128_0_0_0).toLoadRect f3 = vec3 v := by
      rw [load3 (Q := 1) (R := 2048) (C := 128) (Q' := 1) (R' := 2048) (C' := 128) arg5.view f3 v hf3 0]; simp only [Nat.zero_add]
    have hU : arg8.view.read (Elt Ideal) (arg8.view.writes (Elt Ideal) fs0 (pb_k0_t1 (F := Ideal) Variants.none c none i arg2 harg2 arg3 harg3 arg4 harg4 arg5 harg5 arg6 harg6 arg7 harg7 arg8 harg8 hc (vec2 g) f0 32)) = vec2 (rms x g) :=
      funext fun y => rows_read c i arg2 harg2 arg3 harg3 arg4 harg4 arg5 harg5 arg6 harg6 arg7 harg7 arg8 harg8 hc x g f0 hf0 fs0 32 le_rfl y (y 0).isLt
    have ht : Scf.trips 0#32 (Scalar.addi 0#32 32#32) 1#32 = 32 := by decide +kernel
    have l8 : View.readAt (Elt Ideal) arg8.view (Rect.unit (s := S1024x2048) ![0, 0] S1024x2048.size inb_S1024x2048_S1024x2048_0_0).toLoadRect
        (arg8.view.writes (Elt Ideal) fs0 (pb_k0_t1 (F := Ideal) Variants.none c none i arg2 harg2 arg3 harg3 arg4 harg4 arg5 harg5 arg6 harg6 arg7 harg7 arg8 harg8 hc (vec2 g) f0 32)) = vec2 (rms x g) := by
      rw [load2h (R := 1024) (C := 2048) (R' := 1024) (C' := 2048) arg8.view _ _ hU _ 0 0 rfl]; simp only [Nat.zero_add]
    sl_exec (disch := sl_exact hc)
    sl_step
    iapply Hk
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; swap; · iexact H4
      ipureintro
      sl_unfold_words
      simp only [l3, l4, ht, l8, pay3]
      exact View.read_writes_full _ _ _ _ _
    isplitl [H5]
    · iexists _; isplitr; swap; · iexact H5
      ipureintro
      sl_unfold_words
      simp only [l3, l5, ht, l8, pay2]
      exact View.read_writes_full _ _ _ _ _
    iexists _; isplitr; swap; · iexact HS0
    ipureintro
    sl_unfold_words
    simp only [l3, ht]
    exact hU

end Cert.Kernel2Ideal.Proj

end
-- ==== Proof.Proj.RunB.lean ====
/- The projection: the body at a later column block. -/
module

public import proofs.«01_k».proof.Proof.Proj.Loop
public import Idealize.ShloMosaic.Lib.Pipeline.ValueKit
public import Idealize.ShloMosaic.Lib.VecWindow

@[expose] public section

set_option maxRecDepth 16384

noncomputable section

namespace Cert.Kernel2Ideal.Proj

open Cert.Rec Cert.Proj
open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

set_option maxHeartbeats 2000000 in
/-- One run of the body at a later column block. -/
theorem runB (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048x1024 .bf16) (harg4 : arg4.IsWhole) (arg5 : Memref sig .tc .vmem S1x2048x128 .bf16) (harg5 : arg5.IsWhole) (arg6 : Memref sig .tc .vmem S1024x1024 .f32) (harg6 : arg6.IsWhole) (arg7 : Memref sig .tc .vmem S1024x128 .f32) (harg7 : arg7.IsWhole) (arg8 : Memref sig .tc .vmem S1024x2048 .bf16) (harg8 : arg8.IsWhole) (hc : ¬k0_cond1 i = 1#1)
    (x g : ℕ → ℕ → EReal) (w v : ℕ → ℕ → ℕ → EReal) (s : ℕ → ℕ → EReal) (z : Vec Ideal S1024x128 .f32) (E : Set ℕ) (K : PUnit → sProp 𝕄) :
        iprop(owns (c : Thread nD τ) arg2 fullShare (vec2 x) ∗ owns (c : Thread nD τ) arg3 fullShare (vec2 g) ∗ owns (c : Thread nD τ) arg4 fullShare (vec3 w) ∗ owns (c : Thread nD τ) arg5 fullShare (vec3 v) ∗ (∃ d, owns (c : Thread nD τ) arg6 fullShare d) ∗ owns (c : Thread nD τ) arg7 fullShare z ∗ owns (c : Thread nD τ) arg8 fullShare (vec2 s)
            ∗ (iprop(owns (c : Thread nD τ) arg2 fullShare (vec2 x) ∗ owns (c : Thread nD τ) arg3 fullShare (vec2 g) ∗ owns (c : Thread nD τ) arg4 fullShare (vec3 w) ∗ owns (c : Thread nD τ) arg5 fullShare (vec3 v) ∗ owns (c : Thread nD τ) arg6 fullShare (vec2 (mulW s w)) ∗ owns (c : Thread nD τ) arg7 fullShare z ∗ owns (c : Thread nD τ) arg8 fullShare (vec2 s)) -∗ K ⟨⟩))
          ⊢ wp frame (wpE (defs₀ (F := Ideal)) Variants.none c none) E (cc0_inproj i arg2 harg2 arg3 harg3 arg4 harg4 arg5 harg5 arg6 harg6 arg7 harg7 arg8 harg8) K := by
    simp only [cc0_inproj_eq_skeleton]; unfold cc0_inproj_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%fs0, %hfs0, HS0⟩, Hk⟩
    have l4 : View.readAt (Elt Ideal) arg4.view (Rect.unit (s := S1x2048x1024) ![0, 0, 0] S1x2048x1024.size inb_S1x2048x1024_S1x2048x1024_0_0_0).toLoadRect f2 = vec3 w := by
      rw [load3 (Q := 1) (R := 2048) (C := 1024) (Q' := 1) (R' := 2048) (C' := 1024) arg4.view f2 w hf2 0]; simp only [Nat.zero_add]
    have l8 : View.readAt (Elt Ideal) arg8.view (Rect.unit (s := S1024x2048) ![0, 0] S1024x2048.size inb_S1024x2048_S1024x2048_0_0).toLoadRect fs0 = vec2 s := by
      rw [load2h (R := 1024) (C := 2048) (R' := 1024) (C' := 2048) arg8.view fs0 s hfs0 _ 0 0 rfl]; simp only [Nat.zero_add]
    sl_exec (disch := sl_exact hc)
    sl_step
    iapply Hk
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; swap; · iexact H4
      ipureintro
      sl_unfold_words
      simp only [l4, l8, pay3]
      exact View.read_writes_full _ _ _ _ _
    isplitl [H5]
    · iexists _; isplitr; · ipureintro; exact hf5
      iexact H5
    iexists _; isplitr; · ipureintro; exact hfs0
    iexact HS0

end Cert.Kernel2Ideal.Proj

end
-- ==== Proof.Proj.Blocks.lean ====
/- The projection's input blocks at each point, read by natural numbers. -/
module

public import proofs.«01_k».proof.Proof.Proj.Base
public import proofs.«01_k».proof.Proof.Proj.Spec
public import Idealize.ShloMosaic.Lib.Pipeline.ValueKit

@[expose] public section

set_option maxRecDepth 16384

noncomputable section

namespace Cert.Kernel2Ideal.Proj

open Cert.Rec Cert.Proj
open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ)

/-- The rows, as the launch finds them. -/
def rowsOf (c : Dev nD) : ℕ → ℕ → EReal := at2 (R := 16384) (C := 2048) (V m c main_v0)
/-- The gain, as the launch finds it. -/
def gainOf (c : Dev nD) : ℕ → ℕ → EReal := at2 (R := 1) (C := 2048) (V m c main_v4)
/-- The weights, as the launch finds them. -/
def weightsOf (c : Dev nD) : ℕ → ℕ → ℕ → EReal := at3 (A := 2) (B := 2048) (C := 19584) (V m c main_v1)

theorem lt_N (t : Fin cfg0.N) : t.val < 304 := lt_of_lt_of_eq t.isLt (show cfg0.N = 304 from N_0)

/-- Where each window's block lies. -/
theorem idx : ∀ t : Fin cfg0.N, win0_0.index t = ![t.val / 19, 0] ∧ win0_1.index t = ![0, 0]
    ∧ win0_2.index t = ![0, 0, col (1024 * (t.val % 19))]
    ∧ win0_3.index t = ![0, 0, 11264] ∧ win0_4.index t = ![t.val / 19, t.val % 19] ∧ win0_5.index t = ![t.val / 19, 0] :=
  (by decide +kernel : ∀ t : Fin grid0.N, _)

theorem block0 (c : Dev nD) (t : Fin cfg0.N) : iblk m c 0 t = vec2 (R := 1024) (C := 2048) (fun r q => rowsOf m c (1024 * (t.val / 19) + r) q) := by
  have hN := lt_N t
  funext y
  have h0 : (y 0).val < 1024 := (y 0).isLt
  have h1 : (y 1).val < 2048 := (y 1).isLt
  show _ = at2 (R := 16384) (C := 2048) (V m c main_v0) (1024 * (t.val / 19) + (y 0).val) (y 1).val
  unfold at2
  rw [dif_pos ⟨by omega, by omega⟩]
  blk_ext [iblk, idx t]

theorem block1 (c : Dev nD) (t : Fin cfg0.N) : iblk m c 1 t = vec2 (R := 1) (C := 2048) (gainOf m c) := by
  refine Eq.trans ?_ (vec2_at2 (R := 1) (C := 2048) (V m c main_v4)).symm
  funext y
  blk_ext [iblk, idx t]

theorem block2 (c : Dev nD) (t : Fin cfg0.N) : iblk m c 2 t = vec3 (Q := 1) (R := 2048) (C := 1024) (fun a k q => weightsOf m c a k (col (1024 * (t.val % 19) + q))) := by
  have hN := lt_N t
  funext y
  have h0 : (y 0).val < 1 := (y 0).isLt
  have h1 : (y 1).val < 2048 := (y 1).isLt
  have h2 : (y 2).val < 1024 := (y 2).isLt
  have hc : col (1024 * (t.val % 19)) + (y 2).val = col (1024 * (t.val % 19) + (y 2).val) := by
    unfold col; split <;> split <;> omega
  have hl : col (1024 * (t.val % 19) + (y 2).val) < 19584 := by unfold col; split <;> omega
  show _ = at3 (A := 2) (B := 2048) (C := 19584) (V m c main_v1) (y 0).val (y 1).val (col (1024 * (t.val % 19) + (y 2).val))
  unfold at3
  rw [dif_pos ⟨by omega, by omega, hl⟩]
  have e := (idx t).2.2.1
  blk_ext [iblk, idx t]
  · show win0_2.index t 0 + 1 * (y 0).val = 0
    rw [e]; show 0 + 1 * (y 0).val = 0; omega
  · show win0_2.index t 1 + 1 * (y 1).val = (y 1).val
    rw [e]; show 0 + 1 * (y 1).val = (y 1).val; omega
  · show win0_2.index t 2 + 1 * (y 2).val = _
    rw [e, ← hc, Nat.one_mul]; rfl

theorem block3 (c : Dev nD) (t : Fin cfg0.N) : iblk m c 3 t = vec3 (Q := 1) (R := 2048) (C := 128) (fun a k q => weightsOf m c a k (11264 + q)) := by
  funext y
  have h0 : (y 0).val < 1 := (y 0).isLt
  have h1 : (y 1).val < 2048 := (y 1).isLt
  have h2 : (y 2).val < 128 := (y 2).isLt
  show _ = at3 (A := 2) (B := 2048) (C := 19584) (V m c main_v1) (y 0).val (y 1).val (11264 + (y 2).val)
  unfold at3
  rw [dif_pos ⟨by omega, by omega, by omega⟩]
  have e := (idx t).2.2.2.1
  blk_ext [iblk, idx t]
  · show win0_3.index t 0 + 1 * (y 0).val = 0
    rw [e]; show 0 + 1 * (y 0).val = 0; omega
  · show win0_3.index t 1 + 1 * (y 1).val = (y 1).val
    rw [e]; show 0 + 1 * (y 1).val = (y 1).val; omega
  · show win0_3.index t 2 + 1 * (y 2).val = 11264 + (y 2).val
    rw [e, Nat.one_mul]; rfl

end Cert.Kernel2Ideal.Proj

end
-- ==== Proof.Proj.Frame.lean ====
/- The projection's launch: what the buffer of normed rows holds before each point, the body at each point, and the run. -/
module

public import proofs.«01_k».proof.Proof.Proj.RunA
public import proofs.«01_k».proof.Proof.Proj.RunB
public import proofs.«01_k».proof.Proof.Proj.Blocks
public import Idealize.ShloMosaic.Lib.Pipeline.TableIdle

@[expose] public section

set_option maxRecDepth 16384

noncomputable section

namespace Cert.Kernel2Ideal.Proj

open Cert.Rec Cert.Proj
open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The normed rows. -/
def normed (c : Dev nD) : ℕ → ℕ → EReal := rms (rowsOf m c) (gainOf m c)
/-- The first result. -/
def wide (c : Dev nD) : ℕ → ℕ → EReal := mulW (normed m c) fun a k q => weightsOf m c a k (col q)
/-- The second result. -/
def side (c : Dev nD) : ℕ → ℕ → EReal := mulW (normed m c) fun a k q => weightsOf m c a k (11264 + q)

/-- What is held before position `n`: at the first nothing is known of the buffer of normed rows; afterwards it holds
    the rows of the point before. -/
def PhiS (c : Dev nD) : (n : ℕ) → n ≤ cfg0.N → sProp 𝕄
  | 0, _ => Pipeline.ΦA spec0 c
  | n + 1, _ => iprop(owns (c : Thread nD τ) scM0_0 fullShare (vec2 (R := 1024) (C := 2048) fun r q => normed m c (1024 * (n / 19) + r) q) ∗ (∃ r, prngReg c r))

theorem PhiS_succ (c : Dev nD) (n : ℕ) (hn : n < cfg0.N) :
    PhiS m c (n + 1) hn = iprop(owns (c : Thread nD τ) scM0_0 fullShare (vec2 (R := 1024) (C := 2048) fun r q => normed m c (1024 * (n / 19) + r) q) ∗ (∃ r, prngReg c r)) := rfl

theorem PhiS_pos (c : Dev nD) (n : ℕ) (h : n ≤ cfg0.N) (hz : n ≠ 0) :
    PhiS m c n h = iprop(owns (c : Thread nD τ) scM0_0 fullShare (vec2 (R := 1024) (C := 2048) fun r q => normed m c (1024 * ((n - 1) / 19) + r) q) ∗ (∃ r, prngReg c r)) := by
  cases n with
  | zero => exact absurd rfl hz
  | succ n => rfl

/-- At any position the buffer holds something. -/
theorem PhiS_any (c : Dev nD) (n : ℕ) (h : n ≤ cfg0.N) : PhiS m c n h ⊢ Pipeline.ΦA spec0 c := by
  cases n with
  | zero => exact Idealize.SL.BI.Entails.refl _
  | succ n =>
    rw [PhiS_succ, PhiA0_eq]
    iintro ⟨HS0, Hg⟩
    isplitl [HS0]
    · iexists _; iexact HS0
    iexact Hg

/-- The launch's proof data: each input's buffer at its block, each result's at the block that the point leaves. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => vec2 (R := 1024) (C := 1024) fun r q => wide m c (1024 * (t.val / 19) + r) (1024 * (t.val % 19) + q)
    | ⟨5, _⟩ => vec2 (R := 1024) (C := 128) fun r q => side m c (1024 * (t.val / 19) + r) q
  Φ t := PhiS m c t.val (Nat.le_of_lt_succ t.isLt)
  q w := Pipeline.shareOf spec0 w
  owed _ := 0

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_4 (c : Dev nD) (t : Fin cfg0.N) : (dats m 0 c).after 4 t = vec2 (R := 1024) (C := 1024) fun r q => wide m c (1024 * (t.val / 19) + r) (1024 * (t.val % 19) + q) := by
  dsimp only [dats]
theorem after0_5 (c : Dev nD) (t : Fin cfg0.N) : (dats m 0 c).after 5 t = vec2 (R := 1024) (C := 128) fun r q => side m c (1024 * (t.val / 19) + r) q := by
  dsimp only [dats]
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- What the body is called with at point `t`. -/
def bodyPre (c : Dev nD) (t : Fin cfg0.N) : sProp 𝕄 :=
  iprop((dats m 0 c).Φ t.castSucc
    ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- What the body returns at point `t`. -/
def bodyPost (c : Dev nD) (t : Fin cfg0.N) : sProp 𝕄 :=
  iprop((dats m 0 c).Φ t.succ
    ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ (dats m 0 c).leavesExact 5 t)

theorem idle_later (t : Fin cfg0.N) (h : cfg0.idle 5 (cfg0.grid.coords t) = true) : t.val % 19 ≠ 0 := fun e => by
  have hc := (hcond t).mpr e
  have h' : (!(k0_cond1 (grid0.coords t) == 1#1)) = true := h
  rw [hc] at h'
  exact absurd h' (by decide)

theorem not_fresh : ∀ t : Fin cfg0.N, t.val % 19 ≠ 0 → cfg0.fresh 5 t.val = false :=
  (by decide +kernel : ∀ t : Fin grid0.N, t.val % 19 ≠ 0 → cfg0.fresh 5 t.val = false)

/-- At a later column block the second result's buffer holds what the first left. -/
theorem before0_5 (c : Dev nD) (t : Fin cfg0.N) (h : t.val % 19 ≠ 0) (d) :
    (dats m 0 c).before 5 t d = vec2 (R := 1024) (C := 128) fun r q => side m c (1024 * (t.val / 19) + r) q := by
  rw [(dats m 0 c).before_out_traj 5 rfl (fun _ _ => rfl) (fun t' ht' hi _ => by
    have := idle_later t' hi
    rw [after0_5, after0_5]
    dsimp only
    rw [show (t'.val - 1) / 19 = t'.val / 19 by omega]) t.val t rfl d, not_fresh t h, if_neg Bool.false_ne_true, after0_5]
  dsimp only
  rw [show (t.val - 1) / 19 = t.val / 19 by omega]

/-- The second result's block is what the point leaves, whether the point stores it or keeps it. -/
theorem leaves0_5 (c : Dev nD) (t : Fin cfg0.N) :
    owns (c : Thread nD τ) (ms0_5 t) fullShare (vec2 (R := 1024) (C := 128) fun r q => side m c (1024 * (t.val / 19) + r) q)
      ⊢ ((dats m 0 c).leavesExact 5 t : sProp 𝕄) := by
  unfold Dat.leavesExact
  cases hi : cfg0.idle 5 (cfg0.grid.coords t) with
  | false => rw [after0_5]
  | true =>
    cases (cfg0.win 5).flush t with
    | true => rw [after0_5]
    | false =>
      dsimp only
      simp only [before0_5 m c t (idle_later t hi)]
      iintro H
      iexists ((dats m 0 c).after 5 t)
      iexact H

set_option maxHeartbeats 9600000 in
/-- The body at any point. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl,
    after0_0, after0_1, after0_2, after0_3, after0_4, block0, block1, block2, block3]
  rw [show (dats m 0 c).Φ t.succ = PhiS m c (t.val + 1) t.isLt from rfl, PhiS_succ]
  have hN := lt_N t
  rw [PhiS_castSucc m c t]
  by_cases h0 : t.val % 19 = 0
  · refine (sep_mono_left (PhiS_any m c _ _)).trans ?_
    rw [PhiA0_eq]
    iintro ⟨⟨HS0, Hg⟩, Ho, ⟨%d0, H0⟩, ⟨%d1, H1⟩, ⟨%d2, H2⟩, ⟨%d3, H3⟩, ⟨%d4, H4⟩, ⟨%d5, H5⟩⟩
    iapply (runA c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond t).mpr h0) (fun r q => rowsOf m c (1024 * (t.val / 19) + r) q) (gainOf m c) (fun a k q => weightsOf m c a k (col (1024 * (t.val % 19) + q))) (fun a k q => weightsOf m c a k (11264 + q)) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS0]; · iexact HS0
    iintro ⟨H0, H1, H2, H3, H4, H5, HS0⟩
    isplitl [HS0 Hg]
    · isplitl [HS0]; · iexact HS0
      iexact Hg
    isplitl [Ho]; · iexact Ho
    isplitl [H0]; · iexact H0
    isplitl [H1]; · iexact H1
    isplitl [H2]; · iexact H2
    isplitl [H3]; · iexact H3
    isplitl [H4]; · iexact H4
    iapply (leaves0_5 m c t)
    iexact H5
  · rw [PhiS_pos m c _ _ (by omega), show (t.val - 1) / 19 = t.val / 19 by omega]
    simp only [before0_5 m c t h0]
    iintro ⟨⟨HS0, Hg⟩, Ho, ⟨%d0, H0⟩, ⟨%d1, H1⟩, ⟨%d2, H2⟩, ⟨%d3, H3⟩, ⟨%d4, H4⟩, ⟨%d5, H5⟩⟩
    iapply (runB c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond t).mp h)) (fun r q => rowsOf m c (1024 * (t.val / 19) + r) q) (gainOf m c) (fun a k q => weightsOf m c a k (col (1024 * (t.val % 19) + q))) (fun a k q => weightsOf m c a k (11264 + q)) (fun r q => normed m c (1024 * (t.val / 19) + r) q) (vec2 (R := 1024) (C := 128) fun r q => side m c (1024 * (t.val / 19) + r) q) Set.univ _)
    isplitl [H0]; · iexact H0
    isplitl [H1]; · iexact H1
    isplitl [H2]; · iexact H2
    isplitl [H3]; · iexact H3
    isplitl [H4]; · iexists _; iexact H4
    isplitl [H5]; · iexact H5
    isplitl [HS0]; · iexact HS0
    iintro ⟨H0, H1, H2, H3, H4, H5, HS0⟩
    isplitl [HS0 Hg]
    · isplitl [HS0]; · iexact HS0
      iexact Hg
    isplitl [Ho]; · iexact Ho
    isplitl [H0]; · iexact H0
    isplitl [H1]; · iexact H1
    isplitl [H2]; · iexact H2
    isplitl [H3]; · iexact H3
    isplitl [H4]; · iexact H4
    iapply (leaves0_5 m c t)
    iexact H5

/-- The body that the launch runs. -/
theorem defs₀_row (t : Fin cfg0.N) :
    defs₀ (F := Ideal) .tc cfg0.body (cfg0.bodyArgs t (cfg0.slots t)) = bodyAt0 t := by
  unfold defs₀; rw [Defs.onTc_tc]

/-- The body at every point, as the launch asks for it. -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 :=
  Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl]
  exact PhiS_any m c _ _

set_option backward.isDefEq.respectTransparency.types false in
/-- The launch's run, with every counter at zero at the end. -/
theorem run_main_quiescent : θ_run defs (onTc (τ := τ) (main (F := Ideal))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- The launch's run. -/
theorem run_main : θ_run defs (onTc (τ := τ) (main (F := Ideal))) (s₀ m ρ) (Pipeline.FramePost cfgs (dats m) 0 (V m)) :=
  (θ_run defs _ _).mono (fun _ h => h.1) (run_main_quiescent m ρ)

/-- The arguments end unchanged and every counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.Kernel2Ideal.Proj

end
-- ==== Proof.Proj.Array.lean ====
/- What the projection's launch leaves in its two results. -/
module

public import proofs.«01_k».proof.Proof.Proj.Frame

@[expose] public section

set_option maxRecDepth 16384

noncomputable section

namespace Cert.Kernel2Ideal.Proj

open Cert.Rec Cert.Proj
open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

theorem final_4 (c : Dev nD) : (dats m 0 c).arrAt 4 cfg0.N = vec2 (R := 16384) (C := 19456) (wide m c) := by
  refine (dats m 0 c).arrAt_eq_of_covers 4 _ (by decide +kernel) fun t _ y => ?_
  have hN := lt_N t
  blk_simp
  rw [after0_4]
  unfold vec2
  blk_simp [idx t]
  first | rfl | (show wide m c _ _ = wide m c _ _; congr 1 <;> omega)

theorem final_5 (c : Dev nD) : (dats m 0 c).arrAt 5 cfg0.N = vec2 (R := 16384) (C := 128) (side m c) := by
  refine (dats m 0 c).arrAt_eq_of_covers 5 _ (by decide +kernel) fun t _ y => ?_
  have hN := lt_N t
  blk_simp
  rw [after0_5]
  unfold vec2
  blk_simp [idx t]
  first | rfl | (show side m c _ _ = side m c _ _; congr 1 <;> omega)

/-- The run leaves the two results. -/
theorem run_out : θ_run defs (onTc (τ := τ) (main (F := Ideal))) ⟨m, fun _ => 0, ρ⟩ (fun r => ∀ c : Dev nD,
    r.2.mem ((c.tc : Thread nD τ).loc main_v5_0) = vec2 (R := 16384) (C := 19456) (wide m c)
      ∧ r.2.mem ((c.tc : Thread nD τ).loc main_v5_1) = vec2 (R := 16384) (C := 128) (side m c)) :=
  (θ_run defs _ _).mono (fun r h c => ⟨((h c).1 4).trans (final_4 m c), ((h c).1 5).trans (final_5 m c)⟩) (run_main m ρ)

end Cert.Kernel2Ideal.Proj

end
-- ==== Proof.Proj.Entry.lean ====
/- The arrays that the projection's launch reads are the program's arguments. -/
module

public import proofs.«01_k».proof.Proof.Proj.Frame
public import Idealize.ShloMosaic.Lib.Claim

@[expose] public section

set_option maxRecDepth 16384

noncomputable section

namespace Cert.Kernel2Ideal.Proj

open Cert.Rec Cert.Proj
open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

theorem rows_at (c : Dev nD) (r : Fin 16384) (k : Fin 2048) : rowsOf m c r.val k.val = rowsArg (m ((c.tc : Thread nD τ).loc main_arg0) : (⟨3, ![2, 8192, 2048]⟩ : Shape).Idx → EReal) r.val k.val := by
  generalize hG : rowsArg _ r.val k.val = G
  unfold rowsOf
  rw [at2_of]
  entry_read
  pointwise
  subst hG
  unfold rowsArg
  rw [at3_lt _ (by omega) (by omega) k.isLt]

theorem gain_at (c : Dev nD) (k : Fin 2048) : gainOf m c 0 k.val = at2 (m ((c.tc : Thread nD τ).loc main_arg1) : (⟨2, ![2, 2048]⟩ : Shape).Idx → EReal) 0 k.val := by
  generalize hG : at2 _ 0 k.val = G
  unfold gainOf
  rw [at2_lt _ (by omega) k.isLt]
  entry_read
  pointwise
  subst hG
  rw [at2_lt _ (by omega) k.isLt]
  try rfl

theorem weights_at (c : Dev nD) (k : Fin 2048) {q : ℕ} (hq : q < 19584) : weightsOf m c 0 k.val q = at3 (m ((c.tc : Thread nD τ).loc main_arg2) : (⟨3, ![2, 2048, 19584]⟩ : Shape).Idx → EReal) 0 k.val q := by
  generalize hG : at3 _ 0 k.val q = G
  unfold weightsOf
  rw [at3_lt _ (by omega) k.isLt hq]
  entry_read
  pointwise
  subst hG
  rw [at3_lt _ (by omega) k.isLt hq]
  try rfl

/-- The first result, from the arguments. -/
theorem wide_at (c : Dev nD) (r : Fin 16384) {q : ℕ} (hq : q < 19456) : wide m c r.val q = proj (m ((c.tc : Thread nD τ).loc main_arg0) : (⟨3, ![2, 8192, 2048]⟩ : Shape).Idx → EReal) (m ((c.tc : Thread nD τ).loc main_arg1) : (⟨2, ![2, 2048]⟩ : Shape).Idx → EReal) (m ((c.tc : Thread nD τ).loc main_arg2) : (⟨3, ![2, 2048, 19584]⟩ : Shape).Idx → EReal) r.val (col q) :=
  mulW_congr (fun k => rows_at m c r k) (fun k => gain_at m c k) (fun k => weights_at m c k (by unfold col; split <;> omega))

/-- The second result, from the arguments. -/
theorem side_at (c : Dev nD) (r : Fin 16384) {q : ℕ} (hq : q < 128) : side m c r.val q = proj (m ((c.tc : Thread nD τ).loc main_arg0) : (⟨3, ![2, 8192, 2048]⟩ : Shape).Idx → EReal) (m ((c.tc : Thread nD τ).loc main_arg1) : (⟨2, ![2, 2048]⟩ : Shape).Idx → EReal) (m ((c.tc : Thread nD τ).loc main_arg2) : (⟨3, ![2, 2048, 19584]⟩ : Shape).Idx → EReal) r.val (11264 + q) :=
  mulW_congr (fun k => rows_at m c r k) (fun k => gain_at m c k) (fun k => weights_at m c k (by omega))

end Cert.Kernel2Ideal.Proj

end
-- ==== Proof.Proj.RefVals.lean ====
/- The reference's results: the projection's columns in two groups. -/
module

public import proofs.«01_k».proof.Proof.Proj.Spec
public import Idealize.ShloMosaic.Lib.Claim
public import proofs.«01_k».proof.Proof.Gen.Reference2Ideal.Run

@[expose] public section

set_option maxRecDepth 16384

noncomputable section

namespace Cert.Reference2Ideal.Vals

open Cert.Rec Cert.Proj
open Cert.Reference2Ideal.Gen
open Idealize.ShloMosaic Idealize.ShloMosaic.TcCoe Idealize.ShloMosaic.Tactic Idealize.SL.Sem

variable (x0 : FVec Ideal S2x8192x2048 .f32) (x1 : FVec Ideal S2x2048 .f32)
  (x2 : FVec Ideal S2x2048x19584 .f32)

/-- The reference's product, before its columns are grouped. -/
def prod : FVec Ideal S16384x19584 .f32 :=
  shapeCast _ (Host.dotGeneral dot_S2x8192x2048_S2048x19584_S2x8192x19584_2_0_01_1_n_n none (mulf (mulf x0 (broadcastInDim S2x8192x2048 ![0, 1, 2] bcast_S2x8192x1_S2x8192x2048_0_1_2 (Host.rsqrt (addf (Host.divf (broadcastInDim S2x8192x1 ![0, 1] bcast_S2x8192_S2x8192x1_0_1 (Host.reduceAdd (mulf x0 x0) (constant S_ .f32 0x00000000#32) reducesTo_S2x8192x2048_S2x8192_d2 h_S_)) (broadcastInDim S2x8192x1 ![] bcast_S_S2x8192x1 (constant S_ .f32 0x45000000#32))) (broadcastInDim S2x8192x1 ![] bcast_S_S2x8192x1 (constant S_ .f32 0x358637BD#32)))))) (broadcastInDim S2x8192x2048 ![0, 1, 2] bcast_S1x1x2048_S2x8192x2048_0_1_2 (broadcastInDim S1x1x2048 ![2] bcast_S2048_S1x1x2048_2 (shapeCast _ (extractStridedSlice S1x2048 ![0, 0] x1 slices_S2x2048_S1x2048_0_0) shapeCasts_S1x2048_S2048)))) (shapeCast _ (extractStridedSlice S1x2048x19584 ![0, 0, 0] x2 slices_S2x2048x19584_S1x2048x19584_0_0_0) shapeCasts_S1x2048x19584_S2048x19584)) shapeCasts_S2x8192x19584_S16384x19584

theorem prod_at (r : Fin 16384) (q : Fin 19584) : prod x0 x1 x2 (ix2 r q) = proj x0 x1 x2 r.val q.val := by
  generalize hG : proj x0 x1 x2 r.val q.val = G
  unfold prod
  pointwise
  subst hG
  have hr := r.isLt
  have e0 : ∀ k : Fin 2048, rowsArg x0 r.val k.val = x0 (ix3 ⟨r.val / 8192, by omega⟩ ⟨r.val % 8192, by omega⟩ k) :=
    fun k => at3_lt x0 (by omega) (by omega) k.isLt
  have e1 : ∀ k : Fin 2048, at2 x1 0 k.val = x1 (ix2 0 k) := fun k => at2_lt x1 (by omega) k.isLt
  have e2 : ∀ k : Fin 2048, at3 x2 0 k.val q.val = x2 (ix3 0 k q) := fun k => at3_lt x2 (by omega) k.isLt q.isLt
  unfold proj mulW rms
  refine Finset.sum_congr rfl fun k _ => ?_
  simp only [e0, e1, e2]

theorem wide_at (r : Fin 16384) (q : Fin 19456) : (concatenate S16384x19456 1 [⟨S16384x11264, (extractStridedSlice S16384x11264 ![0, 0] (prod x0 x1 x2) slices_S16384x19584_S16384x11264_0_0)⟩, ⟨S16384x8192, (extractStridedSlice S16384x8192 ![0, 11392] (prod x0 x1 x2) slices_S16384x19584_S16384x8192_0_11392)⟩] concatenates_S16384x11264_S16384x8192_S16384x19456_d1 : (⟨2, ![16384, 19456]⟩ : Shape).Idx → EReal) (ix2 r q)
    = proj x0 x1 x2 r.val (col q.val) := by
  generalize hG : proj x0 x1 x2 r.val (col q.val) = G
  generalize hP : prod x0 x1 x2 = P
  pointwise
  subst hP hG
  have hq := q.isLt
  unfold col
  by_cases h : q.val < 11264
  · rw [if_pos h]
    exact (dif_pos h).trans (prod_at x0 x1 x2 r _)
  · rw [if_neg h]
    refine (dif_neg h).trans ((prod_at x0 x1 x2 r _).trans ?_)
    exact congrArg (proj x0 x1 x2 r.val) (by show 11392 + (q.val - 11264) = q.val + 128; omega)

theorem side_at (r : Fin 16384) (q : Fin 128) : (extractStridedSlice S16384x128 ![0, 11264] (prod x0 x1 x2) slices_S16384x19584_S16384x128_0_11264 : (⟨2, ![16384, 128]⟩ : Shape).Idx → EReal) (ix2 r q)
    = proj x0 x1 x2 r.val (11264 + q.val) := by
  generalize hG : proj x0 x1 x2 r.val (11264 + q.val) = G
  generalize hP : prod x0 x1 x2 = P
  pointwise
  subst hP hG
  exact prod_at x0 x1 x2 r _

end Cert.Reference2Ideal.Vals

end
-- ==== Proof.Merge.Spec.lean ====
/- The sum of the gated branches, as a function of natural-number rows and columns. -/
module

public import proofs.«01_k».proof.Proof.Lru.Params
public import proofs.«01_k».proof.Proof.Lru.Algebra

@[expose] public section

set_option maxRecDepth 16384

noncomputable section

namespace Cert.Merge

open Idealize.ShloMosaic Idealize.ShloMosaic.TcCoe Idealize.SL.Sem
open Cert.Rec

/-- One branch through its matrix, times its gate. -/
def gated (z u w : ℕ → ℕ → EReal) (r c : ℕ) : EReal := sig (z r c) * ∑ k : Fin 1024, u r k.val * w k.val c

/-- The four branches, in order. -/
def merged (z0 z1 z2 z3 u0 u1 u2 u3 w0 w1 w2 w3 : ℕ → ℕ → EReal) (r c : ℕ) : EReal :=
  gated z0 u0 w0 r c + gated z1 u1 w1 r c + gated z2 u2 w2 r c + gated z3 u3 w3 r c

/-- A branch's rows. -/
def rowsOf (X : (⟨2, ![16384, 1024]⟩ : Shape).Idx → EReal) : ℕ → ℕ → EReal := at2 X
/-- A branch's gates, before the logistic function: the columns of the projection from 11264 on, 2048 a branch. -/
def gateOf (b : ℕ) (X : (⟨2, ![16384, 19456]⟩ : Shape).Idx → EReal) (r q : ℕ) : EReal := at2 X r (11264 + 2048 * b + q)
/-- A branch's matrix in the last layer. -/
def matOf (X : (⟨3, ![2, 1024, 2048]⟩ : Shape).Idx → EReal) (k q : ℕ) : EReal := at3 X 1 k q

/-- The result, from the gated branches, the projection and the branches' matrices. -/
def result (u0 u1 u2 u3 : (⟨2, ![16384, 1024]⟩ : Shape).Idx → EReal) (z : (⟨2, ![16384, 19456]⟩ : Shape).Idx → EReal)
    (w0 w1 w2 w3 : (⟨3, ![2, 1024, 2048]⟩ : Shape).Idx → EReal) : ℕ → ℕ → EReal :=
  merged (gateOf 0 z) (gateOf 1 z) (gateOf 2 z) (gateOf 3 z) (rowsOf u0) (rowsOf u1) (rowsOf u2) (rowsOf u3)
    (matOf w0) (matOf w1) (matOf w2) (matOf w3)

end Cert.Merge

end
-- ==== Proof.Merge.Pure.lean ====
/- What the merging kernel stores from its blocks, entry by entry. -/
module

public import proofs.«01_k».proof.Proof.Merge.Spec
public import proofs.«01_k».proof.Proof.Gen.Kernel3Ideal.Frame
public import Idealize.ShloMosaic.Lib.Pipeline.ValueKit

@[expose] public section

set_option maxRecDepth 16384

noncomputable section

namespace Cert.Merge

open Idealize.ShloMosaic Idealize.ShloMosaic.TcCoe Idealize.SL.Sem
open Cert.Kernel3Ideal Cert.Kernel3Ideal.Gen Cert.Rec

theorem stored (z0 z1 z2 z3 u0 u1 u2 u3 w0 w1 w2 w3 : ℕ → ℕ → EReal) :
    out0_12 (F := Ideal) (vec2 u0) (vec2 u1) (vec2 u2) (vec2 u3) (vec2 z0) (vec2 z1) (vec2 z2) (vec2 z3)
        (vec3 fun _ => w0) (vec3 fun _ => w1) (vec3 fun _ => w2) (vec3 fun _ => w3)
      = vec2 (merged z0 z1 z2 z3 u0 u1 u2 u3 w0 w1 w2 w3) := by
  unfold out0_12
  refine (View.canon_cons_unit_lit _ _ _ (by decide)).trans ?_
  simp only [r0_0, r0_1]
  rw [View.ld_unit_lit _ _ (by decide)]
  funext y; idx_vars y
  pointwise [k0_pay1, k0_pay2, k0_pay3, k0_pay4, vec2, vec3, merged, gated, Cert.Rec.sig, ofBits_one]

end Cert.Merge

end
-- ==== Proof.Rows.Entry.lean ====
/- An array's entry at an index, read by natural numbers. -/
module

public import proofs.«01_k».proof.Proof.Lru.Params

@[expose] public section

set_option maxRecDepth 16384

noncomputable section

namespace Cert.Rec

open Idealize.ShloMosaic Idealize.ShloMosaic.TcCoe Idealize.SL.Sem

theorem entry2 {R C : ℕ} (X : (⟨2, ![R, C]⟩ : Shape).Idx → EReal) (j : (⟨2, ![R, C]⟩ : Shape).Idx) {r c : ℕ}
    (h0 : (j 0).val = r) (h1 : (j 1).val = c) : X j = at2 X r c := by
  subst h0 h1
  exact ((at2_of X (j 0) (j 1)).trans (congrArg X (ix2_eta j))).symm

theorem entry3 {Q R C : ℕ} (X : (⟨3, ![Q, R, C]⟩ : Shape).Idx → EReal) (j : (⟨3, ![Q, R, C]⟩ : Shape).Idx) {q r c : ℕ}
    (h0 : (j 0).val = q) (h1 : (j 1).val = r) (h2 : (j 2).val = c) : X j = at3 X q r c := by
  subst h0 h1 h2
  exact ((at3_of X (j 0) (j 1) (j 2)).trans (congrArg X (ix3_eta j))).symm

/-- A block of a matrix, its first entry's place given in blocks. -/
theorem blockOf2 {R C R' C' : ℕ} (X : (⟨2, ![R, C]⟩ : Shape).Idx → EReal) (e : (⟨2, ![R', C']⟩ : Shape).Idx → (⟨2, ![R, C]⟩ : Shape).Idx)
    (ix : Fin 2 → ℕ) {a b : ℕ} (h : ix = ![a, b]) (he : ∀ y k, (e y k).val = ix k * (![R', C'] : Fin 2 → ℕ) k + 1 * (y k).val) :
    (fun y => X (e y)) = vec2 (fun r q => at2 X (R' * a + r) (C' * b + q)) := by
  subst h
  funext y
  refine entry2 X (e y) ((he y 0).trans ?_) ((he y 1).trans ?_)
  · show a * R' + 1 * (y 0).val = R' * a + (y 0).val
    rw [Nat.mul_comm, Nat.one_mul]
  · show b * C' + 1 * (y 1).val = C' * b + (y 1).val
    rw [Nat.mul_comm, Nat.one_mul]

/-- A block of one matrix of a rank-3 array, its first entry's place given in blocks. -/
theorem blockOf3 {Q R C R' C' : ℕ} (X : (⟨3, ![Q, R, C]⟩ : Shape).Idx → EReal) (e : (⟨3, ![1, R', C']⟩ : Shape).Idx → (⟨3, ![Q, R, C]⟩ : Shape).Idx)
    (ix : Fin 3 → ℕ) {l a b : ℕ} (h : ix = ![l, a, b]) (he : ∀ y k, (e y k).val = ix k * (![1, R', C'] : Fin 3 → ℕ) k + 1 * (y k).val) :
    (fun y => X (e y)) = vec3 (fun _ r q => at3 X l (R' * a + r) (C' * b + q)) := by
  subst h
  funext y
  have h0 : (y 0).val < 1 := (y 0).isLt
  refine entry3 X (e y) ((he y 0).trans ?_) ((he y 1).trans ?_) ((he y 2).trans ?_)
  · show l * 1 + 1 * (y 0).val = l
    omega
  · show a * R' + 1 * (y 1).val = R' * a + (y 1).val
    rw [Nat.mul_comm, Nat.one_mul]
  · show b * C' + 1 * (y 2).val = C' * b + (y 2).val
    rw [Nat.mul_comm, Nat.one_mul]

end Cert.Rec

end
-- ==== Proof.Merge.Array.lean ====
/- What the merging kernel's launch leaves in its result. -/
module

public import proofs.«01_k».proof.Proof.Merge.Pure
public import proofs.«01_k».proof.Proof.Rows.Entry

@[expose] public section

set_option maxRecDepth 16384

noncomputable section

namespace Cert.Kernel3Ideal.Merge

open Cert.Rec Cert.Merge
open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

/-- The result, from the arrays that the launch finds. -/
def out (c : Dev nD) : ℕ → ℕ → EReal :=
  result (V m c main_arg0) (V m c main_arg1) (V m c main_arg2) (V m c main_arg3) (V m c main_arg4)
    (V m c main_v0) (V m c main_v1) (V m c main_v2) (V m c main_v3)

/-- Where each branch's rows lie. -/
theorem idx_rows : ∀ t : Fin cfg0.N, win0_0.index t = ![t.val % 32, 0] ∧ win0_1.index t = ![t.val % 32, 0]
    ∧ win0_2.index t = ![t.val % 32, 0] ∧ win0_3.index t = ![t.val % 32, 0] :=
  (by decide +kernel : ∀ t : Fin grid0.N, _)

/-- Where each branch's gates lie. -/
theorem idx_gates : ∀ t : Fin cfg0.N, win0_4.index t = ![t.val % 32, 11 + t.val / 32] ∧ win0_5.index t = ![t.val % 32, 13 + t.val / 32]
    ∧ win0_6.index t = ![t.val % 32, 15 + t.val / 32] ∧ win0_7.index t = ![t.val % 32, 17 + t.val / 32] :=
  (by decide +kernel : ∀ t : Fin grid0.N, _)

/-- Where each branch's columns of its matrix lie. -/
theorem idx_mats : ∀ t : Fin cfg0.N, win0_8.index t = ![1, 0, t.val / 32] ∧ win0_9.index t = ![1, 0, t.val / 32]
    ∧ win0_10.index t = ![1, 0, t.val / 32] ∧ win0_11.index t = ![1, 0, t.val / 32] :=
  (by decide +kernel : ∀ t : Fin grid0.N, _)

/-- Where the result's block lies. -/
theorem idx_out : ∀ t : Fin cfg0.N, win0_12.index t = ![t.val % 32, t.val / 32] :=
  (by decide +kernel : ∀ t : Fin grid0.N, _)

theorem rows_block (X : (⟨2, ![16384, 1024]⟩ : Shape).Idx → EReal) (e : (⟨2, ![512, 1024]⟩ : Shape).Idx → (⟨2, ![16384, 1024]⟩ : Shape).Idx)
    (ix : Fin 2 → ℕ) {a : ℕ} (h : ix = ![a, 0]) (he : ∀ y k, (e y k).val = ix k * (![512, 1024] : Fin 2 → ℕ) k + 1 * (y k).val) :
    (fun y => X (e y)) = vec2 (fun r q => rowsOf X (512 * a + r) q) :=
  (blockOf2 X e ix h he).trans (congrArg vec2 (funext fun r => funext fun q => congrArg (at2 X (512 * a + r)) (by omega)))

theorem gate_block (b : ℕ) (X : (⟨2, ![16384, 19456]⟩ : Shape).Idx → EReal) (e : (⟨2, ![512, 1024]⟩ : Shape).Idx → (⟨2, ![16384, 19456]⟩ : Shape).Idx)
    (ix : Fin 2 → ℕ) {a j : ℕ} (h : ix = ![a, j]) {i : ℕ} (hj : j = 11 + 2 * b + i) (he : ∀ y k, (e y k).val = ix k * (![512, 1024] : Fin 2 → ℕ) k + 1 * (y k).val) :
    (fun y => X (e y)) = vec2 (fun r q => gateOf b X (512 * a + r) (1024 * i + q)) :=
  (blockOf2 X e ix h he).trans (congrArg vec2 (funext fun r => funext fun q => congrArg (at2 X (512 * a + r)) (by omega)))

theorem mat_block (X : (⟨3, ![2, 1024, 2048]⟩ : Shape).Idx → EReal) (e : (⟨3, ![1, 1024, 1024]⟩ : Shape).Idx → (⟨3, ![2, 1024, 2048]⟩ : Shape).Idx)
    (ix : Fin 3 → ℕ) {j : ℕ} (h : ix = ![1, 0, j]) (he : ∀ y k, (e y k).val = ix k * (![1, 1024, 1024] : Fin 3 → ℕ) k + 1 * (y k).val) :
    (fun y => X (e y)) = vec3 (fun _ k q => matOf X k (1024 * j + q)) :=
  (blockOf3 X e ix h he).trans (congrArg vec3 (funext fun _ => funext fun k => funext fun q => congrArg (fun k => at3 X 1 k (1024 * j + q)) (by omega)))

theorem after_out (c : Dev nD) (t : Fin cfg0.N) : (dats m 0 c).after 12 t
    = vec2 (R := 512) (C := 1024) (fun r q => out m c (512 * (t.val % 32) + r) (1024 * (t.val / 32) + q)) := by
  have g0 : iblk m c 0 t = vec2 _ := rows_block (V m c main_arg0) _ (win0_0.index t) (idx_rows t).1 fun _ _ => rfl
  have g1 : iblk m c 1 t = vec2 _ := rows_block (V m c main_arg1) _ (win0_1.index t) (idx_rows t).2.1 fun _ _ => rfl
  have g2 : iblk m c 2 t = vec2 _ := rows_block (V m c main_arg2) _ (win0_2.index t) (idx_rows t).2.2.1 fun _ _ => rfl
  have g3 : iblk m c 3 t = vec2 _ := rows_block (V m c main_arg3) _ (win0_3.index t) (idx_rows t).2.2.2 fun _ _ => rfl
  have z0 : iblk m c 4 t = vec2 _ := gate_block 0 (V m c main_arg4) _ (win0_4.index t) (idx_gates t).1 rfl fun _ _ => rfl
  have z1 : iblk m c 5 t = vec2 _ := gate_block 1 (V m c main_arg4) _ (win0_5.index t) (idx_gates t).2.1 rfl fun _ _ => rfl
  have z2 : iblk m c 6 t = vec2 _ := gate_block 2 (V m c main_arg4) _ (win0_6.index t) (idx_gates t).2.2.1 rfl fun _ _ => rfl
  have z3 : iblk m c 7 t = vec2 _ := gate_block 3 (V m c main_arg4) _ (win0_7.index t) (idx_gates t).2.2.2 rfl fun _ _ => rfl
  have w0 : iblk m c 8 t = vec3 _ := mat_block (V m c main_v0) _ (win0_8.index t) (idx_mats t).1 fun _ _ => rfl
  have w1 : iblk m c 9 t = vec3 _ := mat_block (V m c main_v1) _ (win0_9.index t) (idx_mats t).2.1 fun _ _ => rfl
  have w2 : iblk m c 10 t = vec3 _ := mat_block (V m c main_v2) _ (win0_10.index t) (idx_mats t).2.2.1 fun _ _ => rfl
  have w3 : iblk m c 11 t = vec3 _ := mat_block (V m c main_v3) _ (win0_11.index t) (idx_mats t).2.2.2 fun _ _ => rfl
  rw [after0_12, g0, g1, g2, g3, z0, z1, z2, z3, w0, w1, w2, w3]
  exact stored _ _ _ _ _ _ _ _ _ _ _ _

theorem final_12 (c : Dev nD) : (dats m 0 c).arrAt 12 cfg0.N = vec2 (R := 16384) (C := 2048) (out m c) := by
  refine (dats m 0 c).arrAt_eq_of_covers 12 _ (by decide +kernel) fun t _ y => ?_
  blk_simp
  rw [after_out]
  unfold vec2
  blk_simp [idx_out t]
  first | rfl | (show out m c _ _ = out m c _ _; congr 1 <;> omega)

/-- The run leaves the result. -/
theorem run_out : θ_run defs (onTc (τ := τ) (main (F := Ideal))) ⟨m, fun _ => 0, ρ⟩ (fun r => ∀ c : Dev nD,
    r.2.mem ((c.tc : Thread nD τ).loc main_v4) = vec2 (R := 16384) (C := 2048) (out m c)) :=
  (θ_run defs _ _).mono (fun r h c => ((h c).1 12).trans (final_12 m c)) (run_main m ρ)

end Cert.Kernel3Ideal.Merge

end
-- ==== Proof.Merge.Entry.lean ====
/- The merging kernel's result, from the program's arguments. -/
module

public import proofs.«01_k».proof.Proof.Merge.Array
public import Idealize.ShloMosaic.Lib.Claim

@[expose] public section

set_option maxRecDepth 16384

noncomputable section

namespace Cert.Kernel3Ideal.Merge

open Cert.Rec Cert.Merge
open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ)

theorem mat0 (c : Dev nD) : (V m c main_v0 : S2x1024x2048.Idx → EReal) = m ((c.tc : Thread nD τ).loc main_arg5) := by
  funext y; idx_vars y
  entry_read
  pointwise

theorem mat1 (c : Dev nD) : (V m c main_v1 : S2x1024x2048.Idx → EReal) = m ((c.tc : Thread nD τ).loc main_arg6) := by
  funext y; idx_vars y
  entry_read
  pointwise

theorem mat2 (c : Dev nD) : (V m c main_v2 : S2x1024x2048.Idx → EReal) = m ((c.tc : Thread nD τ).loc main_arg7) := by
  funext y; idx_vars y
  entry_read
  pointwise

theorem mat3 (c : Dev nD) : (V m c main_v3 : S2x1024x2048.Idx → EReal) = m ((c.tc : Thread nD τ).loc main_arg8) := by
  funext y; idx_vars y
  entry_read
  pointwise

theorem out_eq (c : Dev nD) : out m c = result
    (m ((c.tc : Thread nD τ).loc main_arg0) : (⟨2, ![16384, 1024]⟩ : Shape).Idx → EReal) (m ((c.tc : Thread nD τ).loc main_arg1) : (⟨2, ![16384, 1024]⟩ : Shape).Idx → EReal)
    (m ((c.tc : Thread nD τ).loc main_arg2) : (⟨2, ![16384, 1024]⟩ : Shape).Idx → EReal) (m ((c.tc : Thread nD τ).loc main_arg3) : (⟨2, ![16384, 1024]⟩ : Shape).Idx → EReal)
    (m ((c.tc : Thread nD τ).loc main_arg4) : (⟨2, ![16384, 19456]⟩ : Shape).Idx → EReal)
    (m ((c.tc : Thread nD τ).loc main_arg5) : (⟨3, ![2, 1024, 2048]⟩ : Shape).Idx → EReal) (m ((c.tc : Thread nD τ).loc main_arg6) : (⟨3, ![2, 1024, 2048]⟩ : Shape).Idx → EReal)
    (m ((c.tc : Thread nD τ).loc main_arg7) : (⟨3, ![2, 1024, 2048]⟩ : Shape).Idx → EReal) (m ((c.tc : Thread nD τ).loc main_arg8) : (⟨3, ![2, 1024, 2048]⟩ : Shape).Idx → EReal) := by
  unfold out
  rw [V_main_arg0, V_main_arg1, V_main_arg2, V_main_arg3, V_main_arg4, ← mat0 m c, ← mat1 m c, ← mat2 m c, ← mat3 m c]

end Cert.Kernel3Ideal.Merge

end
-- ==== Proof.Merge.RefVals.lean ====
/- The merging reference's result. -/
module

public import proofs.«01_k».proof.Proof.Merge.Spec
public import Idealize.ShloMosaic.Lib.Claim
public import proofs.«01_k».proof.Proof.Gen.Reference3Ideal.Run

@[expose] public section

set_option maxRecDepth 16384

noncomputable section

namespace Cert.Reference3Ideal.Vals

open Cert.Rec Cert.Merge
open Cert.Reference3Ideal.Gen
open Idealize.ShloMosaic Idealize.ShloMosaic.TcCoe Idealize.ShloMosaic.Tactic Idealize.SL.Sem

/-- The gates of all the branches. -/
def gates (z : FVec Ideal S16384x19456 .f32) : FVec Ideal S2x8192x8192 .f32 :=
  Host.divf (broadcastInDim S2x8192x8192 ![] bcast_S_S2x8192x8192 (constant S_ .f32 0x3F800000#32)) (addf (broadcastInDim S2x8192x8192 ![] bcast_S_S2x8192x8192 (constant S_ .f32 0x3F800000#32)) (Host.exp (Host.negf (extractStridedSlice S2x8192x8192 ![0, 0, 11264] (shapeCast _ z shapeCasts_S16384x19456_S2x8192x19456) slices_S2x8192x19456_S2x8192x8192_0_0_11264))))

theorem gates_at (z : FVec Ideal S16384x19456 .f32) (a : Fin 2) (s q : Fin 8192) :
    gates z (ix3 a s q) = Cert.Rec.sig (at2 z (a.val * 8192 + s.val) (11264 + q.val)) := by
  generalize hG : Cert.Rec.sig _ = G
  unfold gates
  pointwise
  subst hG
  rw [at2_lt z (by omega) (by omega)]
  exact sig_neg _

/-- A branch through its matrix. -/
def through (u : FVec Ideal S16384x1024 .bf16) (w : FVec Ideal S2x1024x2048 .f32) : FVec Ideal S2x8192x2048 .f32 :=
  Host.dotGeneral dot_S2x8192x1024_S1024x2048_S2x8192x2048_2_0_01_1_n_n none (shapeCast _ (extf .f32 u bitsLt_bf16_f32) shapeCasts_S16384x1024_S2x8192x1024) (shapeCast _ (extractStridedSlice S1x1024x2048 ![1, 0, 0] w slices_S2x1024x2048_S1x1024x2048_1_0_0) shapeCasts_S1x1024x2048_S1024x2048)

theorem through_at (u : FVec Ideal S16384x1024 .bf16) (w : FVec Ideal S2x1024x2048 .f32) (a : Fin 2) (s : Fin 8192) (q : Fin 2048) :
    through u w (ix3 a s q) = ∑ k : Fin 1024, at2 u (a.val * 8192 + s.val) k.val * at3 w 1 k.val q.val := by
  have e1 : ∀ k : Fin 1024, at2 u (a.val * 8192 + s.val) k.val = u (ix2 ⟨a.val * 8192 + s.val, by omega⟩ k) := fun k => at2_lt u (by omega) k.isLt
  have e2 : ∀ k : Fin 1024, at3 w 1 k.val q.val = w (ix3 1 k q) := fun k => at3_lt w (by omega) k.isLt q.isLt
  simp only [e1, e2]
  unfold through
  pointwise

/-- The gated branches' sum, the sequences one after the other. -/
def gathered (G : FVec Ideal S2x8192x8192 .f32) (T0 T1 T2 T3 : FVec Ideal S2x8192x2048 .f32) : FVec Ideal S16384x2048 .bf16 :=
  truncf .bf16 (shapeCast _ (addf (addf (addf (mulf (shapeCast _ (extractStridedSlice S2x8192x1x2048 ![0, 0, 0, 0] (shapeCast _ G shapeCasts_S2x8192x8192_S2x8192x4x2048) slices_S2x8192x4x2048_S2x8192x1x2048_0_0_0_0) shapeCasts_S2x8192x1x2048_S2x8192x2048) T0)
      (mulf (shapeCast _ (extractStridedSlice S2x8192x1x2048 ![0, 0, 1, 0] (shapeCast _ G shapeCasts_S2x8192x8192_S2x8192x4x2048) slices_S2x8192x4x2048_S2x8192x1x2048_0_0_1_0) shapeCasts_S2x8192x1x2048_S2x8192x2048) T1))
      (mulf (shapeCast _ (extractStridedSlice S2x8192x1x2048 ![0, 0, 2, 0] (shapeCast _ G shapeCasts_S2x8192x8192_S2x8192x4x2048) slices_S2x8192x4x2048_S2x8192x1x2048_0_0_2_0) shapeCasts_S2x8192x1x2048_S2x8192x2048) T2))
      (mulf (shapeCast _ (extractStridedSlice S2x8192x1x2048 ![0, 0, 3, 0] (shapeCast _ G shapeCasts_S2x8192x8192_S2x8192x4x2048) slices_S2x8192x4x2048_S2x8192x1x2048_0_0_3_0) shapeCasts_S2x8192x1x2048_S2x8192x2048) T3)) shapeCasts_S2x8192x2048_S16384x2048) bitsLt_bf16_f32

theorem result_at (u0 u1 u2 u3 : FVec Ideal S16384x1024 .bf16) (z : FVec Ideal S16384x19456 .f32) (w0 w1 w2 w3 : FVec Ideal S2x1024x2048 .f32)
    (r : Fin 16384) (q : Fin 2048) :
    gathered (gates z) (through u0 w0) (through u1 w1) (through u2 w2) (through u3 w3) (ix2 r q) = result u0 u1 u2 u3 z w0 w1 w2 w3 r.val q.val := by
  generalize hR : result _ _ _ _ _ _ _ _ _ r.val q.val = R
  have hg := gates_at z
  have h0 := through_at u0 w0
  have h1 := through_at u1 w1
  have h2 := through_at u2 w2
  have h3 := through_at u3 w3
  generalize gates z = G at *
  generalize through u0 w0 = T0 at *
  generalize through u1 w1 = T1 at *
  generalize through u2 w2 = T2 at *
  generalize through u3 w3 = T3 at *
  unfold gathered
  pointwise
  subst hR
  have e : r.val / 8192 * 8192 + r.val % 8192 = r.val := by omega
  have c1 : 11264 + (2048 + q.val) = 11264 + 2048 * 1 + q.val := by omega
  have c2 : 11264 + (4096 + q.val) = 11264 + 2048 * 2 + q.val := by omega
  have c3 : 11264 + (6144 + q.val) = 11264 + 2048 * 3 + q.val := by omega
  simp only [hg, h0, h1, h2, h3, e, c1, c2, c3]
  rfl

end Cert.Reference3Ideal.Vals

end
-- ==== Proof.Resid.Spec.lean ====
/- The model's result from its last stream, its merged branches and its last parameters. -/
module

public import proofs.«01_k».proof.Proof.Proj.Spec

@[expose] public section

set_option maxRecDepth 16384

noncomputable section

namespace Cert.Resid

open Idealize.ShloMosaic Idealize.ShloMosaic.TcCoe Idealize.SL.Sem
open Cert.Rec Cert.Proj

/-- The residual stream after the layer's last product. -/
def resid (x u : ℕ → ℕ → EReal) (w : ℕ → ℕ → ℕ → EReal) (r c : ℕ) : EReal := x r c + mulW u w r c

/-- A normed row depends on that row only. -/
theorem rms_congr {x x' g g' : ℕ → ℕ → EReal} {r c : ℕ} (hc : c < 2048) (hx : ∀ k : Fin 2048, x r k.val = x' r k.val) (hg : g 0 c = g' 0 c) :
    rms x g r c = rms x' g' r c := by
  unfold rms
  rw [hx ⟨c, hc⟩, hg, Finset.sum_congr rfl fun k _ => by rw [hx k]]

theorem resid_congr {x x' u u' : ℕ → ℕ → EReal} {w w' : ℕ → ℕ → ℕ → EReal} {r c : ℕ} (hx : x r c = x' r c)
    (hu : ∀ k : Fin 2048, u r k.val = u' r k.val) (hw : ∀ k : Fin 2048, w 0 k.val c = w' 0 k.val c) :
    resid x u w r c = resid x' u' w' r c := by
  unfold resid mulW
  rw [hx]
  exact congrArg _ (Finset.sum_congr rfl fun k _ => by rw [hu k, hw k])

/-- The result, from the program's arguments. -/
def result (x0 : (⟨3, ![2, 8192, 2048]⟩ : Shape).Idx → EReal) (x1 : (⟨2, ![16384, 2048]⟩ : Shape).Idx → EReal)
    (x2 : (⟨3, ![2, 2048, 2048]⟩ : Shape).Idx → EReal) (x3 : (⟨1, ![2048]⟩ : Shape).Idx → EReal) : ℕ → ℕ → EReal :=
  rms (resid (rowsArg x0) (at2 x1) fun _ k q => at3 x2 1 k q) fun _ q => at1 x3 q

end Cert.Resid

end
-- ==== Proof.Resid.Pure.lean ====
/- What the residual kernel's blocks of vector operations compute, entry by entry. -/
module

public import proofs.«01_k».proof.Proof.Resid.Spec
public import proofs.«01_k».proof.Proof.Gen.Kernel4Ideal.Skeleton

@[expose] public section

set_option maxRecDepth 16384

noncomputable section

namespace Cert.Resid

open Idealize.ShloMosaic Idealize.ShloMosaic.TcCoe Idealize.SL.Sem
open Cert.Kernel4Ideal Cert.Kernel4Ideal.Gen Cert.Rec Cert.Proj

theorem pay1 (x u : ℕ → ℕ → EReal) (w : ℕ → ℕ → ℕ → EReal) :
    k0_pay1 (F := Ideal) (vec2 x) (vec2 u) (vec3 w) = vec2 (resid x u w) := by
  funext y; idx_vars y
  pointwise [k0_pay1, vec2, vec3, resid, mulW]

theorem pay2 (g x : ℕ → ℕ → EReal) : k0_pay2 (F := Ideal) (vec2 g) (vec2 x) = vec2 (rms x g) := by
  funext y; idx_vars y
  pointwise [k0_pay2, vec2, rms]

end Cert.Resid

end
-- ==== Proof.Resid.Loop.lean ====
/- What the residual kernel's loop over groups of rows leaves: each row normed in place. -/
module

public import proofs.«01_k».proof.Proof.Resid.Pure
public import proofs.«01_k».proof.Proof.Rows.Load
public import proofs.«01_k».proof.Proof.Gen.Kernel4Ideal.Frame
public import Idealize.ShloMosaic.Lib.VecWindow

@[expose] public section

set_option maxRecDepth 16384

noncomputable section

namespace Cert.Kernel4Ideal.Resid

open Cert.Rec Cert.Proj Cert.Resid
open Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

theorem trips : k0_t1_loop.trips = 16 := by decide +kernel

theorem trip_eq (c : Dev nD) (i : grid0.Coords) (arg1 : Memref sig .tc .vmem S512x2048 .f32) (harg1 : arg1.IsWhole) (arg2 : Memref sig .tc .vmem S512x2048 .bf16) (harg2 : arg2.IsWhole) (arg3 : Memref sig .tc .vmem S1x2048x2048 .bf16) (harg3 : arg3.IsWhole) (arg4 : Memref sig .tc .vmem S1x2048 .f32) (harg4 : arg4.IsWhole) (arg5 : Memref sig .tc .vmem S512x2048 .f32) (harg5 : arg5.IsWhole)
    (v8 : Vec Ideal S1x2048 .f32) (X : BufTy.Contents (Elt Ideal) arg5.view.ty) (k : Fin k0_t1_loop.trips) :
    tripL_k0_t1 Variants.none c none i arg1 harg1 arg2 harg2 arg3 harg3 arg4 harg4 arg5 harg5 v8 k X
      = [⟨Rect.unit (s := S512x2048) (k0_off1 k) S32x2048.size (k0_off1_inb k),
          k0_pay2 v8 (View.readAt (Elt Ideal) arg5.view (Rect.unit (s := S512x2048) (k0_off1 k) S32x2048.size (k0_off1_inb k)).toLoadRect X)⟩] := by
  unfold tripL_k0_t1 trip_k0_t1; dsimp only

/-- After the trips before `n` the rows below `32 n` are normed and the others as they were. -/
theorem rows_read (c : Dev nD) (i : grid0.Coords) (arg1 : Memref sig .tc .vmem S512x2048 .f32) (harg1 : arg1.IsWhole) (arg2 : Memref sig .tc .vmem S512x2048 .bf16) (harg2 : arg2.IsWhole) (arg3 : Memref sig .tc .vmem S1x2048x2048 .bf16) (harg3 : arg3.IsWhole) (arg4 : Memref sig .tc .vmem S1x2048 .f32) (harg4 : arg4.IsWhole) (arg5 : Memref sig .tc .vmem S512x2048 .f32) (harg5 : arg5.IsWhole)
    (x g : ℕ → ℕ → EReal) (G : BufTy.Contents (Elt Ideal) arg5.view.ty) (hG : arg5.view.read (Elt Ideal) G = vec2 x) (n : ℕ) (hn : n ≤ 16) :
    arg5.view.read (Elt Ideal) (arg5.view.writes (Elt Ideal) G (pb_k0_t1 (F := Ideal) Variants.none c none i arg1 harg1 arg2 harg2 arg3 harg3 arg4 harg4 arg5 harg5 (vec2 g) G n))
      = vec2 (fun r q => if r < 32 * n then rms x g r q else x r q) := by
  induction n with
  | zero =>
    refine Eq.trans ?_ hG
    rfl
  | succ n ih =>
    have hlt : n < k0_t1_loop.trips := by rw [trips]; omega
    have ih := ih (by omega)
    rw [pb_k0_t1_succ (F := Ideal) Variants.none c none i arg1 harg1 arg2 harg2 arg3 harg3 arg4 harg4 arg5 harg5 (vec2 g) G ⟨n, hlt⟩, trip_eq]
    funext y
    refine store_rows (R := 512) (C := 2048) (R' := 32) arg5.view G (fun r => rms x g (32 * n + r)) (fun r q => if r < 32 * (n + 1) then rms x g r q else x r q) _ (32 * n) (k0_off1_eq ⟨n, hlt⟩) _ _ (fun r => r < 32 * n ∨ 32 * (n + 1) ≤ r) _ ?_
      (fun r hr q => (if_pos (by omega)).symm) (fun y hy => ?_) y (by omega)
    · rw [load2 (R := 512) (C := 2048) (R' := 32) (C' := 2048) arg5.view _ _ ih _ (32 * n) 0 (k0_off1_eq ⟨n, hlt⟩), pay2]
      funext y
      simp only [vec2, rms, Nat.zero_add, Nat.not_lt.mpr (Nat.le_add_right (32 * n) _), if_false]
    · refine (congrFun ih y).trans ?_
      show (if (y 0).val < 32 * n then rms x g (y 0).val (y 1).val else x (y 0).val (y 1).val) = if (y 0).val < 32 * (n + 1) then rms x g (y 0).val (y 1).val else x (y 0).val (y 1).val
      rcases hy with h | h
      · rw [if_pos h, if_pos (by omega)]
      · rw [if_neg (by omega), if_neg (by omega)]

theorem stored (c : Dev nD) (i : grid0.Coords) (arg1 : Memref sig .tc .vmem S512x2048 .f32) (harg1 : arg1.IsWhole) (arg2 : Memref sig .tc .vmem S512x2048 .bf16) (harg2 : arg2.IsWhole) (arg3 : Memref sig .tc .vmem S1x2048x2048 .bf16) (harg3 : arg3.IsWhole) (arg4 : Memref sig .tc .vmem S1x2048 .f32) (harg4 : arg4.IsWhole) (arg5 : Memref sig .tc .vmem S512x2048 .f32) (harg5 : arg5.IsWhole)
    (x u : ℕ → ℕ → EReal) (w : ℕ → ℕ → ℕ → EReal) (g : ℕ → ℕ → EReal) :
    out0_A_4 (F := Ideal) c i arg1 harg1 arg2 harg2 arg3 harg3 arg4 harg4 arg5 harg5 (vec2 x) (vec2 u) (vec3 w) (vec2 g)
      = vec2 (rms (resid x u w) g) := by
  unfold out0_A_4
  rw [View.read_writes_junk_eq_canon, ← View.read_writes_junk_eq_canon arg5.view]
  unfold kernelRun0_A
  dsimp only
  rw [View.writes_append]
  have h1 : View.readAt (Elt Ideal) arg1.view (Rect.unit (s := S512x2048) ![0, 0] S512x2048.size inb_S512x2048_S512x2048_0_0).toLoadRect (harg1.unread (vec2 x)) = vec2 x :=
    (View.readAt_full arg1.view _ _).trans (harg1.read_unread _)
  have h2 : View.readAt (Elt Ideal) arg2.view (Rect.unit (s := S512x2048) ![0, 0] S512x2048.size inb_S512x2048_S512x2048_0_0).toLoadRect (harg2.unread (vec2 u)) = vec2 u :=
    (View.readAt_full arg2.view _ _).trans (harg2.read_unread _)
  have h3 : View.readAt (Elt Ideal) arg3.view (Rect.unit (s := S1x2048x2048) ![0, 0, 0] S1x2048x2048.size inb_S1x2048x2048_S1x2048x2048_0_0_0).toLoadRect (harg3.unread (vec3 w)) = vec3 w :=
    (View.readAt_full arg3.view _ _).trans (harg3.read_unread _)
  have h4 : View.readAt (Elt Ideal) arg4.view (Rect.unit (s := S1x2048) ![0, 0] S1x2048.size inb_S1x2048_S1x2048_0_0).toLoadRect (harg4.unread (vec2 g)) = vec2 g :=
    (View.readAt_full arg4.view _ _).trans (harg4.read_unread _)
  rw [h4]
  have hH : kernelRun0_A.sl.H4_1 (F := Ideal) c arg1 harg1 arg2 harg2 arg3 harg3 (vec2 x) (vec2 u) (vec3 w)
      = [⟨Rect.unit (s := S512x2048) ![0, 0] S512x2048.size inb_S512x2048_S512x2048_0_0, vec2 (resid x u w)⟩] := by
    unfold kernelRun0_A.sl.H4_1
    simp only [h1, h2, h3]
    rw [pay1]
  rw [hH]
  refine (rows_read c i arg1 harg1 arg2 harg2 arg3 harg3 arg4 harg4 arg5 harg5 (resid x u w) g _ ?_ 16 le_rfl).trans ?_
  · exact View.read_writes_full arg5.view _ _ _ _
  · funext y
    have h : (y 0).val < 512 := (y 0).isLt
    exact if_pos (by omega)

end Cert.Kernel4Ideal.Resid

end
-- ==== Proof.Resid.Array.lean ====
/- What the residual kernel's launch leaves in its result. -/
module

public import proofs.«01_k».proof.Proof.Resid.Loop
public import proofs.«01_k».proof.Proof.Rows.Entry
public import Idealize.ShloMosaic.Lib.Pipeline.ValueKit

@[expose] public section

set_option maxRecDepth 16384

noncomputable section

namespace Cert.Kernel4Ideal.Resid

open Cert.Rec Cert.Proj Cert.Resid
open Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

/-- The stream's rows, as the launch finds them. -/
def rowsOf (c : Dev nD) : ℕ → ℕ → EReal := at2 (R := 16384) (C := 2048) (V m c main_v0)
/-- The merged branches, as the launch finds them. -/
def mergedOf (c : Dev nD) : ℕ → ℕ → EReal := at2 (R := 16384) (C := 2048) (V m c main_arg1)
/-- The last layer's matrix, as the launch finds it. -/
def weightsOf (c : Dev nD) (_ k q : ℕ) : EReal := at3 (A := 2) (B := 2048) (C := 2048) (V m c main_v1) 1 k q
/-- The gain, as the launch finds it. -/
def gainOf (c : Dev nD) : ℕ → ℕ → EReal := at2 (R := 1) (C := 2048) (V m c main_v2)

/-- The result, from the arrays that the launch finds. -/
def out (c : Dev nD) : ℕ → ℕ → EReal := rms (resid (rowsOf m c) (mergedOf m c) (weightsOf m c)) (gainOf m c)

/-- Where each window's block lies. -/
theorem idx : ∀ t : Fin cfg0.N, win0_0.index t = ![t.val, 0] ∧ win0_1.index t = ![t.val, 0]
    ∧ win0_2.index t = ![1, 0, 0] ∧ win0_3.index t = ![0, 0] ∧ win0_4.index t = ![t.val, 0] :=
  (by decide +kernel : ∀ t : Fin grid0.N, _)

theorem block0 (c : Dev nD) (t : Fin cfg0.N) : iblk m c 0 t = vec2 (R := 512) (C := 2048) (fun r q => rowsOf m c (512 * t.val + r) q) := by
  funext y
  refine entry2 (R := 16384) (C := 2048) (V m c main_v0) _ ?_ ?_
  · show win0_0.index t 0 * 512 + 1 * (y 0).val = _
    rw [(idx t).1, Nat.mul_comm, Nat.one_mul]; rfl
  · show win0_0.index t 1 * 2048 + 1 * (y 1).val = _
    rw [(idx t).1, Nat.one_mul]; exact Nat.zero_add _

theorem block1 (c : Dev nD) (t : Fin cfg0.N) : iblk m c 1 t = vec2 (R := 512) (C := 2048) (fun r q => mergedOf m c (512 * t.val + r) q) := by
  funext y
  refine entry2 (R := 16384) (C := 2048) (V m c main_arg1) _ ?_ ?_
  · show win0_1.index t 0 * 512 + 1 * (y 0).val = _
    rw [(idx t).2.1, Nat.mul_comm, Nat.one_mul]; rfl
  · show win0_1.index t 1 * 2048 + 1 * (y 1).val = _
    rw [(idx t).2.1, Nat.one_mul]; exact Nat.zero_add _

theorem block2 (c : Dev nD) (t : Fin cfg0.N) : iblk m c 2 t = vec3 (Q := 1) (R := 2048) (C := 2048) (weightsOf m c) := by
  funext y
  have h0 : (y 0).val < 1 := (y 0).isLt
  refine entry3 (Q := 2) (R := 2048) (C := 2048) (V m c main_v1) _ ?_ ?_ ?_
  · show win0_2.index t 0 * 1 + 1 * (y 0).val = _
    rw [(idx t).2.2.1]; show 1 * 1 + 1 * (y 0).val = 1; omega
  · show win0_2.index t 1 * 2048 + 1 * (y 1).val = _
    rw [(idx t).2.2.1, Nat.one_mul]; exact Nat.zero_add _
  · show win0_2.index t 2 * 2048 + 1 * (y 2).val = _
    rw [(idx t).2.2.1, Nat.one_mul]; exact Nat.zero_add _

theorem block3 (c : Dev nD) (t : Fin cfg0.N) : iblk m c 3 t = vec2 (R := 1) (C := 2048) (gainOf m c) := by
  funext y
  refine entry2 (R := 1) (C := 2048) (V m c main_v2) _ ?_ ?_
  · show win0_3.index t 0 * 1 + 1 * (y 0).val = _
    rw [(idx t).2.2.2.1, Nat.one_mul]; exact Nat.zero_add _
  · show win0_3.index t 1 * 2048 + 1 * (y 1).val = _
    rw [(idx t).2.2.2.1, Nat.one_mul]; exact Nat.zero_add _

theorem after_out (c : Dev nD) (t : Fin cfg0.N) : outsAt0 m c t = vec2 (R := 512) (C := 2048) (fun r q => out m c (512 * t.val + r) q) := by
  unfold outsAt0
  rw [block0, block1, block2, block3]
  exact stored c _ _ _ _ _ _ _ _ _ _ _ _ _ _ _

theorem final_4 (c : Dev nD) : (dats m 0 c).arrAt 4 cfg0.N = vec2 (R := 16384) (C := 2048) (out m c) := by
  refine (dats m 0 c).arrAt_eq_of_covers 4 _ (by decide +kernel) fun t _ y => ?_
  blk_simp
  rw [after0_4, after_out]
  unfold vec2
  blk_simp [idx t]
  first | rfl | (show out m c _ _ = out m c _ _; congr 1 <;> omega)

/-- The run leaves the result. -/
theorem run_out : θ_run defs (onTc (τ := τ) (main (F := Ideal))) ⟨m, fun _ => 0, ρ⟩ (fun r => ∀ c : Dev nD,
    r.2.mem ((c.tc : Thread nD τ).loc main_v3) = vec2 (R := 16384) (C := 2048) (out m c)) :=
  (θ_run defs _ _).mono (fun r h c => ((h c).1 4).trans (final_4 m c)) (run_main m ρ)

end Cert.Kernel4Ideal.Resid

end
-- ==== Proof.Resid.Entry.lean ====
/- The residual kernel's result, from the program's arguments. -/
module

public import proofs.«01_k».proof.Proof.Resid.Array
public import Idealize.ShloMosaic.Lib.Claim

@[expose] public section

set_option maxRecDepth 16384

noncomputable section

namespace Cert.Kernel4Ideal.Resid

open Cert.Rec Cert.Proj Cert.Resid
open Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ)

theorem rows_at (c : Dev nD) (r : Fin 16384) (k : Fin 2048) : rowsOf m c r.val k.val = rowsArg (m ((c.tc : Thread nD τ).loc main_arg0) : (⟨3, ![2, 8192, 2048]⟩ : Shape).Idx → EReal) r.val k.val := by
  generalize hG : rowsArg _ r.val k.val = G
  unfold rowsOf
  rw [at2_of]
  entry_read
  pointwise
  subst hG
  unfold rowsArg
  rw [at3_lt _ (by omega) (by omega) k.isLt]

theorem gain_at (c : Dev nD) (k : Fin 2048) : gainOf m c 0 k.val = at1 (m ((c.tc : Thread nD τ).loc main_arg3) : (⟨1, ![2048]⟩ : Shape).Idx → EReal) k.val := by
  generalize hG : at1 _ k.val = G
  unfold gainOf
  rw [at2_lt _ (by omega) k.isLt]
  entry_read
  pointwise
  subst hG
  rw [at1_lt _ k.isLt]
  try rfl

theorem weights_at (c : Dev nD) (k q : Fin 2048) : weightsOf m c 0 k.val q.val = at3 (m ((c.tc : Thread nD τ).loc main_arg2) : (⟨3, ![2, 2048, 2048]⟩ : Shape).Idx → EReal) 1 k.val q.val := by
  generalize hG : at3 _ 1 k.val q.val = G
  unfold weightsOf
  rw [at3_lt _ (by omega) k.isLt q.isLt]
  entry_read
  pointwise
  subst hG
  rw [at3_lt _ (by omega) k.isLt q.isLt]
  try rfl

theorem merged_eq (c : Dev nD) : mergedOf m c = at2 (m ((c.tc : Thread nD τ).loc main_arg1) : (⟨2, ![16384, 2048]⟩ : Shape).Idx → EReal) := by
  unfold mergedOf
  rw [V_main_arg1]

theorem out_at (c : Dev nD) (r : Fin 16384) (q : Fin 2048) : out m c r.val q.val = result
    (m ((c.tc : Thread nD τ).loc main_arg0) : (⟨3, ![2, 8192, 2048]⟩ : Shape).Idx → EReal) (m ((c.tc : Thread nD τ).loc main_arg1) : (⟨2, ![16384, 2048]⟩ : Shape).Idx → EReal)
    (m ((c.tc : Thread nD τ).loc main_arg2) : (⟨3, ![2, 2048, 2048]⟩ : Shape).Idx → EReal) (m ((c.tc : Thread nD τ).loc main_arg3) : (⟨1, ![2048]⟩ : Shape).Idx → EReal) r.val q.val :=
  rms_congr q.isLt (fun k => resid_congr (rows_at m c r k) (fun _ => by rw [merged_eq]) fun j => weights_at m c j k) (gain_at m c q)

end Cert.Kernel4Ideal.Resid

end
-- ==== Proof.Resid.RefVals.lean ====
/- The last reference's result. -/
module

public import proofs.«01_k».proof.Proof.Resid.Spec
public import Idealize.ShloMosaic.Lib.Claim
public import proofs.«01_k».proof.Proof.Gen.Reference4Ideal.Run

@[expose] public section

set_option maxRecDepth 16384

noncomputable section

namespace Cert.Reference4Ideal.Vals

open Cert.Rec Cert.Proj Cert.Resid
open Cert.Reference4Ideal.Gen
open Idealize.ShloMosaic Idealize.ShloMosaic.TcCoe Idealize.ShloMosaic.Tactic Idealize.SL.Sem

variable (x0 : FVec Ideal S2x8192x2048 .f32) (x1 : FVec Ideal S16384x2048 .bf16)
  (x2 : FVec Ideal S2x2048x2048 .f32) (x3 : FVec Ideal S2048 .f32)

/-- The stream after the layer's last product. -/
def stream : FVec Ideal S2x8192x2048 .f32 :=
  addf x0 (Host.dotGeneral dot_S2x8192x2048_S2048x2048_S2x8192x2048_2_0_01_1_n_n none (shapeCast _ (extf .f32 x1 bitsLt_bf16_f32) shapeCasts_S16384x2048_S2x8192x2048) (shapeCast _ (extractStridedSlice S1x2048x2048 ![1, 0, 0] x2 slices_S2x2048x2048_S1x2048x2048_1_0_0) shapeCasts_S1x2048x2048_S2048x2048))

theorem stream_at (r : Fin 16384) (q : Fin 2048) : stream x0 x1 x2 (ix3 ⟨r.val / 8192, by omega⟩ ⟨r.val % 8192, by omega⟩ q)
    = resid (rowsArg x0) (at2 x1) (fun _ k q => at3 x2 1 k q) r.val q.val := by
  generalize hG : resid _ _ _ r.val q.val = G
  unfold stream
  pointwise
  subst hG
  have hr := r.isLt
  have e0 : rowsArg x0 r.val q.val = x0 (ix3 ⟨r.val / 8192, by omega⟩ ⟨r.val % 8192, by omega⟩ q) := at3_lt x0 (by omega) (by omega) q.isLt
  have e1 : ∀ k : Fin 2048, at2 x1 r.val k.val = x1 (ix2 r k) := fun k => at2_lt x1 r.isLt k.isLt
  have e2 : ∀ k : Fin 2048, at3 x2 1 k.val q.val = x2 (ix3 1 k q) := fun k => at3_lt x2 (by omega) k.isLt q.isLt
  unfold resid mulW
  simp only [e0, e1, e2]

/-- The norm of a stream, its sequences one after the other. -/
def normed (X : FVec Ideal S2x8192x2048 .f32) : FVec Ideal S16384x2048 .f32 :=
  shapeCast _ (mulf (mulf X (broadcastInDim S2x8192x2048 ![0, 1, 2] bcast_S2x8192x1_S2x8192x2048_0_1_2 (Host.rsqrt (addf (Host.divf (broadcastInDim S2x8192x1 ![0, 1] bcast_S2x8192_S2x8192x1_0_1 (Host.reduceAdd (mulf X X) (constant S_ .f32 0x00000000#32) reducesTo_S2x8192x2048_S2x8192_d2 h_S_)) (broadcastInDim S2x8192x1 ![] bcast_S_S2x8192x1 (constant S_ .f32 0x45000000#32))) (broadcastInDim S2x8192x1 ![] bcast_S_S2x8192x1 (constant S_ .f32 0x358637BD#32)))))) (broadcastInDim S2x8192x2048 ![0, 1, 2] bcast_S1x1x2048_S2x8192x2048_0_1_2 (broadcastInDim S1x1x2048 ![2] bcast_S2048_S1x1x2048_2 x3))) shapeCasts_S2x8192x2048_S16384x2048

theorem normed_at (X : FVec Ideal S2x8192x2048 .f32) (r : Fin 16384) (q : Fin 2048) : normed x3 X (ix2 r q) = rms (rowsArg X) (fun _ k => at1 x3 k) r.val q.val := by
  generalize hG : rms _ _ r.val q.val = G
  unfold normed
  pointwise
  subst hG
  have hr := r.isLt
  have e0 : ∀ k : Fin 2048, rowsArg X r.val k.val = X (ix3 ⟨r.val / 8192, by omega⟩ ⟨r.val % 8192, by omega⟩ k) :=
    fun k => at3_lt X (by omega) (by omega) k.isLt
  have e1 : at1 x3 q.val = x3 (ix1 q) := at1_lt x3 q.isLt
  unfold rms
  simp only [e0, e1]

theorem result_at (r : Fin 16384) (q : Fin 2048) : normed x3 (stream x0 x1 x2) (ix2 r q) = result x0 x1 x2 x3 r.val q.val := by
  have hr := r.isLt
  exact (normed_at x3 _ r q).trans (rms_congr q.isLt (fun k => (at3_lt (stream x0 x1 x2) (by omega) (by omega) k.isLt).trans (stream_at x0 x1 x2 r k)) rfl)

end Cert.Reference4Ideal.Vals

end
-- ==== Proof.Resid.First.lean ====
/- What the first layer's residual kernel leaves in its result. -/
module

public import proofs.«01_k».proof.Proof.Resid.Spec
public import proofs.«01_k».proof.Proof.Rows.Entry
public import proofs.«01_k».proof.Proof.Gen.Kernel5Ideal.Frame
public import Idealize.ShloMosaic.Lib.Pipeline.ValueKit
public import Idealize.ShloMosaic.Lib.Claim

@[expose] public section

set_option maxRecDepth 16384

noncomputable section

namespace Cert.Kernel5Ideal.Resid

open Cert.Rec Cert.Proj Cert.Resid
open Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

theorem stored (x u : ℕ → ℕ → EReal) (w : ℕ → ℕ → ℕ → EReal) (g : Vec Ideal S1x2048 .f32) :
    out0_4 (F := Ideal) (vec2 x) (vec2 u) (vec3 w) g = vec2 (resid x u w) := by
  unfold out0_4
  refine (View.canon_cons_unit_lit _ _ _ (by decide)).trans ?_
  simp only [r0_0, r0_1]
  funext y; idx_vars y
  pointwise [k0_pay1, vec2, vec3, resid, mulW]

/-- The result, from the arrays that the launch finds. -/
def out (c : Dev nD) : ℕ → ℕ → EReal :=
  resid (at2 (R := 16384) (C := 2048) (V m c main_v0)) (at2 (R := 16384) (C := 2048) (V m c main_arg1)) (at3 (A := 2) (B := 2048) (C := 2048) (V m c main_v1))

/-- Where each window's block lies. -/
theorem idx : ∀ t : Fin cfg0.N, win0_0.index t = ![t.val, 0] ∧ win0_1.index t = ![t.val, 0]
    ∧ win0_2.index t = ![0, 0, 0] ∧ win0_4.index t = ![t.val, 0] :=
  (by decide +kernel : ∀ t : Fin grid0.N, _)

theorem after_out (c : Dev nD) (t : Fin cfg0.N) : (dats m 0 c).after 4 t = vec2 (R := 512) (C := 2048) (fun r q => out m c (512 * t.val + r) q) := by
  have b0 : iblk m c 0 t = vec2 _ := blockOf2 (R := 16384) (C := 2048) (R' := 512) (C' := 2048) (V m c main_v0) _ (win0_0.index t) (idx t).1 fun _ _ => rfl
  have b1 : iblk m c 1 t = vec2 _ := blockOf2 (R := 16384) (C := 2048) (R' := 512) (C' := 2048) (V m c main_arg1) _ (win0_1.index t) (idx t).2.1 fun _ _ => rfl
  have b2 : iblk m c 2 t = vec3 _ := blockOf3 (Q := 2) (R := 2048) (C := 2048) (R' := 2048) (C' := 2048) (V m c main_v1) _ (win0_2.index t) (idx t).2.2.1 fun _ _ => rfl
  rw [after0_4, b0, b1, b2]
  refine (stored _ _ _ _).trans (congrArg vec2 (funext fun r => funext fun q => ?_))
  simp only [out, resid, mulW, Nat.mul_zero, Nat.zero_add]

theorem final_4 (c : Dev nD) : (dats m 0 c).arrAt 4 cfg0.N = vec2 (R := 16384) (C := 2048) (out m c) := by
  refine (dats m 0 c).arrAt_eq_of_covers 4 _ (by decide +kernel) fun t _ y => ?_
  blk_simp
  rw [after_out]
  unfold vec2
  blk_simp [idx t]
  rw [Nat.mul_comm 512]

/-- The run leaves the result. -/
theorem run_out : θ_run defs (onTc (τ := τ) (main (F := Ideal))) ⟨m, fun _ => 0, ρ⟩ (fun r => ∀ c : Dev nD,
    r.2.mem ((c.tc : Thread nD τ).loc main_v3) = vec2 (R := 16384) (C := 2048) (out m c)) :=
  (θ_run defs _ _).mono (fun r h c => ((h c).1 4).trans (final_4 m c)) (run_main m ρ)

theorem rows_at (c : Dev nD) (r : Fin 16384) (k : Fin 2048) : at2 (R := 16384) (C := 2048) (V m c main_v0) r.val k.val = rowsArg (m ((c.tc : Thread nD τ).loc main_arg0) : (⟨3, ![2, 8192, 2048]⟩ : Shape).Idx → EReal) r.val k.val := by
  generalize hG : rowsArg _ r.val k.val = G
  rw [at2_of]
  entry_read
  pointwise
  subst hG
  unfold rowsArg
  rw [at3_lt _ (by omega) (by omega) k.isLt]

theorem weights_eq (c : Dev nD) : (V m c main_v1 : S2x2048x2048.Idx → EReal) = m ((c.tc : Thread nD τ).loc main_arg2) := by
  funext y; idx_vars y
  entry_read
  pointwise

theorem out_at (c : Dev nD) (r : Fin 16384) (q : Fin 2048) : out m c r.val q.val = resid
    (rowsArg (m ((c.tc : Thread nD τ).loc main_arg0) : (⟨3, ![2, 8192, 2048]⟩ : Shape).Idx → EReal)) (at2 (m ((c.tc : Thread nD τ).loc main_arg1) : (⟨2, ![16384, 2048]⟩ : Shape).Idx → EReal))
    (at3 (m ((c.tc : Thread nD τ).loc main_arg2) : (⟨3, ![2, 2048, 2048]⟩ : Shape).Idx → EReal)) r.val q.val :=
  resid_congr (rows_at m c r q) (fun _ => by rw [V_main_arg1]) (fun _ => by rw [← weights_eq m c])

end Cert.Kernel5Ideal.Resid

end
-- ==== Proof.Resid.FirstRef.lean ====
/- The first layer's residual reference's result. -/
module

public import proofs.«01_k».proof.Proof.Resid.Spec
public import Idealize.ShloMosaic.Lib.Claim
public import proofs.«01_k».proof.Proof.Gen.Reference5Ideal.Run

@[expose] public section

set_option maxRecDepth 16384

noncomputable section

namespace Cert.Reference5Ideal.Vals

open Cert.Rec Cert.Proj Cert.Resid
open Cert.Reference5Ideal.Gen
open Idealize.ShloMosaic Idealize.ShloMosaic.TcCoe Idealize.ShloMosaic.Tactic Idealize.SL.Sem

theorem result_at (x0 : FVec Ideal S2x8192x2048 .f32) (x1 : FVec Ideal S16384x2048 .bf16) (x2 : FVec Ideal S2x2048x2048 .f32)
    (r : Fin 16384) (q : Fin 2048) :
    (shapeCast _ (addf x0 (Host.dotGeneral dot_S2x8192x2048_S2048x2048_S2x8192x2048_2_0_01_1_n_n none (shapeCast _ (extf .f32 x1 bitsLt_bf16_f32) shapeCasts_S16384x2048_S2x8192x2048) (shapeCast _ (extractStridedSlice S1x2048x2048 ![0, 0, 0] x2 slices_S2x2048x2048_S1x2048x2048_0_0_0) shapeCasts_S1x2048x2048_S2048x2048))) shapeCasts_S2x8192x2048_S16384x2048 : FVec Ideal S16384x2048 .f32) (ix2 r q)
    = resid (rowsArg x0) (at2 x1) (at3 x2) r.val q.val := by
  generalize hG : resid _ _ _ r.val q.val = G
  pointwise
  subst hG
  have hr := r.isLt
  have e0 : rowsArg x0 r.val q.val = x0 (ix3 ⟨r.val / 8192, by omega⟩ ⟨r.val % 8192, by omega⟩ q) := at3_lt x0 (by omega) (by omega) q.isLt
  have e1 : ∀ k : Fin 2048, at2 x1 r.val k.val = x1 (ix2 r k) := fun k => at2_lt x1 r.isLt k.isLt
  have e2 : ∀ k : Fin 2048, at3 x2 0 k.val q.val = x2 (ix3 0 k q) := fun k => at3_lt x2 (by omega) k.isLt q.isLt
  unfold resid mulW
  simp only [e0, e1, e2]

end Cert.Reference5Ideal.Vals

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Step
public import proofs.«01_k».proof.Proof.Gen.Kernel2
public import proofs.«01_k».proof.Proof.Gen.Kernel2.Skeleton
public import proofs.«01_k».proof.Proof.Gen.Kernel2.Loops
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Loops
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Loops
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Loops
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Bits.Frame
public import proofs.«01_k».proof.Proof.Lru.Entry
public import proofs.«01_k».proof.Proof.Lru.RefRun
public import proofs.«01_k».proof.Proof.Lru.RefLoop
public import proofs.«01_k».proof.Proof.ProjBits.Frame
public import proofs.«01_k».proof.Proof.Proj.Array
public import proofs.«01_k».proof.Proof.Proj.Entry
public import proofs.«01_k».proof.Proof.Proj.RefVals
public import proofs.«01_k».proof.Proof.Merge.Entry
public import proofs.«01_k».proof.Proof.Merge.RefVals
public import proofs.«01_k».proof.Proof.Resid.Entry
public import proofs.«01_k».proof.Proof.Resid.RefVals
public import proofs.«01_k».proof.Proof.Resid.First
public import proofs.«01_k».proof.Proof.Resid.FirstRef
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference's run, its result in terms of the recurrence, its arguments unchanged and every counter at zero. -/
theorem ref_run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ fun r =>
      ∀ c : Dev Cert.ReferenceIdeal.nD,
      r.2.mem ((c.tc : Thread Cert.ReferenceIdeal.nD Cert.ReferenceIdeal.τ).loc Cert.ReferenceIdeal.main_v84) = Cert.ReferenceIdeal.Step.R_main_v84 (F := Ideal) (Cert.ReferenceIdeal.Vals.iter (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) 8192) (m ((c.tc : Thread Cert.ReferenceIdeal.nD Cert.ReferenceIdeal.τ).loc Cert.ReferenceIdeal.main_arg0))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7) :=
  Cert.ReferenceIdeal.Trips.run_iter (F := Ideal) m ρ
    (fun c => Cert.ReferenceIdeal.Vals.iter (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)))
    (fun c => rfl) (fun c n => rfl)

/-- The recurrence's kernel and reference agree. -/
theorem lru_agree : Cert.algebraic_KernelIdeal_ReferenceIdeal := by
  intro m g m' g' _ hagree
  refine ⟨Cert.KernelIdeal.Lru.out m, (θ_run _ _ _).mono (fun r h c => ⟨h.1 c, h.2.1 c⟩)
    (θ_run_and (Cert.KernelIdeal.Lru.run_out m g) (Cert.KernelIdeal.Lru.frame m g)), ?_⟩
  refine (θ_run _ _ _).mono (fun r h c => ⟨(h c).1.trans ?_, (h c).2⟩) (ref_run m' g')
  refine (Cert.ReferenceIdeal.Vals.result_eq _ _ _ _ _ _ _ _).trans ?_
  obtain ⟨e0, e1, e2, e3, e4, e5, e6, e7⟩ := hagree c
  rw [e0, e1, e2, e3, e4, e5, e6, e7]
  unfold Cert.KernelIdeal.Lru.out
  rw [Cert.KernelIdeal.Lru.arrays_eq]

/-- The projection's kernel and reference agree. -/
theorem proj_agree : Cert.algebraic_Kernel2Ideal_Reference2Ideal := by
  intro m g m' g' _ hagree
  refine ⟨fun c => Cert.Rec.vec2 (R := 16384) (C := 19456) (Cert.Kernel2Ideal.Proj.wide m c), fun c => Cert.Rec.vec2 (R := 16384) (C := 128) (Cert.Kernel2Ideal.Proj.side m c),
    (θ_run _ _ _).mono (fun r h c => ⟨(h.1 c).1, (h.1 c).2, h.2.1 c⟩)
      (θ_run_and (Cert.Kernel2Ideal.Proj.run_out m g) (Cert.Kernel2Ideal.Proj.frame m g)), ?_⟩
  have hr := Cert.Reference2Ideal.Value.run (F := Ideal) m' g'
  refine (θ_run _ _ _).mono (fun r h => ?_) hr
  intro c
  refine ⟨(h c).1.trans ?_, (h c).2.1.trans ?_, (h c).2.2⟩
  · obtain ⟨e0, e1, e2⟩ := hagree c
    rw [e0, e1, e2]
    funext y
    rw [← ix2_eta (n0 := 16384) (n1 := 19456) y]
    exact (Cert.Reference2Ideal.Vals.wide_at _ _ _ _ _).trans (Cert.Kernel2Ideal.Proj.wide_at m c _ (Fin.isLt _)).symm
  · obtain ⟨e0, e1, e2⟩ := hagree c
    rw [e0, e1, e2]
    funext y
    rw [← ix2_eta (n0 := 16384) (n1 := 128) y]
    exact (Cert.Reference2Ideal.Vals.side_at _ _ _ _ _).trans (Cert.Kernel2Ideal.Proj.side_at m c _ (Fin.isLt _)).symm

/-- The merging kernel and its reference agree. -/
theorem merge_agree : Cert.algebraic_Kernel3Ideal_Reference3Ideal := by
  intro m g m' g' _ hagree
  refine ⟨fun c => Cert.Rec.vec2 (R := 16384) (C := 2048) (Cert.Kernel3Ideal.Merge.out m c),
    (θ_run _ _ _).mono (fun r h c => ⟨h.1 c, h.2.1 c⟩)
      (θ_run_and (Cert.Kernel3Ideal.Merge.run_out m g) (Cert.Kernel3Ideal.Gen.frame m g)), ?_⟩
  have hr := Cert.Reference3Ideal.Value.run (F := Ideal) m' g'
  refine (θ_run _ _ _).mono (fun r h => ?_) hr
  intro c
  refine ⟨(h c).1.trans ?_, (h c).2⟩
  unfold Cert.Reference3Ideal.Value.res_main_v45
  obtain ⟨e0, e1, e2, e3, e4, e5, e6, e7, e8⟩ := hagree c
  rw [e0, e1, e2, e3, e4, e5, e6, e7, e8]
  refine Eq.trans ?_ (congrArg (Cert.Rec.vec2 (R := 16384) (C := 2048)) (Cert.Kernel3Ideal.Merge.out_eq m c).symm)
  funext y
  rw [← ix2_eta (n0 := 16384) (n1 := 2048) y]
  exact Cert.Reference3Ideal.Vals.result_at _ _ _ _ _ _ _ _ _ _ _

/-- The residual kernel and its reference agree. -/
theorem resid_agree : Cert.algebraic_Kernel4Ideal_Reference4Ideal := by
  intro m g m' g' _ hagree
  refine ⟨fun c => Cert.Rec.vec2 (R := 16384) (C := 2048) (Cert.Kernel4Ideal.Resid.out m c),
    (θ_run _ _ _).mono (fun r h c => ⟨h.1 c, h.2.1 c⟩)
      (θ_run_and (Cert.Kernel4Ideal.Resid.run_out m g) (Cert.Kernel4Ideal.Gen.frame m g)), ?_⟩
  have hr := Cert.Reference4Ideal.Value.run (F := Ideal) m' g'
  refine (θ_run _ _ _).mono (fun r h => ?_) hr
  intro c
  refine ⟨(h c).1.trans ?_, (h c).2⟩
  obtain ⟨e0, e1, e2, e3⟩ := hagree c
  rw [e0, e1, e2, e3]
  funext y
  rw [← ix2_eta (n0 := 16384) (n1 := 2048) y]
  exact (Cert.Reference4Ideal.Vals.result_at _ _ _ _ _ _).trans (Cert.Kernel4Ideal.Resid.out_at m c _ _).symm

/-- The first layer's residual kernel and its reference agree. -/
theorem first_resid_agree : Cert.algebraic_Kernel5Ideal_Reference5Ideal := by
  intro m g m' g' _ hagree
  refine ⟨fun c => Cert.Rec.vec2 (R := 16384) (C := 2048) (Cert.Kernel5Ideal.Resid.out m c),
    (θ_run _ _ _).mono (fun r h c => ⟨h.1 c, h.2.1 c⟩)
      (θ_run_and (Cert.Kernel5Ideal.Resid.run_out m g) (Cert.Kernel5Ideal.Gen.frame m g)), ?_⟩
  have hr := Cert.Reference5Ideal.Value.run (F := Ideal) m' g'
  refine (θ_run _ _ _).mono (fun r h => ?_) hr
  intro c
  refine ⟨(h c).1.trans ?_, (h c).2⟩
  obtain ⟨e0, e1, e2, e3⟩ := hagree c
  rw [e0, e1, e2]
  funext y
  rw [← ix2_eta (n0 := 16384) (n1 := 2048) y]
  exact (Cert.Reference5Ideal.Vals.result_at _ _ _ _ _).trans (Cert.Kernel5Ideal.Resid.out_at m c _ _).symm

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  fun m ρ _ => Cert.Kernel.Bits.frame m ρ,
  fun m ρ _ => Cert.KernelIdeal.Lru.frame m ρ,
  fun m ρ _ => (θ_run _ _ _).mono (fun r h => ⟨fun c => (h c).2, Idealize.ShloMosaic.sem_eq_zero_of_no_sems (by decide) r.2⟩) (ref_run m ρ),
  fun m ρ _ => Cert.Kernel2.Bits.frame m ρ,
  fun m ρ _ => Cert.Kernel2Ideal.Proj.frame m ρ,
  fun m ρ _ => (θ_run _ _ _).mono (fun r h => ⟨fun c => (h c).2.2, Idealize.ShloMosaic.sem_eq_zero_of_no_sems (by decide) r.2⟩) (Cert.Reference2Ideal.Value.run m ρ),
  fun m ρ _ => Cert.Kernel3.Gen.frame m ρ,
  fun m ρ _ => Cert.Kernel3Ideal.Gen.frame m ρ,
  fun m ρ _ => (θ_run _ _ _).mono (fun r h => ⟨fun c => (h c).2, Idealize.ShloMosaic.sem_eq_zero_of_no_sems (by decide) r.2⟩) (Cert.Reference3Ideal.Value.run m ρ),
  fun m ρ _ => Cert.Kernel4.Gen.frame m ρ,
  fun m ρ _ => Cert.Kernel4Ideal.Gen.frame m ρ,
  fun m ρ _ => (θ_run _ _ _).mono (fun r h => ⟨fun c => (h c).2, Idealize.ShloMosaic.sem_eq_zero_of_no_sems (by decide) r.2⟩) (Cert.Reference4Ideal.Value.run m ρ),
  fun m ρ _ => Cert.Kernel5.Gen.frame m ρ,
  fun m ρ _ => Cert.Kernel5Ideal.Gen.frame m ρ,
  fun m ρ _ => (θ_run _ _ _).mono (fun r h => ⟨fun c => (h c).2, Idealize.ShloMosaic.sem_eq_zero_of_no_sems (by decide) r.2⟩) (Cert.Reference5Ideal.Value.run m ρ),
  trivial, lru_agree, trivial, proj_agree, trivial, merge_agree, trivial, resid_agree, trivial, first_resid_agree⟩

end Cert.Proof

end
